-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)) (v4 : (c : Dev Cert.Kernel4Ideal.nD) → Buf (Elt Ideal) ((c.tc : Thread Cert.Kernel4Ideal.nD Cert.Kernel4Ideal.τ).loc Cert.Kernel4Ideal.main_v5_4)) (v5 : (c : Dev Cert.Kernel4Ideal.nD) → Buf (Elt Ideal) ((c.tc : Thread Cert.Kernel4Ideal.nD Cert.Kernel4Ideal.τ).loc Cert.Kernel4Ideal.main_v5_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_v5_4) = v4 c
          ∧ r.2.mem ((c.tc : Thread Cert.Kernel4Ideal.nD Cert.Kernel4Ideal.τ).loc Cert.Kernel4Ideal.main_v5_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_v76) = v1 c
          ∧ r.2.mem ((c.tc : Thread Cert.Reference4Ideal.nD Cert.Reference4Ideal.τ).loc Cert.Reference4Ideal.main_v80) = v2 c
          ∧ r.2.mem ((c.tc : Thread Cert.Reference4Ideal.nD Cert.Reference4Ideal.τ).loc Cert.Reference4Ideal.main_v81) = v3 c
          ∧ r.2.mem ((c.tc : Thread Cert.Reference4Ideal.nD Cert.Reference4Ideal.τ).loc Cert.Reference4Ideal.main_v82) = v4 c
          ∧ r.2.mem ((c.tc : Thread Cert.Reference4Ideal.nD Cert.Reference4Ideal.τ).loc Cert.Reference4Ideal.main_v83) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_1)) (v2 : (c : Dev Cert.Kernel5Ideal.nD) → Buf (Elt Ideal) ((c.tc : Thread Cert.Kernel5Ideal.nD Cert.Kernel5Ideal.τ).loc Cert.Kernel5Ideal.main_v14_2)) (v3 : (c : Dev Cert.Kernel5Ideal.nD) → Buf (Elt Ideal) ((c.tc : Thread Cert.Kernel5Ideal.nD Cert.Kernel5Ideal.τ).loc Cert.Kernel5Ideal.main_v14_3)) (v4 : (c : Dev Cert.Kernel5Ideal.nD) → Buf (Elt Ideal) ((c.tc : Thread Cert.Kernel5Ideal.nD Cert.Kernel5Ideal.τ).loc Cert.Kernel5Ideal.main_v14_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_1) = v1 c
          ∧ r.2.mem ((c.tc : Thread Cert.Kernel5Ideal.nD Cert.Kernel5Ideal.τ).loc Cert.Kernel5Ideal.main_v14_2) = v2 c
          ∧ r.2.mem ((c.tc : Thread Cert.Kernel5Ideal.nD Cert.Kernel5Ideal.τ).loc Cert.Kernel5Ideal.main_v14_3) = v3 c
          ∧ r.2.mem ((c.tc : Thread Cert.Kernel5Ideal.nD Cert.Kernel5Ideal.τ).loc Cert.Kernel5Ideal.main_v14_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_v76) = v1 c
          ∧ r.2.mem ((c.tc : Thread Cert.Reference5Ideal.nD Cert.Reference5Ideal.τ).loc Cert.Reference5Ideal.main_v77) = v2 c
          ∧ r.2.mem ((c.tc : Thread Cert.Reference5Ideal.nD Cert.Reference5Ideal.τ).loc Cert.Reference5Ideal.main_v78) = v3 c
          ∧ r.2.mem ((c.tc : Thread Cert.Reference5Ideal.nD Cert.Reference5Ideal.τ).loc Cert.Reference5Ideal.main_v79) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4x4096x4x2x64 : Shape := ⟨5, ![4, 4096, 4, 2, 64]⟩
abbrev S4x4096x4x128 : Shape := ⟨4, ![4, 4096, 4, 128]⟩
abbrev S128 : Shape := ⟨1, ![128]⟩
abbrev S64 : Shape := ⟨1, ![64]⟩
abbrev S_ : Shape := ⟨0, ![]⟩

class Facts : Prop where
  bcast_S_S4x4096x4x2x64 : S_.BroadcastsInDim S4x4096x4x2x64 (![] : Fin 0 → Fin S4x4096x4x2x64.rank)
  reducesTo_S4x4096x4x2x64_S_d0_1_2_3_4 : S4x4096x4x2x64.ReducesTo [0, 1, 2, 3, 4] S_
  h_S_ : 0 < S_.numel
  bcast_S_S4x4096x4x128 : S_.BroadcastsInDim S4x4096x4x128 (![] : Fin 0 → Fin S4x4096x4x128.rank)
  reducesTo_S4x4096x4x128_S_d0_1_2_3 : S4x4096x4x128.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x4096x4x2x64 .f32) (main_arg1 : FVec F S4x4096x4x128 .f32) (main_arg2 : FVec F S4x4096x4x128 .f32) (main_arg3 : FVec F S128 .f32) (main_arg4 : FVec F S64 .f32) (main_arg5 : FVec F S64 .f32) (main_arg6 : FVec F S64 .f32) (main_arg7 : FVec F S64 .f32) : IVec S_ 1 :=
  let main_v0 : FVec F S4x4096x4x2x64 .f32 := Host.absf main_arg0
  let main_cst : FVec F S_ .f32 := constant S_ .f32 0x7F800000#32
  let main_v1 : FVec F S4x4096x4x2x64 .f32 := broadcastInDim S4x4096x4x2x64 ![] bcast_S_S4x4096x4x2x64 main_cst
  let main_v2 : IVec S4x4096x4x2x64 1 := cmpf .olt main_v0 main_v1
  let main_c : IVec S_ 1 := constantI S_ 1 1#1
  let main_v3 : IVec S_ 1 := (fun x v => Host.reduce IntOp.andi x v reducesTo_S4x4096x4x2x64_S_d0_1_2_3_4 h_S_) main_v2 main_c
  let main_v4 : FVec F S4x4096x4x128 .f32 := Host.absf main_arg1
  let main_cst_0 : FVec F S_ .f32 := constant S_ .f32 0x7F800000#32
  let main_v5 : FVec F S4x4096x4x128 .f32 := broadcastInDim S4x4096x4x128 ![] bcast_S_S4x4096x4x128 main_cst_0
  let main_v6 : IVec S4x4096x4x128 1 := cmpf .olt main_v4 main_v5
  let main_c_1 : IVec S_ 1 := constantI S_ 1 1#1
  let main_v7 : IVec S_ 1 := (fun x v => Host.reduce IntOp.andi x v reducesTo_S4x4096x4x128_S_d0_1_2_3 h_S_) main_v6 main_c_1
  let main_v8 : IVec S_ 1 := andi main_v3 main_v7
  let main_v9 : FVec F S4x4096x4x128 .f32 := Host.absf main_arg2
  let main_cst_2 : FVec F S_ .f32 := constant S_ .f32 0x7F800000#32
  let main_v10 : FVec F S4x4096x4x128 .f32 := broadcastInDim S4x4096x4x128 ![] bcast_S_S4x4096x4x128 main_cst_2
  let main_v11 : IVec S4x4096x4x128 1 := cmpf .olt main_v9 main_v10
  let main_c_3 : IVec S_ 1 := constantI S_ 1 1#1
  let main_v12 : IVec S_ 1 := (fun x v => Host.reduce IntOp.andi x v reducesTo_S4x4096x4x128_S_d0_1_2_3 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Pre_in_range.lean ====
abbrev S40 : Shape := ⟨1, ![40]⟩
abbrev S1 : Shape := ⟨1, ![1]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S40 32) (main_arg1 : IVec S1 32) (main_arg2 : FVec F S40960x1024 .f32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 40#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S4x4096x4x2x64 : Shape := ⟨5, ![4, 4096, 4, 2, 64]⟩
abbrev S4x4096x4x128 : Shape := ⟨4, ![4, 4096, 4, 128]⟩
abbrev S128 : Shape := ⟨1, ![128]⟩
abbrev S64 : Shape := ⟨1, ![64]⟩
abbrev S1x64 : Shape := ⟨2, ![1, 64]⟩
abbrev S4x64 : Shape := ⟨2, ![4, 64]⟩
abbrev S16384x512 : Shape := ⟨2, ![16384, 512]⟩
abbrev S_ : Shape := ⟨0, ![]⟩
abbrev S32x512x512 : Shape := ⟨3, ![32, 512, 512]⟩
abbrev S128x1 : Shape := ⟨2, ![128, 1]⟩
abbrev S1 : Shape := ⟨1, ![1]⟩
abbrev S4 : Shape := ⟨1, ![4]⟩
abbrev S4x1 : Shape := ⟨2, ![4, 1]⟩
abbrev S4x4 : Shape := ⟨2, ![4, 4]⟩
abbrev S4x8 : Shape := ⟨2, ![4, 8]⟩
abbrev S4x8x1 : Shape := ⟨3, ![4, 8, 1]⟩
abbrev S1x8x1 : Shape := ⟨3, ![1, 8, 1]⟩
abbrev S1x128x512 : Shape := ⟨3, ![1, 128, 512]⟩
abbrev S4096x128 : Shape := ⟨2, ![4096, 128]⟩
abbrev S8x128x512 : Shape := ⟨3, ![8, 128, 512]⟩
abbrev S512x128 : Shape := ⟨2, ![512, 128]⟩
abbrev S2x1x512 : Shape := ⟨3, ![2, 1, 512]⟩
abbrev S2x128x512 : Shape := ⟨3, ![2, 128, 512]⟩
abbrev S128x512 : Shape := ⟨2, ![128, 512]⟩
abbrev S1x1x1 : Shape := ⟨3, ![1, 1, 1]⟩
abbrev S1x1 : Shape := ⟨2, ![1, 1]⟩
abbrev S256x512 : Shape := ⟨2, ![256, 512]⟩
abbrev S512x256 : Shape := ⟨2, ![512, 256]⟩
abbrev S1x512 : Shape := ⟨2, ![1, 512]⟩
abbrev S512x512 : Shape := ⟨2, ![512, 512]⟩
abbrev S1x1x512 : Shape := ⟨3, ![1, 1, 512]⟩
abbrev S512 : Shape := ⟨1, ![512]⟩
abbrev S1x1x64 : Shape := ⟨3, ![1, 1, 64]⟩

abbrev nBuf : Space → Nat
  | .hbm => 69
  | .vmem => 15
  | .smem => 0
  | _ => 0

abbrev bufTy : (tb : Table) → Fin (tcTables nBuf tb) → BufTy
  | .hbm, ⟨0, _⟩ => ⟨S4x4096x4x2x64, .f32⟩
  | .hbm, ⟨1, _⟩ => ⟨S4x4096x4x128, .f32⟩
  | .hbm, ⟨2, _⟩ => ⟨S4x4096x4x128, .f32⟩
  | .hbm, ⟨3, _⟩ => ⟨S128, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S4x64, .f32⟩
  | .hbm, ⟨13, _⟩ => ⟨S16384x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S32x512x512, .f32⟩
  | .hbm, ⟨23, _⟩ => ⟨S32x512x512, .f32⟩
  | .hbm, ⟨24, _⟩ => ⟨S32x512x512, .bf16⟩
  | .hbm, ⟨25, _⟩ => ⟨S16384x512, .f32⟩
  | .hbm, ⟨26, _⟩ => ⟨S16384x512, .bf16⟩
  | .hbm, ⟨27, _⟩ => ⟨S32x512x512, .f32⟩
  | .hbm, ⟨28, _⟩ => ⟨S32x512x512, .f32⟩
  | .hbm, ⟨29, _⟩ => ⟨S32x512x512, .bf16⟩
  | .hbm, ⟨30, _⟩ => ⟨S128x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S1, .f32⟩
  | .hbm, ⟨38, _⟩ => ⟨S1, .f32⟩
  | .hbm, ⟨39, _⟩ => ⟨S4, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S4, .bf16⟩
  | .hbm, ⟨47, _⟩ => ⟨S4, .f32⟩
  | .hbm, ⟨48, _⟩ => ⟨S4, .f32⟩
  | .hbm, ⟨49, _⟩ => ⟨S4, .bf16⟩
  | .hbm, ⟨50, _⟩ => ⟨S4, .f32⟩
  | .hbm, ⟨51, _⟩ => ⟨S4, .f32⟩
  | .hbm, ⟨52, _⟩ => ⟨S4, .bf16⟩
  | .hbm, ⟨53, _⟩ => ⟨S4, .f32⟩
  | .hbm, ⟨54, _⟩ => ⟨S4, .f32⟩
  | .hbm, ⟨55, _⟩ => ⟨S4, .bf16⟩
  | .hbm, ⟨56, _⟩ => ⟨S4, .f32⟩
  | .hbm, ⟨57, _⟩ => ⟨S4, .f32⟩
  | .hbm, ⟨58, _⟩ => ⟨S4x1, .f32⟩
  | .hbm, ⟨59, _⟩ => ⟨S4x1, .f32⟩
  | .hbm, ⟨60, _⟩ => ⟨S4x1, .f32⟩
  | .hbm, ⟨61, _⟩ => ⟨S4x1, .f32⟩
  | .hbm, ⟨62, _⟩ => ⟨S4x4, .f32⟩
  | .hbm, ⟨63, _⟩ => ⟨S_, .f32⟩
  | .hbm, ⟨64, _⟩ => ⟨S4x4, .f32⟩
  | .hbm, ⟨65, _⟩ => ⟨S4x4, .f32⟩
  | .hbm, ⟨66, _⟩ => ⟨S4x8, .f32⟩
  | .hbm, ⟨67, _⟩ => ⟨S4x8x1, .f32⟩
  | .hbm, ⟨68, _⟩ => ⟨S16384x512, .bf16⟩
  | .local _ .vmem, ⟨0, _⟩ => ⟨S4x64, .f32⟩
  | .local _ .vmem, ⟨1, _⟩ => ⟨S128x1, .f32⟩
  | .local _ .vmem, ⟨2, _⟩ => ⟨S1x8x1, .f32⟩
  | .local _ .vmem, ⟨3, _⟩ => ⟨S1x8x1, .f32⟩
  | .local _ .vmem, ⟨4, _⟩ => ⟨S1x128x512, .bf16⟩
  | .local _ .vmem, ⟨5, _⟩ => ⟨S1x128x512, .bf16⟩
  | .local _ .vmem, ⟨6, _⟩ => ⟨S4096x128, .bf16⟩
  | .local _ .vmem, ⟨7, _⟩ => ⟨S4096x128, .bf16⟩
  | .local _ .vmem, ⟨8, _⟩ => ⟨S8x128x512, .bf16⟩
  | .local _ .vmem, ⟨9, _⟩ => ⟨S8x128x512, .bf16⟩
  | .local _ .vmem, ⟨10, _⟩ => ⟨S512x128, .bf16⟩
  | .local _ .vmem, ⟨11, _⟩ => ⟨S512x128, .bf16⟩
  | .local _ .vmem, ⟨12, _⟩ => ⟨S2x1x512, .f32⟩
  | .local _ .vmem, ⟨13, _⟩ => ⟨S2x1x512, .f32⟩
  | .local _ .vmem, ⟨14, _⟩ => ⟨S2x128x512, .f32⟩
  | _, _ => ⟨S4x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_cst_3 : Ref sig .tc := ⟨.hbm, 32, rfl⟩
abbrev main_cst_4 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_58 : BitVec 32 := 0#32
  let arg2 : BitVec 32 := BitVec.ofNat 32 (i 2).val
  let v144 : BitVec 32 := Scalar.subi arg2 c0_i32_58
  let c1_i32_59 : BitVec 32 := 1#32
  let v146 : BitVec 32 := Scalar.divsi v144 c1_i32_59
  let v147 : BitVec 32 := Scalar.muli v146 c1_i32_59
  let v148 : BitVec 32 := Scalar.addi c0_i32_58 v147
  let c1_i32_60 : BitVec 32 := 1#32
  ⟨c0_i32_58, v148, c1_i32_60⟩
def k0_mult1 (i : grid0.Coords) (k0_t1 : Fin (k0_t1_loop i).trips) : BitVec 32 :=
  let c0_i32_58 : BitVec 32 := 0#32
  let c1_i32_60 : BitVec 32 := 1#32
  let arg13 : BitVec 32 := Scf.iv c0_i32_58 c1_i32_60 k0_t1
  let c512_i32_139 : BitVec 32 := 512#32
  let v301 : BitVec 32 := Scalar.muli arg13 c512_i32_139
  v301
def k0_off1 (i : grid0.Coords) (k0_t1 : Fin (k0_t1_loop i).trips) : Fin 2 → Nat :=
  let c0_i32_58 : BitVec 32 := 0#32
  let c1_i32_60 : BitVec 32 := 1#32
  let arg13 : BitVec 32 := Scf.iv c0_i32_58 c1_i32_60 k0_t1
  let c512_i32_139 : BitVec 32 := 512#32
  let v301 : BitVec 32 := Scalar.muli arg13 c512_i32_139
  let v302 : BitVec 32 := v301
  let v303 : Index := Scalar.indexCast v302
  let c0_140 : Index := 0#32
  ![v303.toNat, 0]
def k0_off2 (i : grid0.Coords) (k0_t1 : Fin (k0_t1_loop i).trips) : Fin 3 → Nat :=
  let c0_i32_58 : BitVec 32 := 0#32
  let c1_i32_60 : BitVec 32 := 1#32
  let arg13 : BitVec 32 := Scf.iv c0_i32_58 c1_i32_60 k0_t1
  let v307 : Index := Scalar.indexCast arg13
  let c0_141 : Index := 0#32
  let c0_142 : Index := 0#32
  ![v307.toNat, 0, 0]
@[reducible] def k0_t2_loop (i : grid0.Coords) : Scf.Loop 32 :=
  let c0_i32_58 : BitVec 32 := 0#32
  let arg2 : BitVec 32 := BitVec.ofNat 32 (i 2).val
  let v144 : BitVec 32 := Scalar.subi arg2 c0_i32_58
  let c1_i32_59 : BitVec 32 := 1#32
  let v146 : BitVec 32 := Scalar.divsi v144 c1_i32_59
  let v147 : BitVec 32 := Scalar.muli v146 c1_i32_59
  let v148 : BitVec 32 := Scalar.addi c0_i32_58 v147
  let v145 : BitVec 32 := Scalar.addi c0_i32_58 v144
  let c1_i32_61 : BitVec 32 := 1#32
  ⟨v148, v145, c1_i32_61⟩
def k0_mult2 (i : grid0.Coords) (k0_t2 : Fin (k0_t2_loop i).trips) : BitVec 32 :=
  let c0_i32_58 : BitVec 32 := 0#32
  let arg2 : BitVec 32 := BitVec.ofNat 32 (i 2).val
  let v144 : BitVec 32 := Scalar.subi arg2 c0_i32_58
  let c1_i32_59 : BitVec 32 := 1#32
  let v146 : BitVec 32 := Scalar.divsi v144 c1_i32_59
  let v147 : BitVec 32 := Scalar.muli v146 c1_i32_59
  let v148 : BitVec 32 := Scalar.addi c0_i32_58 v147
  let c1_i32_61 : BitVec 32 := 1#32
  let arg13 : BitVec 32 := Scf.iv v148 c1_i32_61 k0_t2
  let c512_i32_139 : BitVec 32 := 512#32
  let v301 : BitVec 32 := Scalar.muli arg13 c512_i32_139
  v301
def k0_off3 (i : grid0.Coords) (k0_t2 : Fin (k0_t2_loop i).trips) : Fin 2 → Nat :=
  let c0_i32_58 : BitVec 32 := 0#32
  let arg2 : BitVec 32 := BitVec.ofNat 32 (i 2).val
  let v144 : BitVec 32 := Scalar.subi arg2 c0_i32_58
  let c1_i32_59 : BitVec 32 := 1#32
  let v146 : BitVec 32 := Scalar.divsi v144 c1_i32_59
  let v147 : BitVec 32 := Scalar.muli v146 c1_i32_59
  let v148 : BitVec 32 := Scalar.addi c0_i32_58 v147
  let c1_i32_61 : BitVec 32 := 1#32
  let arg13 : BitVec 32 := Scf.iv v148 c1_i32_61 k0_t2
  let c512_i32_139 : BitVec 32 := 512#32
  let v301 : BitVec 32 := Scalar.muli arg13 c512_i32_139
  let v302 : BitVec 32 := v301
  let v303 : Index := Scalar.indexCast v302
  let c0_140 : Index := 0#32
  ![v303.toNat, 0]
def k0_off4 (i : grid0.Coords) (k0_t2 : Fin (k0_t2_loop i).trips) : Fin 3 → Nat :=
  let c0_i32_58 : BitVec 32 := 0#32
  let arg2 : BitVec 32 := BitVec.ofNat 32 (i 2).val
  let v144 : BitVec 32 := Scalar.subi arg2 c0_i32_58
  let c1_i32_59 : BitVec 32 := 1#32
  let v146 : BitVec 32 := Scalar.divsi v144 c1_i32_59
  let v147 : BitVec 32 := Scalar.muli v146 c1_i32_59
  let v148 : BitVec 32 := Scalar.addi c0_i32_58 v147
  let c1_i32_61 : BitVec 32 := 1#32
  let arg13 : BitVec 32 := Scf.iv v148 c1_i32_61 k0_t2
  let v307 : Index := Scalar.indexCast arg13
  let c0_141 : Index := 0#32
  let c0_142 : Index := 0#32
  ![v307.toNat, 0, 0]
def k0_mult3 (i : grid0.Coords) : BitVec 32 :=
  let arg2 : BitVec 32 := BitVec.ofNat 32 (i 2).val
  let c512_i32_62 : BitVec 32 := 512#32
  let v149 : BitVec 32 := Scalar.muli arg2 c512_i32_62
  v149
def k0_off5 (i : grid0.Coords) : Fin 2 → Nat :=
  let arg2 : BitVec 32 := BitVec.ofNat 32 (i 2).val
  let c512_i32_62 : BitVec 32 := 512#32
  let v149 : BitVec 32 := Scalar.muli arg2 c512_i32_62
  let v150 : BitVec 32 := v149
  let v151 : Index := Scalar.indexCast v150
  let c0_63 : Index := 0#32
  ![v151.toNat, 0]
def k0_off6 (i : grid0.Coords) : Fin 3 → Nat :=
  let arg2 : BitVec 32 := BitVec.ofNat 32 (i 2).val
  let v155 : Index := Scalar.indexCast arg2
  let c0_64 : Index := 0#32
  let c0_65 : Index := 0#32
  ![v155.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x4096x4x2x64 : Shape := ⟨5, ![4, 4096, 4, 2, 64]⟩
abbrev S4x4096x4x128 : Shape := ⟨4, ![4, 4096, 4, 128]⟩
abbrev S128 : Shape := ⟨1, ![128]⟩
abbrev S64 : Shape := ⟨1, ![64]⟩
abbrev S_ : Shape := ⟨0, ![]⟩
abbrev S4096 : Shape := ⟨1, ![4096]⟩
abbrev S2x4x4x4096x4096 : Shape := ⟨5, ![2, 4, 4, 4096, 4096]⟩
abbrev S4096x1 : Shape := ⟨2, ![4096, 1]⟩
abbrev S1x4096 : Shape := ⟨2, ![1, 4096]⟩
abbrev S4096x4096 : Shape := ⟨2, ![4096, 4096]⟩
abbrev S1 : Shape := ⟨1, ![1]⟩
abbrev S4 : Shape := ⟨1, ![4]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S1x1x4x4096x4096 : Shape := ⟨5, ![1, 1, 4, 4096, 4096]⟩
abbrev S2x4x4x4096 : Shape := ⟨4, ![2, 4, 4, 4096]⟩
abbrev S2x4x4x4096x1 : Shape := ⟨5, ![2, 4, 4, 4096, 1]⟩
abbrev S1x4x4x4096x4096 : Shape := ⟨5, ![1, 4, 4, 4096, 4096]⟩
abbrev S4x4x4096x4096 : Shape := ⟨4, ![4, 4, 4096, 4096]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S16384x512 : Shape := ⟨2, ![16384, 512]⟩

abbrev nBuf : Space → Nat
  | .hbm => 101
  | .vmem => 0
  | .smem => 0
  | _ => 0

abbrev bufTy : (tb : Table) → Fin (tcTables nBuf tb) → BufTy
  | .hbm, ⟨0, _⟩ => ⟨S4x4096x4x2x64, .f32⟩
  | .hbm, ⟨1, _⟩ => ⟨S4x4096x4x128, .f32⟩
  | .hbm, ⟨2, _⟩ => ⟨S4x4096x4x128, .f32⟩
  | .hbm, ⟨3, _⟩ => ⟨S128, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .i32⟩
  | .hbm, ⟨20, _⟩ => ⟨S4x4096x4x2x64, .f32⟩
  | .hbm, ⟨21, _⟩ => ⟨S2x4x4x4096x4096, .f32⟩
  | .hbm, ⟨22, _⟩ => ⟨S_, .f32⟩
  | .hbm, ⟨23, _⟩ => ⟨S2x4x4x4096x4096, .f32⟩
  | .hbm, ⟨24, _⟩ => ⟨S2x4x4x4096x4096, .f32⟩
  | .hbm, ⟨25, _⟩ => ⟨S4096x1, .i32⟩
  | .hbm, ⟨26, _⟩ => ⟨S1x4096, .i32⟩
  | .hbm, ⟨27, _⟩ => ⟨S4096x4096, .i32⟩
  | .hbm, ⟨28, _⟩ => ⟨S4096x4096, .i32⟩
  | .hbm, ⟨29, _⟩ => ⟨S4096x4096, .i32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .i1⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S1, .f32⟩
  | .hbm, ⟨41, _⟩ => ⟨S1, .f32⟩
  | .hbm, ⟨42, _⟩ => ⟨S4, .f32⟩
  | .hbm, ⟨43, _⟩ => ⟨S4x1x1, .f32⟩
  | .hbm, ⟨44, _⟩ => ⟨S4x1x1, .f32⟩
  | .hbm, ⟨45, _⟩ => ⟨S1x4096x4096, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S_, .f32⟩
  | .hbm, ⟨50, _⟩ => ⟨S_, .f32⟩
  | .hbm, ⟨51, _⟩ => ⟨S4x4096x4096, .i1⟩
  | .hbm, ⟨52, _⟩ => ⟨S4x4096x4096, .f32⟩
  | .hbm, ⟨53, _⟩ => ⟨S4x4096x4096, .f32⟩
  | .hbm, ⟨54, _⟩ => ⟨S1x1x4x4096x4096, .f32⟩
  | .hbm, ⟨55, _⟩ => ⟨S2x4x4x4096x4096, .f32⟩
  | .hbm, ⟨56, _⟩ => ⟨S2x4x4x4096x4096, .f32⟩
  | .hbm, ⟨57, _⟩ => ⟨S_, .f32⟩
  | .hbm, ⟨58, _⟩ => ⟨S2x4x4x4096, .f32⟩
  | .hbm, ⟨59, _⟩ => ⟨S_, .f32⟩
  | .hbm, ⟨60, _⟩ => ⟨S2x4x4x4096, .f32⟩
  | .hbm, ⟨61, _⟩ => ⟨S2x4x4x4096, .f32⟩
  | .hbm, ⟨62, _⟩ => ⟨S2x4x4x4096x1, .f32⟩
  | .hbm, ⟨63, _⟩ => ⟨S2x4x4x4096x4096, .f32⟩
  | .hbm, ⟨64, _⟩ => ⟨S2x4x4x4096x4096, .f32⟩
  | .hbm, ⟨65, _⟩ => ⟨S2x4x4x4096x4096, .f32⟩
  | .hbm, ⟨66, _⟩ => ⟨S_, .f32⟩
  | .hbm, ⟨67, _⟩ => ⟨S2x4x4x4096, .f32⟩
  | .hbm, ⟨68, _⟩ => ⟨S2x4x4x4096x1, .f32⟩
  | .hbm, ⟨69, _⟩ => ⟨S2x4x4x4096x4096, .f32⟩
  | .hbm, ⟨70, _⟩ => ⟨S2x4x4x4096x4096, .f32⟩
  | .hbm, ⟨71, _⟩ => ⟨S1x4x4x4096x4096, .f32⟩
  | .hbm, ⟨72, _⟩ => ⟨S4x4x4096x4096, .f32⟩
  | .hbm, ⟨73, _⟩ => ⟨S1x4x4x4096x4096, .f32⟩
  | .hbm, ⟨74, _⟩ => ⟨S4x4x4096x4096, .f32⟩
  | .hbm, ⟨75, _⟩ => ⟨S4x4x4096x4096, .f32⟩
  | .hbm, ⟨76, _⟩ => ⟨S4x4x4096x4096, .f32⟩
  | .hbm, ⟨77, _⟩ => ⟨S4x4x4096x4096, .f32⟩
  | .hbm, ⟨78, _⟩ => ⟨S4x4x128x4096, .f32⟩
  | .hbm, ⟨79, _⟩ => ⟨S4x4096x4x128, .f32⟩
  | .hbm, ⟨80, _⟩ => ⟨S4x4096x4x128, .f32⟩
  | .hbm, ⟨81, _⟩ => ⟨S_, .f32⟩
  | .hbm, ⟨82, _⟩ => ⟨S4x4096x4, .f32⟩
  | .hbm, ⟨83, _⟩ => ⟨S4x4096x4x1, .f32⟩
  | .hbm, ⟨84, _⟩ => ⟨S_, .f32⟩
  | .hbm, ⟨85, _⟩ => ⟨S4x4096x4x1, .f32⟩
  | .hbm, ⟨86, _⟩ => ⟨S4x4096x4x1, .f32⟩
  | .hbm, ⟨87, _⟩ => ⟨S_, .f32⟩
  | .hbm, ⟨88, _⟩ => ⟨S4x4096x4x1, .f32⟩
  | .hbm, ⟨89, _⟩ => ⟨S4x4096x4x1, .f32⟩
  | .hbm, ⟨90, _⟩ => ⟨S4x4096x4x1, .f32⟩
  | .hbm, ⟨91, _⟩ => ⟨S4x4096x4x128, .f32⟩
  | .hbm, ⟨92, _⟩ => ⟨S4x4096x4x128, .f32⟩
  | .hbm, ⟨93, _⟩ => ⟨S1x1x1x128, .f32⟩
  | .hbm, ⟨94, _⟩ => ⟨S4x4096x4x128, .f32⟩
  | .hbm, ⟨95, _⟩ => ⟨S4x4096x4x128, .f32⟩
  | .hbm, ⟨96, _⟩ => ⟨S_, .f32⟩
  | .hbm, ⟨97, _⟩ => ⟨S4x4096x4x128, .f32⟩
  | .hbm, ⟨98, _⟩ => ⟨S4x4096x4x128, .f32⟩
  | .hbm, ⟨99, _⟩ => ⟨S16384x512, .f32⟩
  | .hbm, ⟨100, _⟩ => ⟨S16384x512, .bf16⟩
  | _, _ => ⟨S4x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_cst_5 : Ref sig .tc := ⟨.hbm, 35, rfl⟩
abbrev main_cst_6 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩

abbrev nD : Nat := 1
abbrev τ : Topo := Topo.v7x

variable {F : FTy → Type} [FloatOps F]
-- ==== Kernel2.lean ====
abbrev S40 : Shape := ⟨1, ![40]⟩
abbrev S1 : Shape := ⟨1, ![1]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x896 : Shape := ⟨3, ![1, 1024, 896]⟩
abbrev S1x896x1024 : Shape := ⟨3, ![1, 896, 1024]⟩
abbrev S1024x896 : Shape := ⟨2, ![1024, 896]⟩
abbrev S896x1024 : Shape := ⟨2, ![896, 1024]⟩

abbrev nBuf : Space → Nat
  | .hbm => 8
  | .vmem => 12
  | .smem => 2
  | _ => 0

abbrev bufTy : (tb : Table) → Fin (tcTables nBuf tb) → BufTy
  | .hbm, ⟨0, _⟩ => ⟨S40960x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S40960x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x896, .bf16⟩
  | .local _ .vmem, ⟨3, _⟩ => ⟨S1x1024x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1x896x1024, .bf16⟩
  | .local _ .vmem, ⟨7, _⟩ => ⟨S1x896x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .smem, ⟨0, _⟩ => ⟨S40, .i32⟩
  | .local _ .smem, ⟨1, _⟩ => ⟨S1, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 4], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .sge arg0 v0
  let arg1 : BitVec 32 := BitVec.ofNat 32 (i 1).val
  let c3_i32 : BitVec 32 := 3#32
  let v2 : BitVec 1 := Scalar.cmpi .eq arg1 c3_i32
  let v3 : BitVec 1 := Scalar.andi v1 v2
  let v4 : BitVec 32 := Scalar.extui v3
  let c0_i32 : BitVec 32 := 0#32
  let v5 : BitVec 1 := Scalar.cmpi .ne v4 c0_i32
  v5

def k0_cond2 (i : grid0.Coords) (v6 : BitVec 32) : BitVec 1 :=
  let arg0 : BitVec 32 := BitVec.ofNat 32 (i 0).val
  let v7 : BitVec 1 := Scalar.cmpi .slt arg0 v6
  let v8 : BitVec 32 := Scalar.extui v7
  let c0_i32_1 : BitVec 32 := 0#32
  let v9 : BitVec 1 := Scalar.cmpi .ne v8 c0_i32_1
  v9

def k0_cond4 (i : grid0.Coords) : BitVec 1 :=
  let arg1 : BitVec 32 := BitVec.ofNat 32 (i 1).val
  let c3_i32_21 : BitVec 32 := 3#32
  let v32 : BitVec 1 := Scalar.cmpi .eq arg1 c3_i32_21
  let v33 : BitVec 32 := Scalar.extui v32
  let c0_i32_22 : BitVec 32 := 0#32
  let v34 : BitVec 1 := Scalar.cmpi .ne v33 c0_i32_22
  v34

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x896x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S40 : Shape := ⟨1, ![40]⟩
abbrev S1 : Shape := ⟨1, ![1]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S40x1024 : Shape := ⟨2, ![40, 1024]⟩
abbrev S40960 : Shape := ⟨1, ![40960]⟩
abbrev S8 : Shape := ⟨1, ![8]⟩
abbrev S8x1 : Shape := ⟨2, ![8, 1]⟩
abbrev S1x40960 : Shape := ⟨2, ![1, 40960]⟩
abbrev S8x40960 : Shape := ⟨2, ![8, 40960]⟩
abbrev S_ : Shape := ⟨0, ![]⟩
abbrev S8x3584x40960 : Shape := ⟨3, ![8, 3584, 40960]⟩
abbrev S8x40960x3584 : Shape := ⟨3, ![8, 40960, 3584]⟩
abbrev S8x40960x1024 : Shape := ⟨3, ![8, 40960, 1024]⟩
abbrev S8x40960x1 : Shape := ⟨3, ![8, 40960, 1]⟩

abbrev nBuf : Space → Nat
  | .hbm => 48
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S40960x1024, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S40x1024, .i32⟩
  | .hbm, ⟨7, _⟩ => ⟨S40960, .i32⟩
  | .hbm, ⟨8, _⟩ => ⟨S40, .i32⟩
  | .hbm, ⟨9, _⟩ => ⟨S40, .i32⟩
  | .hbm, ⟨10, _⟩ => ⟨S40, .i1⟩
  | .hbm, ⟨11, _⟩ => ⟨S40x1024, .i1⟩
  | .hbm, ⟨12, _⟩ => ⟨S40960, .i1⟩
  | .hbm, ⟨13, _⟩ => ⟨S8, .i32⟩
  | .hbm, ⟨14, _⟩ => ⟨S8x1, .i32⟩
  | .hbm, ⟨15, _⟩ => ⟨S1x40960, .i32⟩
  | .hbm, ⟨16, _⟩ => ⟨S8x40960, .i32⟩
  | .hbm, ⟨17, _⟩ => ⟨S8x40960, .i32⟩
  | .hbm, ⟨18, _⟩ => ⟨S8x40960, .i1⟩
  | .hbm, ⟨19, _⟩ => ⟨S1x40960, .i1⟩
  | .hbm, ⟨20, _⟩ => ⟨S8x40960, .i1⟩
  | .hbm, ⟨21, _⟩ => ⟨S8x40960, .i1⟩
  | .hbm, ⟨22, _⟩ => ⟨S_, .f32⟩
  | .hbm, ⟨23, _⟩ => ⟨S_, .f32⟩
  | .hbm, ⟨24, _⟩ => ⟨S8x40960, .f32⟩
  | .hbm, ⟨25, _⟩ => ⟨S8x40960, .f32⟩
  | .hbm, ⟨26, _⟩ => ⟨S8x40960, .f32⟩
  | .hbm, ⟨27, _⟩ => ⟨S8x3584x40960, .f32⟩
  | .hbm, ⟨28, _⟩ => ⟨S8x40960x3584, .f32⟩
  | .hbm, ⟨29, _⟩ => ⟨S8x3584x40960, .f32⟩
  | .hbm, ⟨30, _⟩ => ⟨S8x40960x3584, .f32⟩
  | .hbm, ⟨31, _⟩ => ⟨S8x40960x3584, .f32⟩
  | .hbm, ⟨32, _⟩ => ⟨S8x40960x3584, .f32⟩
  | .hbm, ⟨33, _⟩ => ⟨S_, .f32⟩
  | .hbm, ⟨34, _⟩ => ⟨S8x40960x3584, .f32⟩
  | .hbm, ⟨35, _⟩ => ⟨S8x40960x3584, .f32⟩
  | .hbm, ⟨36, _⟩ => ⟨S_, .f32⟩
  | .hbm, ⟨37, _⟩ => ⟨S8x40960x3584, .f32⟩
  | .hbm, ⟨38, _⟩ => ⟨S8x40960x3584, .f32⟩
  | .hbm, ⟨39, _⟩ => ⟨S8x40960x3584, .f32⟩
  | .hbm, ⟨40, _⟩ => ⟨S8x40960x3584, .f32⟩
  | .hbm, ⟨41, _⟩ => ⟨S8x40960x1024, .f32⟩
  | .hbm, ⟨42, _⟩ => ⟨S8x40960x1, .f32⟩
  | .hbm, ⟨43, _⟩ => ⟨S8x40960x1, .f32⟩
  | .hbm, ⟨44, _⟩ => ⟨S8x40960x1024, .f32⟩
  | .hbm, ⟨45, _⟩ => ⟨S8x40960x1024, .f32⟩
  | .hbm, ⟨46, _⟩ => ⟨S_, .f32⟩
  | .hbm, ⟨47, _⟩ => ⟨S40960x1024, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_1 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024x2816 : Shape := ⟨2, ![1024, 2816]⟩
abbrev S2816x1024 : Shape := ⟨2, ![2816, 1024]⟩
abbrev S_ : Shape := ⟨0, ![]⟩
abbrev S16 : Shape := ⟨1, ![16]⟩
abbrev S1 : Shape := ⟨1, ![1]⟩
abbrev S16384x1024 : Shape := ⟨2, ![16384, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1x1024x1408 : Shape := ⟨3, ![1, 1024, 1408]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 17
  | .vmem => 13
  | .smem => 2
  | _ => 0

abbrev bufTy : (tb : Table) → Fin (tcTables nBuf tb) → BufTy
  | .hbm, ⟨0, _⟩ => ⟨S4x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4x4096x1024, .f32⟩
  | .hbm, ⟨5, _⟩ => ⟨S_, .i32⟩
  | .hbm, ⟨6, _⟩ => ⟨S_, .i32⟩
  | .hbm, ⟨7, _⟩ => ⟨S16384x1024, .f32⟩
  | .hbm, ⟨8, _⟩ => ⟨S16384x1024, .bf16⟩
  | .hbm, ⟨9, _⟩ => ⟨S1024x2816, .bf16⟩
  | .hbm, ⟨10, _⟩ => ⟨S1x1024x2816, .bf16⟩
  | .hbm, ⟨11, _⟩ => ⟨S1024x2816, .bf16⟩
  | .hbm, ⟨12, _⟩ => ⟨S1x1024x2816, .bf16⟩
  | .hbm, ⟨13, _⟩ => ⟨S2816x1024, .bf16⟩
  | .hbm, ⟨14, _⟩ => ⟨S1x2816x1024, .bf16⟩
  | .hbm, ⟨15, _⟩ => ⟨S16384x1024, .f32⟩
  | .hbm, ⟨16, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .smem, ⟨0, _⟩ => ⟨S16, .i32⟩
  | .local _ .smem, ⟨1, _⟩ => ⟨S1, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .sge arg0 v0
  let arg1 : BitVec 32 := BitVec.ofNat 32 (i 1).val
  let c1_i32 : BitVec 32 := 1#32
  let v2 : BitVec 1 := Scalar.cmpi .eq arg1 c1_i32
  let v3 : BitVec 1 := Scalar.andi v1 v2
  let v4 : BitVec 32 := Scalar.extui v3
  let c0_i32 : BitVec 32 := 0#32
  let v5 : BitVec 1 := Scalar.cmpi .ne v4 c0_i32
  v5

def k0_cond2 (i : grid0.Coords) (v6 : BitVec 32) : BitVec 1 :=
  let arg0 : BitVec 32 := BitVec.ofNat 32 (i 0).val
  let v7 : BitVec 1 := Scalar.cmpi .slt arg0 v6
  let v8 : BitVec 32 := Scalar.extui v7
  let c0_i32_1 : BitVec 32 := 0#32
  let v9 : BitVec 1 := Scalar.cmpi .ne v8 c0_i32_1
  v9

def k0_cond4 (i : grid0.Coords) : BitVec 1 :=
  let arg1 : BitVec 32 := BitVec.ofNat 32 (i 1).val
  let c1_i32_21 : BitVec 32 := 1#32
  let v33 : BitVec 1 := Scalar.cmpi .eq arg1 c1_i32_21
  let v34 : BitVec 32 := Scalar.extui v33
  let c0_i32_22 : BitVec 32 := 0#32
  let v35 : BitVec 1 := Scalar.cmpi .ne v34 c0_i32_22
  v35

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S16.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S16.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S16.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S4x4096x1024 : Shape := ⟨3, ![4, 4096, 1024]⟩
abbrev S1024x2816 : Shape := ⟨2, ![1024, 2816]⟩
abbrev S2816x1024 : Shape := ⟨2, ![2816, 1024]⟩
abbrev S4x4096x2816 : Shape := ⟨3, ![4, 4096, 2816]⟩
abbrev S_ : Shape := ⟨0, ![]⟩
abbrev S16384x1024 : Shape := ⟨2, ![16384, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4x4096x1024, .f32⟩
  | .hbm, ⟨5, _⟩ => ⟨S4x4096x2816, .f32⟩
  | .hbm, ⟨6, _⟩ => ⟨S4x4096x2816, .f32⟩
  | .hbm, ⟨7, _⟩ => ⟨S4x4096x2816, .f32⟩
  | .hbm, ⟨8, _⟩ => ⟨S_, .f32⟩
  | .hbm, ⟨9, _⟩ => ⟨S4x4096x2816, .f32⟩
  | .hbm, ⟨10, _⟩ => ⟨S4x4096x2816, .f32⟩
  | .hbm, ⟨11, _⟩ => ⟨S_, .f32⟩
  | .hbm, ⟨12, _⟩ => ⟨S4x4096x2816, .f32⟩
  | .hbm, ⟨13, _⟩ => ⟨S4x4096x2816, .f32⟩
  | .hbm, ⟨14, _⟩ => ⟨S4x4096x2816, .f32⟩
  | .hbm, ⟨15, _⟩ => ⟨S4x4096x2816, .f32⟩
  | .hbm, ⟨16, _⟩ => ⟨S4x4096x2816, .f32⟩
  | .hbm, ⟨17, _⟩ => ⟨S4x4096x1024, .f32⟩
  | .hbm, ⟨18, _⟩ => ⟨S4x4096x1024, .f32⟩
  | .hbm, ⟨19, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S16384x1024 : Shape := ⟨2, ![16384, 1024]⟩
abbrev S1x1024 : Shape := ⟨2, ![1, 1024]⟩
abbrev S1x512 : Shape := ⟨2, ![1, 512]⟩
abbrev S128x4 : Shape := ⟨2, ![128, 4]⟩
abbrev S32x512x512 : Shape := ⟨3, ![32, 512, 512]⟩
abbrev S16384x512 : Shape := ⟨2, ![16384, 512]⟩
abbrev S512x1024 : Shape := ⟨2, ![512, 1024]⟩
abbrev S1x512x512 : Shape := ⟨3, ![1, 512, 512]⟩
abbrev S512x512 : Shape := ⟨2, ![512, 512]⟩
abbrev S512x1 : Shape := ⟨2, ![512, 1]⟩
abbrev S1024x512 : Shape := ⟨2, ![1024, 512]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 17
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2560, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S16384x1024, .f32⟩
  | .hbm, ⟨7, _⟩ => ⟨S1x1024, .f32⟩
  | .hbm, ⟨8, _⟩ => ⟨S1024x2560, .bf16⟩
  | .hbm, ⟨9, _⟩ => ⟨S1x512, .f32⟩
  | .hbm, ⟨10, _⟩ => ⟨S128x4, .f32⟩
  | .hbm, ⟨11, _⟩ => ⟨S32x512x512, .bf16⟩
  | .hbm, ⟨12, _⟩ => ⟨S16384x512, .f32⟩
  | .hbm, ⟨13, _⟩ => ⟨S16384x512, .bf16⟩
  | .hbm, ⟨14, _⟩ => ⟨S16384x512, .f32⟩
  | .hbm, ⟨15, _⟩ => ⟨S32x512x512, .bf16⟩
  | .hbm, ⟨16, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1x512, .f32⟩
  | .local _ .vmem, ⟨5, _⟩ => ⟨S4x128x128, .f32⟩
  | .local _ .vmem, ⟨6, _⟩ => ⟨S128x4, .f32⟩
  | .local _ .vmem, ⟨7, _⟩ => ⟨S1x512x512, .bf16⟩
  | .local _ .vmem, ⟨8, _⟩ => ⟨S1x512x512, .bf16⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S512x512, .f32⟩
  | .local _ .vmem, ⟨14, _⟩ => ⟨S512x512, .f32⟩
  | .local _ .vmem, ⟨15, _⟩ => ⟨S1x512x512, .bf16⟩
  | .local _ .vmem, ⟨16, _⟩ => ⟨S1x512x512, .bf16⟩
  | .local _ .vmem, ⟨17, _⟩ => ⟨S512x512, .bf16⟩
  | .local _ .vmem, ⟨18, _⟩ => ⟨S512x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S4x4096x1024 : Shape := ⟨3, ![4, 4096, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2560 : Shape := ⟨3, ![4, 4096, 2560]⟩
abbrev S4x4096x512 : Shape := ⟨3, ![4, 4096, 512]⟩
abbrev S1x1x512 : Shape := ⟨3, ![1, 1, 512]⟩
abbrev S4x32x128x4x128 : Shape := ⟨5, ![4, 32, 128, 4, 128]⟩
abbrev S128x128 : Shape := ⟨2, ![128, 128]⟩
abbrev S1x128x128 : Shape := ⟨3, ![1, 128, 128]⟩
abbrev S4x4x32x128x128 : Shape := ⟨5, ![4, 4, 32, 128, 128]⟩
abbrev S128x4 : Shape := ⟨2, ![128, 4]⟩
abbrev S1x1x128x4x1 : Shape := ⟨5, ![1, 1, 128, 4, 1]⟩
abbrev S16384x512 : Shape := ⟨2, ![16384, 512]⟩
abbrev S32x512x512 : Shape := ⟨3, ![32, 512, 512]⟩

abbrev nBuf : Space → Nat
  | .hbm => 117
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2560, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x2560, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S4x4096x512, .f32⟩
  | .hbm, ⟨30, _⟩ => ⟨S_, .f32⟩
  | .hbm, ⟨31, _⟩ => ⟨S4x4096x512, .f32⟩
  | .hbm, ⟨32, _⟩ => ⟨S4x4096x512, .f32⟩
  | .hbm, ⟨33, _⟩ => ⟨S4x4096x512, .f32⟩
  | .hbm, ⟨34, _⟩ => ⟨S_, .f32⟩
  | .hbm, ⟨35, _⟩ => ⟨S4x4096x512, .f32⟩
  | .hbm, ⟨36, _⟩ => ⟨S4x4096x512, .f32⟩
  | .hbm, ⟨37, _⟩ => ⟨S4x4096x512, .f32⟩
  | .hbm, ⟨38, _⟩ => ⟨S_, .f32⟩
  | .hbm, ⟨39, _⟩ => ⟨S4x4096x512, .f32⟩
  | .hbm, ⟨40, _⟩ => ⟨S4x4096x512, .f32⟩
  | .hbm, ⟨41, _⟩ => ⟨S_, .f32⟩
  | .hbm, ⟨42, _⟩ => ⟨S4x4096x512, .f32⟩
  | .hbm, ⟨43, _⟩ => ⟨S4x4096x512, .f32⟩
  | .hbm, ⟨44, _⟩ => ⟨S4x4096x512, .f32⟩
  | .hbm, ⟨45, _⟩ => ⟨S4x4096x512, .f32⟩
  | .hbm, ⟨46, _⟩ => ⟨S4x4096x512, .f32⟩
  | .hbm, ⟨47, _⟩ => ⟨S_, .f32⟩
  | .hbm, ⟨48, _⟩ => ⟨S4x4096x512, .f32⟩
  | .hbm, ⟨49, _⟩ => ⟨S4x4096x512, .f32⟩
  | .hbm, ⟨50, _⟩ => ⟨S4x4096x512, .f32⟩
  | .hbm, ⟨51, _⟩ => ⟨S_, .f32⟩
  | .hbm, ⟨52, _⟩ => ⟨S4x4096x512, .f32⟩
  | .hbm, ⟨53, _⟩ => ⟨S4x4096x512, .f32⟩
  | .hbm, ⟨54, _⟩ => ⟨S4x4096x512, .f32⟩
  | .hbm, ⟨55, _⟩ => ⟨S_, .f32⟩
  | .hbm, ⟨56, _⟩ => ⟨S4x4096x512, .f32⟩
  | .hbm, ⟨57, _⟩ => ⟨S4x4096x512, .f32⟩
  | .hbm, ⟨58, _⟩ => ⟨S_, .f32⟩
  | .hbm, ⟨59, _⟩ => ⟨S4x4096x512, .f32⟩
  | .hbm, ⟨60, _⟩ => ⟨S4x4096x512, .f32⟩
  | .hbm, ⟨61, _⟩ => ⟨S4x4096x512, .f32⟩
  | .hbm, ⟨62, _⟩ => ⟨S4x4096x512, .f32⟩
  | .hbm, ⟨63, _⟩ => ⟨S_, .f32⟩
  | .hbm, ⟨64, _⟩ => ⟨S4x4096, .f32⟩
  | .hbm, ⟨65, _⟩ => ⟨S4x4096x1, .f32⟩
  | .hbm, ⟨66, _⟩ => ⟨S_, .f32⟩
  | .hbm, ⟨67, _⟩ => ⟨S4x4096x1, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S4x4096x1, .f32⟩
  | .hbm, ⟨73, _⟩ => ⟨S4x4096x512, .f32⟩
  | .hbm, ⟨74, _⟩ => ⟨S4x4096x512, .f32⟩
  | .hbm, ⟨75, _⟩ => ⟨S1x1x512, .f32⟩
  | .hbm, ⟨76, _⟩ => ⟨S4x4096x512, .f32⟩
  | .hbm, ⟨77, _⟩ => ⟨S4x4096x512, .f32⟩
  | .hbm, ⟨78, _⟩ => ⟨S4x32x128x4x128, .f32⟩
  | .hbm, ⟨79, _⟩ => ⟨S_, .i1⟩
  | .hbm, ⟨80, _⟩ => ⟨S128x128, .i1⟩
  | .hbm, ⟨81, _⟩ => ⟨S128x128, .i32⟩
  | .hbm, ⟨82, _⟩ => ⟨S_, .i32⟩
  | .hbm, ⟨83, _⟩ => ⟨S128x128, .i32⟩
  | .hbm, ⟨84, _⟩ => ⟨S128x128, .i32⟩
  | .hbm, ⟨85, _⟩ => ⟨S128x128, .i32⟩
  | .hbm, ⟨86, _⟩ => ⟨S128x128, .i1⟩
  | .hbm, ⟨87, _⟩ => ⟨S_, .i1⟩
  | .hbm, ⟨88, _⟩ => ⟨S128x128, .i1⟩
  | .hbm, ⟨89, _⟩ => ⟨S128x128, .i1⟩
  | .hbm, ⟨90, _⟩ => ⟨S1x128x128, .i1⟩
  | .hbm, ⟨91, _⟩ => ⟨S_, .f32⟩
  | .hbm, ⟨92, _⟩ => ⟨S4x128x128, .i1⟩
  | .hbm, ⟨93, _⟩ => ⟨S4x128x128, .f32⟩
  | .hbm, ⟨94, _⟩ => ⟨S4x128x128, .f32⟩
  | .hbm, ⟨95, _⟩ => ⟨S4x4x32x128x128, .f32⟩
  | .hbm, ⟨96, _⟩ => ⟨S4x32x128x4x128, .f32⟩
  | .hbm, ⟨97, _⟩ => ⟨S128x4, .f32⟩
  | .hbm, ⟨98, _⟩ => ⟨S1x1x128x4x1, .f32⟩
  | .hbm, ⟨99, _⟩ => ⟨S4x32x128x4x128, .f32⟩
  | .hbm, ⟨100, _⟩ => ⟨S4x32x128x4x128, .f32⟩
  | .hbm, ⟨101, _⟩ => ⟨S4x4096x512, .f32⟩
  | .hbm, ⟨102, _⟩ => ⟨S4x4096x512, .f32⟩
  | .hbm, ⟨103, _⟩ => ⟨S16384x512, .f32⟩
  | .hbm, ⟨104, _⟩ => ⟨S_, .f32⟩
  | .hbm, ⟨105, _⟩ => ⟨S4x4096x512, .f32⟩
  | .hbm, ⟨106, _⟩ => ⟨S4x4096x512, .f32⟩
  | .hbm, ⟨107, _⟩ => ⟨S32x512x512, .f32⟩
  | .hbm, ⟨108, _⟩ => ⟨S32x512x512, .f32⟩
  | .hbm, ⟨109, _⟩ => ⟨S16384x512, .f32⟩
  | .hbm, ⟨110, _⟩ => ⟨S32x512x512, .f32⟩
  | .hbm, ⟨111, _⟩ => ⟨S32x512x512, .f32⟩
  | .hbm, ⟨112, _⟩ => ⟨S32x512x512, .bf16⟩
  | .hbm, ⟨113, _⟩ => ⟨S16384x512, .bf16⟩
  | .hbm, ⟨114, _⟩ => ⟨S16384x512, .f32⟩
  | .hbm, ⟨115, _⟩ => ⟨S32x512x512, .bf16⟩
  | .hbm, ⟨116, _⟩ => ⟨S16384x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c : Ref sig .tc := ⟨.hbm, 79, rfl⟩
abbrev main_v59 : Ref sig .tc := ⟨.hbm, 80, rfl⟩
abbrev main_call0_v0 : Ref sig .tc := ⟨.hbm, 81, rfl⟩
abbrev main_call0_c : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_c_0 : Ref sig .tc := ⟨.hbm, 87, rfl⟩
abbrev main_call0_v5 : Ref sig .tc := ⟨.hbm, 88, rfl⟩
abbrev main_v60 : Ref sig .tc := ⟨.hbm, 89, rfl⟩
abbrev main_v61 : Ref sig .tc := ⟨.hbm, 90, rfl⟩
abbrev main_cst_13 : Ref sig .tc := ⟨.hbm, 91, rfl⟩
abbrev main_call1_v0 : Ref sig .tc := ⟨.hbm, 92, rfl⟩
abbrev main_call1_v1 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]
-- ==== Kernel5.lean ====
abbrev S32x1x1024 : Shape := ⟨3, ![32, 1, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S4x1x1 : Shape := ⟨3, ![4, 1, 1]⟩
abbrev S4 : Shape := ⟨1, ![4]⟩
abbrev S1x512 : Shape := ⟨2, ![1, 512]⟩
abbrev S4x1 : Shape := ⟨2, ![4, 1]⟩
abbrev S32x1024 : Shape := ⟨2, ![32, 1024]⟩
abbrev S1x1024 : Shape := ⟨2, ![1, 1024]⟩
abbrev S32x512 : Shape := ⟨2, ![32, 512]⟩
abbrev S32 : Shape := ⟨1, ![32]⟩
abbrev S32x1 : Shape := ⟨2, ![32, 1]⟩
abbrev S1024x512 : Shape := ⟨2, ![1024, 512]⟩

abbrev nBuf : Space → Nat
  | .hbm => 25
  | .vmem => 11
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x2560, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S4x1x1, .f32⟩
  | .hbm, ⟨7, _⟩ => ⟨S4, .f32⟩
  | .hbm, ⟨8, _⟩ => ⟨S4x128, .f32⟩
  | .hbm, ⟨9, _⟩ => ⟨S512, .f32⟩
  | .hbm, ⟨10, _⟩ => ⟨S1x512, .f32⟩
  | .hbm, ⟨11, _⟩ => ⟨S4x1, .f32⟩
  | .hbm, ⟨12, _⟩ => ⟨S4, .f32⟩
  | .hbm, ⟨13, _⟩ => ⟨S4x128, .f32⟩
  | .hbm, ⟨14, _⟩ => ⟨S512, .f32⟩
  | .hbm, ⟨15, _⟩ => ⟨S1x512, .f32⟩
  | .hbm, ⟨16, _⟩ => ⟨S32x1024, .f32⟩
  | .hbm, ⟨17, _⟩ => ⟨S1x1024, .f32⟩
  | .hbm, ⟨18, _⟩ => ⟨S1024x2560, .bf16⟩
  | .hbm, ⟨19, _⟩ => ⟨S1x512, .f32⟩
  | .hbm, ⟨20, _⟩ => ⟨S32x512, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S32x512, .f32⟩
  | .local _ .vmem, ⟨0, _⟩ => ⟨S32x1024, .f32⟩
  | .local _ .vmem, ⟨1, _⟩ => ⟨S1x1024, .f32⟩
  | .local _ .vmem, ⟨2, _⟩ => ⟨S1024x2560, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S32x1x1024 : Shape := ⟨3, ![32, 1, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x2560 : Shape := ⟨3, ![32, 1, 2560]⟩
abbrev S32x1x512 : Shape := ⟨3, ![32, 1, 512]⟩
abbrev S1x1x512 : Shape := ⟨3, ![1, 1, 512]⟩
abbrev S32x1x1x4x128 : Shape := ⟨5, ![32, 1, 1, 4, 128]⟩
abbrev S1x1 : Shape := ⟨2, ![1, 1]⟩
abbrev S1x1x1 : Shape := ⟨3, ![1, 1, 1]⟩
abbrev S4x1x1 : Shape := ⟨3, ![4, 1, 1]⟩
abbrev S4x32x1x128x1 : Shape := ⟨5, ![4, 32, 1, 128, 1]⟩
abbrev S4x1 : Shape := ⟨2, ![4, 1]⟩
abbrev S1x4 : Shape := ⟨2, ![1, 4]⟩
abbrev S1x1x1x4x1 : Shape := ⟨5, ![1, 1, 1, 4, 1]⟩
abbrev S32x512 : Shape := ⟨2, ![32, 512]⟩

abbrev nBuf : Space → Nat
  | .hbm => 113
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x2560, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S32x1x1024, .f32⟩
  | .hbm, ⟨7, _⟩ => ⟨S_, .f32⟩
  | .hbm, ⟨8, _⟩ => ⟨S32x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S_, .f32⟩
  | .hbm, ⟨14, _⟩ => ⟨S32x1x1, .f32⟩
  | .hbm, ⟨15, _⟩ => ⟨S32x1x1, .f32⟩
  | .hbm, ⟨16, _⟩ => ⟨S32x1x1, .f32⟩
  | .hbm, ⟨17, _⟩ => ⟨S32x1x1024, .f32⟩
  | .hbm, ⟨18, _⟩ => ⟨S32x1x1024, .f32⟩
  | .hbm, ⟨19, _⟩ => ⟨S1x1x1024, .f32⟩
  | .hbm, ⟨20, _⟩ => ⟨S32x1x1024, .f32⟩
  | .hbm, ⟨21, _⟩ => ⟨S32x1x1024, .f32⟩
  | .hbm, ⟨22, _⟩ => ⟨S32x1x2560, .f32⟩
  | .hbm, ⟨23, _⟩ => ⟨S32x1x512, .f32⟩
  | .hbm, ⟨24, _⟩ => ⟨S32x1x512, .f32⟩
  | .hbm, ⟨25, _⟩ => ⟨S32x1x512, .f32⟩
  | .hbm, ⟨26, _⟩ => ⟨S32x1x512, .f32⟩
  | .hbm, ⟨27, _⟩ => ⟨S32x1x512, .f32⟩
  | .hbm, ⟨28, _⟩ => ⟨S32x1x512, .f32⟩
  | .hbm, ⟨29, _⟩ => ⟨S32x1x512, .f32⟩
  | .hbm, ⟨30, _⟩ => ⟨S_, .f32⟩
  | .hbm, ⟨31, _⟩ => ⟨S32x1x512, .f32⟩
  | .hbm, ⟨32, _⟩ => ⟨S32x1x512, .f32⟩
  | .hbm, ⟨33, _⟩ => ⟨S32x1x512, .f32⟩
  | .hbm, ⟨34, _⟩ => ⟨S_, .f32⟩
  | .hbm, ⟨35, _⟩ => ⟨S32x1x512, .f32⟩
  | .hbm, ⟨36, _⟩ => ⟨S32x1x512, .f32⟩
  | .hbm, ⟨37, _⟩ => ⟨S32x1x512, .f32⟩
  | .hbm, ⟨38, _⟩ => ⟨S_, .f32⟩
  | .hbm, ⟨39, _⟩ => ⟨S32x1x512, .f32⟩
  | .hbm, ⟨40, _⟩ => ⟨S32x1x512, .f32⟩
  | .hbm, ⟨41, _⟩ => ⟨S_, .f32⟩
  | .hbm, ⟨42, _⟩ => ⟨S32x1x512, .f32⟩
  | .hbm, ⟨43, _⟩ => ⟨S32x1x512, .f32⟩
  | .hbm, ⟨44, _⟩ => ⟨S32x1x512, .f32⟩
  | .hbm, ⟨45, _⟩ => ⟨S32x1x512, .f32⟩
  | .hbm, ⟨46, _⟩ => ⟨S32x1x512, .f32⟩
  | .hbm, ⟨47, _⟩ => ⟨S_, .f32⟩
  | .hbm, ⟨48, _⟩ => ⟨S32x1x512, .f32⟩
  | .hbm, ⟨49, _⟩ => ⟨S32x1x512, .f32⟩
  | .hbm, ⟨50, _⟩ => ⟨S32x1x512, .f32⟩
  | .hbm, ⟨51, _⟩ => ⟨S_, .f32⟩
  | .hbm, ⟨52, _⟩ => ⟨S32x1x512, .f32⟩
  | .hbm, ⟨53, _⟩ => ⟨S32x1x512, .f32⟩
  | .hbm, ⟨54, _⟩ => ⟨S32x1x512, .f32⟩
  | .hbm, ⟨55, _⟩ => ⟨S_, .f32⟩
  | .hbm, ⟨56, _⟩ => ⟨S32x1x512, .f32⟩
  | .hbm, ⟨57, _⟩ => ⟨S32x1x512, .f32⟩
  | .hbm, ⟨58, _⟩ => ⟨S_, .f32⟩
  | .hbm, ⟨59, _⟩ => ⟨S32x1x512, .f32⟩
  | .hbm, ⟨60, _⟩ => ⟨S32x1x512, .f32⟩
  | .hbm, ⟨61, _⟩ => ⟨S32x1x512, .f32⟩
  | .hbm, ⟨62, _⟩ => ⟨S32x1x512, .f32⟩
  | .hbm, ⟨63, _⟩ => ⟨S_, .f32⟩
  | .hbm, ⟨64, _⟩ => ⟨S32x1, .f32⟩
  | .hbm, ⟨65, _⟩ => ⟨S32x1x1, .f32⟩
  | .hbm, ⟨66, _⟩ => ⟨S_, .f32⟩
  | .hbm, ⟨67, _⟩ => ⟨S32x1x1, .f32⟩
  | .hbm, ⟨68, _⟩ => ⟨S32x1x1, .f32⟩
  | .hbm, ⟨69, _⟩ => ⟨S_, .f32⟩
  | .hbm, ⟨70, _⟩ => ⟨S32x1x1, .f32⟩
  | .hbm, ⟨71, _⟩ => ⟨S32x1x1, .f32⟩
  | .hbm, ⟨72, _⟩ => ⟨S32x1x1, .f32⟩
  | .hbm, ⟨73, _⟩ => ⟨S32x1x512, .f32⟩
  | .hbm, ⟨74, _⟩ => ⟨S32x1x512, .f32⟩
  | .hbm, ⟨75, _⟩ => ⟨S1x1x512, .f32⟩
  | .hbm, ⟨76, _⟩ => ⟨S32x1x512, .f32⟩
  | .hbm, ⟨77, _⟩ => ⟨S32x1x512, .f32⟩
  | .hbm, ⟨78, _⟩ => ⟨S32x1x1x4x128, .f32⟩
  | .hbm, ⟨79, _⟩ => ⟨S_, .i1⟩
  | .hbm, ⟨80, _⟩ => ⟨S1x1, .i1⟩
  | .hbm, ⟨81, _⟩ => ⟨S1x1, .i32⟩
  | .hbm, ⟨82, _⟩ => ⟨S_, .i32⟩
  | .hbm, ⟨83, _⟩ => ⟨S1x1, .i32⟩
  | .hbm, ⟨84, _⟩ => ⟨S1x1, .i32⟩
  | .hbm, ⟨85, _⟩ => ⟨S1x1, .i32⟩
  | .hbm, ⟨86, _⟩ => ⟨S1x1, .i1⟩
  | .hbm, ⟨87, _⟩ => ⟨S_, .i1⟩
  | .hbm, ⟨88, _⟩ => ⟨S1x1, .i1⟩
  | .hbm, ⟨89, _⟩ => ⟨S1x1, .i1⟩
  | .hbm, ⟨90, _⟩ => ⟨S1x1x1, .i1⟩
  | .hbm, ⟨91, _⟩ => ⟨S4x1x1, .f32⟩
  | .hbm, ⟨92, _⟩ => ⟨S_, .f32⟩
  | .hbm, ⟨93, _⟩ => ⟨S4x1x1, .i1⟩
  | .hbm, ⟨94, _⟩ => ⟨S4x1x1, .f32⟩
  | .hbm, ⟨95, _⟩ => ⟨S4x1x1, .f32⟩
  | .hbm, ⟨96, _⟩ => ⟨S4x32x1x128x1, .f32⟩
  | .hbm, ⟨97, _⟩ => ⟨S32x1x1x4x128, .f32⟩
  | .hbm, ⟨98, _⟩ => ⟨S4x1, .f32⟩
  | .hbm, ⟨99, _⟩ => ⟨S1x4, .f32⟩
  | .hbm, ⟨100, _⟩ => ⟨S1x1x1x4x1, .f32⟩
  | .hbm, ⟨101, _⟩ => ⟨S32x1x1x4x128, .f32⟩
  | .hbm, ⟨102, _⟩ => ⟨S32x1x1x4x128, .f32⟩
  | .hbm, ⟨103, _⟩ => ⟨S32x1x512, .f32⟩
  | .hbm, ⟨104, _⟩ => ⟨S32x1x512, .f32⟩
  | .hbm, ⟨105, _⟩ => ⟨S_, .f32⟩
  | .hbm, ⟨106, _⟩ => ⟨S32x1x512, .f32⟩
  | .hbm, ⟨107, _⟩ => ⟨S32x1x512, .f32⟩
  | .hbm, ⟨108, _⟩ => ⟨S32x512, .f32⟩
  | .hbm, ⟨109, _⟩ => ⟨S32x512, .f32⟩
  | .hbm, ⟨110, _⟩ => ⟨S32x512, .f32⟩
  | .hbm, ⟨111, _⟩ => ⟨S32x512, .f32⟩
  | .hbm, ⟨112, _⟩ => ⟨S32x512, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c : Ref sig .tc := ⟨.hbm, 79, rfl⟩
abbrev main_v59 : Ref sig .tc := ⟨.hbm, 80, rfl⟩
abbrev main_call0_v0 : Ref sig .tc := ⟨.hbm, 81, rfl⟩
abbrev main_call0_c : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_c_0 : Ref sig .tc := ⟨.hbm, 87, rfl⟩
abbrev main_call0_v5 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_call1_v0 : Ref sig .tc := ⟨.hbm, 93, rfl⟩
abbrev main_call1_v1 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]
-- ==== Kernel6.lean ====
abbrev S4x4096x512 : Shape := ⟨3, ![4, 4096, 512]⟩
abbrev S4x4096x1024 : Shape := ⟨3, ![4, 4096, 1024]⟩
abbrev S1024x1024 : Shape := ⟨2, ![1024, 1024]⟩
abbrev S1024 : Shape := ⟨1, ![1024]⟩
abbrev S16384x512 : Shape := ⟨2, ![16384, 512]⟩
abbrev S16384x1024 : Shape := ⟨2, ![16384, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .f32⟩
  | .hbm, ⟨3, _⟩ => ⟨S1024x1024, .f32⟩
  | .hbm, ⟨4, _⟩ => ⟨S1024, .f32⟩
  | .hbm, ⟨5, _⟩ => ⟨S16384x512, .f32⟩
  | .hbm, ⟨6, _⟩ => ⟨S16384x512, .bf16⟩
  | .hbm, ⟨7, _⟩ => ⟨S16384x512, .f32⟩
  | .hbm, ⟨8, _⟩ => ⟨S16384x512, .bf16⟩
  | .hbm, ⟨9, _⟩ => ⟨S16384x1024, .f32⟩
  | .hbm, ⟨10, _⟩ => ⟨S1024x1024, .bf16⟩
  | .hbm, ⟨11, _⟩ => ⟨S1x1024, .f32⟩
  | .hbm, ⟨12, _⟩ => ⟨S16384x1024, .f32⟩
  | .hbm, ⟨13, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S4x4096x512 : Shape := ⟨3, ![4, 4096, 512]⟩
abbrev S4x4096x1024 : Shape := ⟨3, ![4, 4096, 1024]⟩
abbrev S1024x1024 : Shape := ⟨2, ![1024, 1024]⟩
abbrev S1024 : Shape := ⟨1, ![1024]⟩
abbrev S16384x1024 : Shape := ⟨2, ![16384, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .f32⟩
  | .hbm, ⟨3, _⟩ => ⟨S1024x1024, .f32⟩
  | .hbm, ⟨4, _⟩ => ⟨S1024, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S16384x1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S16384x1024, .f32⟩
  | .hbm, ⟨26, _⟩ => ⟨S16384x1024, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Softmax.lean ====
/- The running softmax of one query over extended reals: what is kept after a block of keys is the sum of the weights and
the weighted sum of the values so far, both scaled by two to minus the largest score; and the softmax of a whole row. -/
module

public import Idealize.ShloMosaic.PureOps.Ideal.Laws

@[expose] public section

noncomputable section

namespace Cert.Softmax

open Idealize.ShloMosaic

/-- What is kept (`m` largest score, `l` sum of weights, `o` weighted sum of values) when the weights met so far sum to
    `L` and the values weighted by them to `O`. -/
def Kept (m l o : EReal) (L O : ℝ) : Prop :=
  (m = ⊥ ∧ l = 0 ∧ o = 0 ∧ L = 0 ∧ O = 0)
    ∨ ∃ M : ℝ, m = M ∧ l = (((2 : ℝ) ^ (-M) * L : ℝ) : EReal) ∧ o = (((2 : ℝ) ^ (-M) * O : ℝ) : EReal)

theorem kept_start : Kept ⊥ 0 0 0 0 := .inl ⟨rfl, rfl, rfl, rfl, rfl⟩

theorem coe_sum {ι : Type} [Fintype ι] (f : ι → ℝ) : ((∑ j, f j : ℝ) : EReal) = ∑ j, (f j : EReal) := by
  classical
  induction (Finset.univ : Finset ι) using Finset.induction_on with
  | empty => simp
  | insert a s ha ih => rw [Finset.sum_insert ha, Finset.sum_insert ha, EReal.coe_add, ih]

theorem fold_max_eq_sup {ι : Type} [Fintype ι] (f : ι → EReal) : Finset.univ.fold max ⊥ f = Finset.univ.sup f := by
  rfl

/-- The largest of the scores kept by a mask that keeps some is a number. -/
theorem sup_real {n : ℕ} (S : Fin n → EReal) (keep : Fin n → Prop) [DecidablePred keep] (s : Fin n → ℝ)
    (hS : ∀ j, S j = if keep j then (s j : EReal) else ⊥) (hk : ∃ j, keep j) : ∃ R : ℝ, Finset.univ.fold max ⊥ S = R := by
  obtain ⟨j₀, hj₀⟩ := hk
  obtain ⟨j, _, hj⟩ := Finset.exists_mem_eq_sup Finset.univ ⟨j₀, Finset.mem_univ _⟩ S
  rw [fold_max_eq_sup]
  by_cases h : keep j
  · exact ⟨s j, by rw [hj, hS, if_pos h]⟩
  · have h1 : S j₀ ≤ Finset.univ.sup S := Finset.le_sup (Finset.mem_univ _)
    rw [hj, hS j, if_neg h, hS j₀, if_pos hj₀] at h1
    exact absurd h1 (by simp)

/-- A block of `n` keys met: scores `S` (masked by `keep`), raised by `h`, values `v`. -/
theorem kept_step {n : ℕ} (S v : Fin n → EReal) (keep : Fin n → Prop) [DecidablePred keep] (s u : Fin n → ℝ) (h : ℝ)
    (hS : ∀ j, S j = if keep j then (s j : EReal) else ⊥) (hk : ∃ j, keep j) (hv : ∀ j, v j = (u j : EReal))
    (m l o m' : EReal) (L O : ℝ) (hK : Kept m l o L O)
    (hm' : m' = max m (Finset.univ.fold max ⊥ S + (h : EReal))) :
    Kept m' (Ideal.exp2 (m - m') * l + ∑ j, Ideal.exp2 (S j - (m' - (h : EReal))))
      (Ideal.exp2 (m - m') * o + ∑ j, v j * Ideal.exp2 (S j - (m' - (h : EReal))))
      (L + ∑ j, if keep j then (2 : ℝ) ^ (s j + h) else 0)
      (O + ∑ j, u j * if keep j then (2 : ℝ) ^ (s j + h) else 0) := by
  have two : (0 : ℝ) < 2 := by norm_num
  obtain ⟨R, hR⟩ := sup_real S keep s hS hk
  have hM : ∃ M' : ℝ, m' = M' := by
    rw [hm', hR, ← EReal.coe_add]
    rcases hK with ⟨rfl, _⟩ | ⟨M, rfl, _⟩
    · exact ⟨R + h, by simp⟩
    · exact ⟨max M (R + h), (EReal.coe_strictMono.monotone.map_max).symm⟩
  obtain ⟨M', hM'⟩ := hM
  have hp : ∀ j, Ideal.exp2 (S j - (m' - (h : EReal))) = (((2 : ℝ) ^ (-M') * if keep j then (2 : ℝ) ^ (s j + h) else 0 : ℝ) : EReal) := by
    intro j
    rw [hM', hS j]
    split
    · rw [← EReal.coe_sub, ← EReal.coe_sub, ← Real.rpow_add two]
      show ((Real.rpow 2 _ : ℝ) : EReal) = _
      congr 1
      rw [Real.rpow_eq_pow]
      congr 1
      ring
    · rw [← EReal.coe_sub, EReal.bot_sub, mul_zero]
      rfl
  have ha : ∀ (x : EReal) (X : ℝ), (m = ⊥ ∧ x = 0 ∧ X = 0 ∨ ∃ M : ℝ, m = M ∧ x = (((2 : ℝ) ^ (-M) * X : ℝ) : EReal)) →
      Ideal.exp2 (m - m') * x = (((2 : ℝ) ^ (-M') * X : ℝ) : EReal) := by
    rintro x X (⟨_, rfl, rfl⟩ | ⟨M, hm, rfl⟩)
    · simp
    · rw [hm, hM', ← EReal.coe_sub]
      show ((Real.rpow 2 _ : ℝ) : EReal) * _ = _
      rw [← EReal.coe_mul, ← mul_assoc]
      congr 2
      rw [Real.rpow_eq_pow, ← Real.rpow_add two]
      congr 1
      ring
  refine .inr ⟨M', hM', ?_, ?_⟩
  · rw [ha l L (by rcases hK with ⟨a, b, _, c, _⟩ | ⟨M, a, b, _⟩; exacts [.inl ⟨a, b, c⟩, .inr ⟨M, a, b⟩])]
    simp only [hp]
    rw [← coe_sum, ← EReal.coe_add, mul_add, Finset.mul_sum]
  · rw [ha o O (by rcases hK with ⟨a, _, b, _, c⟩ | ⟨M, a, _, b⟩; exacts [.inl ⟨a, b, c⟩, .inr ⟨M, a, b⟩])]
    simp only [hp, hv, ← EReal.coe_mul]
    rw [← coe_sum, ← EReal.coe_add, mul_add, Finset.mul_sum]
    congr 2
    exact Finset.sum_congr rfl fun j _ => by ring

/-- The kept value over the kept weight is the weighted mean. -/
theorem kept_quotient (m l o : EReal) (L O : ℝ) (hK : Kept m l o L O) (hL : 0 < L) :
    o * Ideal.div 1 l = ((O / L : ℝ) : EReal) := by
  rcases hK with ⟨_, _, _, h, _⟩ | ⟨M, _, rfl, rfl⟩
  · exact absurd h hL.ne'
  · have h2 : (0 : ℝ) < (2 : ℝ) ^ (-M) := Real.rpow_pos_of_pos (by norm_num) _
    have h3 : (2 : ℝ) ^ (-M) * L ≠ 0 := (mul_pos h2 hL).ne'
    unfold Ideal.div
    rw [if_neg (by exact_mod_cast h3), one_mul, ← EReal.coe_inv, ← EReal.coe_mul]
    congr 1
    field_simp

/-- The softmax of a masked row, the largest score taken off first. -/
theorem softmax_row {n : ℕ} (x : Fin n → EReal) (keep : Fin n → Prop) [DecidablePred keep] (r : Fin n → ℝ)
    (hx : ∀ j, x j = if keep j then (r j : EReal) else ⊥) (hk : ∃ j, keep j) (j : Fin n) :
    Ideal.div (Ideal.exp (x j - max ⊥ (Finset.univ.fold max ⊥ x))) (0 + ∑ k, Ideal.exp (x k - max ⊥ (Finset.univ.fold max ⊥ x)))
      = (((if keep j then Real.exp (r j) else 0) / ∑ k, (if keep k then Real.exp (r k) else 0) : ℝ) : EReal) := by
  obtain ⟨R, hR⟩ := sup_real x keep r hx hk
  have he : ∀ k, Ideal.exp (x k - max ⊥ (Finset.univ.fold max ⊥ x)) = ((Real.exp (-R) * (if keep k then Real.exp (r k) else 0) : ℝ) : EReal) := by
    intro k
    rw [hR, hx k, max_eq_right bot_le]
    split
    · rw [← EReal.coe_sub, ← Real.exp_add]
      show ((Real.exp _ : ℝ) : EReal) = _
      congr 2
      ring
    · rw [EReal.bot_sub, mul_zero]
      rfl
  have hpos : 0 < ∑ k, (if keep k then Real.exp (r k) else 0) := by
    obtain ⟨k, hk⟩ := hk
    refine Finset.sum_pos' (fun i _ => by split <;> positivity) ⟨k, Finset.mem_univ _, by rw [if_pos hk]; positivity⟩
  simp only [he]
  rw [zero_add, ← coe_sum, ← Finset.mul_sum]
  have h3 : Real.exp (-R) * ∑ k, (if keep k then Real.exp (r k) else 0) ≠ 0 := (mul_pos (Real.exp_pos _) hpos).ne'
  unfold Ideal.div
  rw [if_neg (by exact_mod_cast h3), ← EReal.coe_inv, ← EReal.coe_mul]
  congr 1
  have := Real.exp_pos (-R)
  field_simp

end Cert.Softmax

end
-- ==== Proof.Meaning.lean ====
/- What both programs compute, over the reals: a query's mean of the values, weighted by the exponential of its scores
against the keys up to its own; the difference of two such means; and the norm that follows. -/
module

public import Idealize.ShloMosaic.PureOps.Ideal.Laws
public import Mathlib.Analysis.SpecialFunctions.Pow.Real

@[expose] public section

noncomputable section

namespace Cert.Attention

open Idealize.ShloMosaic

/-- A head's slope. -/
def slope (h : ℕ) : ℝ := (1 / 4 : ℝ) ^ (h + 1)

/-- One over the natural logarithm of two. -/
def invLn2 : ℝ := (Real.log 2)⁻¹

theorem quarter : Ideal.ofBits .f32 0x3E800000#32 = ((slope 0 : ℝ) : EReal) := by
  simp [Ideal.ofBits, Ideal.ieee, slope]; rw [← EReal.coe_mul]; norm_num
theorem sixteenth : Ideal.ofBits .f32 0x3D800000#32 = ((slope 1 : ℝ) : EReal) := by
  simp [Ideal.ofBits, Ideal.ieee, slope]; rw [← EReal.coe_mul]; norm_num
theorem sixtyFourth : Ideal.ofBits .f32 0x3C800000#32 = ((slope 2 : ℝ) : EReal) := by
  simp [Ideal.ofBits, Ideal.ieee, slope]; rw [← EReal.coe_mul]; norm_num
theorem two56th : Ideal.ofBits .f32 0x3B800000#32 = ((slope 3 : ℝ) : EReal) := by
  simp [Ideal.ofBits, Ideal.ieee, slope]; rw [← EReal.coe_mul]; norm_num
theorem eighth : Ideal.ofBits .f32 0x3E000000#32 = ((1 / 8 : ℝ) : EReal) := by
  simp [Ideal.ofBits, Ideal.ieee]; rw [← EReal.coe_mul]; norm_num
theorem two : Ideal.ofBits .f32 0x40000000#32 = ((2 : ℝ) : EReal) := by
  simp [Ideal.ofBits, Ideal.ieee]; rw [← EReal.coe_mul]; norm_num
theorem sixteen : Ideal.ofBits .f32 0x41800000#32 = ((16 : ℝ) : EReal) := by
  simp [Ideal.ofBits, Ideal.ieee]; rw [← EReal.coe_mul]; norm_num

/-- The word both programs add to the difference of exponentials. -/
def lamInit : ℝ := 13421773 / 67108864

theorem lamInit_word : Ideal.ofBits .f32 0x3E4CCCCD#32 = ((lamInit : ℝ) : EReal) := by
  simp [Ideal.ofBits, Ideal.ieee, lamInit]; rw [← EReal.coe_mul]; norm_num

/-- The weight of the second mean, from the four rows of its parameters. -/
def lam (a b c d : Fin 64 → ℝ) : ℝ := Real.exp (∑ k, a k * b k) - Real.exp (∑ k, c k * d k) + lamInit

/-- The mean of the values `u` over the keys up to `n`, weighted by the exponentials of the scores `s`. -/
def mean (s u : ℕ → ℝ) (n : ℕ) : ℝ :=
  (∑ k ∈ Finset.range (n + 1), u k * Real.exp (s k)) / ∑ k ∈ Finset.range (n + 1), Real.exp (s k)

/-- Weights that differ from the exponentials by a common factor give the same mean. -/
theorem mean_of_factor (s u w : ℕ → ℝ) (n : ℕ) (f : ℝ) (hf : f ≠ 0) (hw : ∀ k, w k = f * Real.exp (s k)) :
    (∑ k ∈ Finset.range (n + 1), u k * w k) / (∑ k ∈ Finset.range (n + 1), w k) = mean s u n := by
  unfold mean
  rw [← mul_div_mul_left _ (∑ k ∈ Finset.range (n + 1), Real.exp (s k)) hf, Finset.mul_sum, Finset.mul_sum]
  simp only [hw]
  congr 1
  exact Finset.sum_congr rfl fun k _ => by ring

/-- Two to a power, as the exponential of the power over `invLn2`. -/
theorem two_rpow (x : ℝ) : (2 : ℝ) ^ (x * invLn2) = Real.exp x := by
  rw [Real.rpow_def_of_pos (by norm_num), invLn2]
  congr 1
  have : Real.log 2 ≠ 0 := Real.log_ne_zero_of_pos_of_ne_one (by norm_num) (by norm_num)
  field_simp

/-- The norm of a row over its 128 entries, with its gains and the last factor. -/
def normed (A : Fin 128 → EReal) (g : EReal) (e : Fin 128) : EReal :=
  A e * Ideal.rsqrt (Ideal.div (∑ k, A k * A k) (Ideal.ofBits .f32 0x43000000#32) + Ideal.ofBits .f32 0x358637BD#32) * g
    * Ideal.ofBits .f32 0x3F4CCCCD#32

/-- The score of a query at `n` against a key at `k`: their product over eight, and the slope times their distance. -/
def score (Q : Fin 64 → ℝ) (K : ℕ → Fin 64 → ℝ) (h n k : ℕ) : ℝ :=
  (∑ d, Q d * K k d) / 8 - slope h * ((n : ℝ) - (k : ℝ))

end Cert.Attention

end
-- ==== Proof.RefValue.lean ====
/- The reference's result at an index, over the reals: the difference of two weighted means, normed. -/
module

public import proofs.«01_k».proof.Proof.Gen.ReferenceIdeal.Read
public import proofs.«01_k».proof.Proof.Softmax
public import proofs.«01_k».proof.Proof.Meaning
public import Idealize.ShloMosaic.Lib.Pointwise
public import Idealize.ShloMosaic.Lib.WordCmp

@[expose] public section

noncomputable section

namespace Cert.ReferenceIdeal.Attn

open Idealize.ShloMosaic Idealize.ShloMosaic.TcCoe Idealize.ShloMosaic.Pointwise Idealize.ShloMosaic.Tactic
open Cert.ReferenceIdeal Cert.ReferenceIdeal.Gen Cert.ReferenceIdeal.Read Cert.Softmax Cert.Attention

theorem bottom : Ideal.ofBits .f32 0xFF800000#32 = (⊥ : EReal) := by simp [Ideal.ofBits, Ideal.ieee]

/-- A sum over all keys with nothing after the query's own is the sum over the keys up to it. -/
theorem sum_upto (n : Fin 4096) (f : ℕ → ℝ) : (∑ k : Fin 4096, if k.val ≤ n.val then f k.val else 0) = ∑ k ∈ Finset.range (n.val + 1), f k := by
  rw [← Finset.sum_range (fun k => if k ≤ n.val then f k else 0), ← Finset.sum_filter]
  refine Finset.sum_congr ?_ fun _ _ => rfl
  ext k
  simp only [Finset.mem_filter, Finset.mem_range]
  omega

theorem products1 (x y : (⟨S64, .f32⟩ : BufTy).Contents (Elt Ideal)) (i : S_.Idx) :
    val_main_v1 x y i = ∑ d : Fin 64, x (ix1 d) * y (ix1 d) := by
  rw [show i = ix0 from funext fun a => a.elim0]
  unfold val_main_v1 val_main_v0 val_main_cst
  pointwise

theorem products2 (x y : (⟨S64, .f32⟩ : BufTy).Contents (Elt Ideal)) (i : S_.Idx) :
    val_main_v4 x y i = ∑ d : Fin 64, x (ix1 d) * y (ix1 d) := by
  rw [show i = ix0 from funext fun a => a.elim0]
  unfold val_main_v4 val_main_v3 val_main_cst_0
  pointwise

theorem dots_apply (x0 : (⟨S4x4096x4x2x64, .f32⟩ : BufTy).Contents (Elt Ideal)) (x1 : (⟨S4x4096x4x128, .f32⟩ : BufTy).Contents (Elt Ideal))
    (c : Fin 2) (b h : Fin 4) (n k : Fin 4096) :
    val_main_v12 x0 x1 (ix5 c b h n k) = (∑ d : Fin 64, x0 (ix5 b n h c d) * x1 (ix4 b k h ⟨64 * c.val + d.val, by omega⟩)) * Ideal.ofBits .f32 0x3E000000#32 := by
  unfold val_main_v12 val_main_v10 val_main_v11 val_main_v9 val_main_cst_2
  pointwise
  congr 1
  refine Finset.sum_congr rfl fun d _ => ?_
  congr 2
  simp only [mul_comm]

/-- The distance of two positions, as the words hold it. -/
theorem distances (n k : Fin 4096) :
    val_main_v18 (F := Ideal) (ix2 n k) = (((n.val : ℝ) - (k.val : ℝ) : ℝ) : EReal) := by
  unfold val_main_v18 val_main_v17 val_main_v16 val_main_v15 val_main_v14 val_main_v13 val_main_v8
  pointwise
  show ((BitVec.toInt (BitVec.ofNat 32 n.val - BitVec.ofNat 32 k.val) : ℝ) : EReal) = _
  have hn := n.isLt
  have hk := k.isLt
  have h : BitVec.toInt (BitVec.ofNat 32 n.val - BitVec.ofNat 32 k.val) = (n.val : ℤ) - (k.val : ℤ) := by
    rw [BitVec.toInt_eq_toNat_bmod, BitVec.toNat_sub, BitVec.toNat_ofNat, BitVec.toNat_ofNat]
    simp only [Int.bmod_def]
    omega
  rw [h]
  push_cast
  rfl

theorem slopes_apply (h : Fin 4) : val_main_v25 (F := Ideal) (ix1 h) = ((slope h.val : ℝ) : EReal) := by
  unfold val_main_v25 val_main_v24 val_main_v23 val_main_v22 val_main_v21 val_main_cst_4 val_main_cst_5 val_main_cst_6 val_main_cst_7
  pointwise
  rw [quarter, sixteenth, sixtyFourth, two56th]
  fin_cases h <;> rfl

theorem bias_apply (c : Fin 2) (b h : Fin 4) (n k : Fin 4096) :
    val_main_v34 (F := Ideal) (ix5 c b h n k) = if k.val ≤ n.val then ((-slope h.val * ((n.val : ℝ) - (k.val : ℝ)) : ℝ) : EReal) else ⊥ := by
  have hd := distances n k
  have hs := slopes_apply h
  unfold val_main_v34 val_main_v33 val_main_v32 val_main_v31 val_main_v30 val_main_v29 val_main_v28 val_main_v27 val_main_v26
    val_main_call0_v2 val_main_call0_v1 val_main_call0_v0 val_main_v20 val_main_v19 val_main_cst_3 val_main_cst_8
  generalize val_main_v25 (F := Ideal) = S at *
  generalize val_main_v18 (F := Ideal) = D at *
  pointwise
  rw [hd, hs, ← EReal.coe_neg, ← EReal.coe_mul]
  have h : (0 : EReal) ≤ (((n.val : ℝ) - (k.val : ℝ) : ℝ) : EReal) ↔ k.val ≤ n.val := by
    rw [← EReal.coe_zero, EReal.coe_le_coe_iff, sub_nonneg, Nat.cast_le]
  simp only [h]
  rw [show (id (constant S_ .f32 0xFF800000#32) ix0 : Ideal .f32) = ⊥ from bottom]

theorem max_apply (x0 : (⟨S4x4096x4x2x64, .f32⟩ : BufTy).Contents (Elt Ideal)) (x1 : (⟨S4x4096x4x128, .f32⟩ : BufTy).Contents (Elt Ideal))
    (c : Fin 2) (b h : Fin 4) (n : Fin 4096) :
    val_main_v36 x0 x1 (ix4 c b h n) = Finset.univ.fold max ⊥ fun k => val_main_v35 x0 x1 (ix5 c b h n k) := by
  unfold val_main_v36
  generalize val_main_v35 x0 x1 = s
  have hr : S2x4x4x4096x4096.Reduces [4] S2x4x4x4096 := by decide
  refine (Host.reduce_eq_fold_single (α := Ideal .f32) FloatOps.maximumf s (val_main_cst_9 (F := Ideal)) reducesTo_S2x4x4x4096x4096_S2x4x4x4096_d4 hr h_S_ (ix4 c b h n)).trans ?_
  rw [val_main_cst_9_apply, show (FloatOps.ofBits .f32 0xFF800000#32 : Ideal .f32) = ⊥ from bottom]
  have hf : (s ∘ hr.lift (ix4 c b h n)) = fun k : Fin 4096 => s (ix5 c b h n k) := funext fun k => congrArg s (funext fun a => Fin.ext (by
    match a with
    | ⟨0, _⟩ => rfl
    | ⟨1, _⟩ => rfl
    | ⟨2, _⟩ => rfl
    | ⟨3, _⟩ => rfl
    | ⟨4, _⟩ => rfl))
  exact congrArg (fun f => Finset.fold max (⊥ : EReal) f (Finset.univ : Finset (Fin 4096))) hf

theorem exps_apply (x0 : (⟨S4x4096x4x2x64, .f32⟩ : BufTy).Contents (Elt Ideal)) (x1 : (⟨S4x4096x4x128, .f32⟩ : BufTy).Contents (Elt Ideal))
    (c : Fin 2) (b h : Fin 4) (n k : Fin 4096) :
    val_main_v42 x0 x1 (ix5 c b h n k) = Ideal.exp (val_main_v35 x0 x1 (ix5 c b h n k) - max (Ideal.ofBits .f32 0xFF800000#32) (val_main_v36 x0 x1 (ix4 c b h n))) := by
  have hi : idx_main_v39 (idx_main_v40 (ix5 c b h n k)) = ix4 c b h n := funext fun a => match a with
    | ⟨0, _⟩ => rfl
    | ⟨1, _⟩ => rfl
    | ⟨2, _⟩ => rfl
    | ⟨3, _⟩ => rfl
  rw [val_main_v42_apply, val_main_v41_apply, val_main_v40_apply, val_main_v39_apply, val_main_v38_apply, val_main_v37_apply, val_main_cst_10_apply, hi]
  generalize val_main_v35 x0 x1 (ix5 c b h n k) = s
  generalize val_main_v36 x0 x1 (ix4 c b h n) = t
  rfl

theorem total_apply (x0 : (⟨S4x4096x4x2x64, .f32⟩ : BufTy).Contents (Elt Ideal)) (x1 : (⟨S4x4096x4x128, .f32⟩ : BufTy).Contents (Elt Ideal))
    (c : Fin 2) (b h : Fin 4) (n : Fin 4096) :
    val_main_v43 x0 x1 (ix4 c b h n) = 0 + ∑ k, val_main_v42 x0 x1 (ix5 c b h n k) := by
  rw [val_main_v43_apply, val_main_cst_11_apply]
  generalize val_main_v42 x0 x1 = s
  rw [show (FloatOps.ofBits .f32 0x00000000#32 : Ideal .f32) = 0 from Ideal.ofBits_zero_f32]
  congr 1
  refine Finset.sum_congr rfl fun k _ => congrArg s (funext fun a => ?_)
  match a with
  | ⟨0, _⟩ => rfl
  | ⟨1, _⟩ => rfl
  | ⟨2, _⟩ => rfl
  | ⟨3, _⟩ => rfl
  | ⟨4, _⟩ => rfl

theorem weights_apply (x0 : (⟨S4x4096x4x2x64, .f32⟩ : BufTy).Contents (Elt Ideal)) (x1 : (⟨S4x4096x4x128, .f32⟩ : BufTy).Contents (Elt Ideal))
    (c : Fin 2) (b h : Fin 4) (n k : Fin 4096) :
    val_main_v46 x0 x1 (ix5 c b h n k) = Ideal.div (val_main_v42 x0 x1 (ix5 c b h n k)) (val_main_v43 x0 x1 (ix4 c b h n)) := by
  unfold val_main_v46 val_main_v45 val_main_v44
  generalize val_main_v42 x0 x1 = s
  generalize val_main_v43 x0 x1 = t
  pointwise

/-- The arguments are real numbers: `X` the queries, `Y` the keys, `Z` the values, `w` the four rows of the means' weights. -/
structure Reals (x0 : (⟨S4x4096x4x2x64, .f32⟩ : BufTy).Contents (Elt Ideal)) (x1 x2 : (⟨S4x4096x4x128, .f32⟩ : BufTy).Contents (Elt Ideal))
    (x4 x5 x6 x7 : (⟨S64, .f32⟩ : BufTy).Contents (Elt Ideal)) (X : ℕ → ℕ → ℕ → Fin 2 → Fin 64 → ℝ) (Y : ℕ → ℕ → Fin 2 → ℕ → Fin 64 → ℝ)
    (Z : ℕ → ℕ → Fin 128 → ℕ → ℝ) (w : Fin 4 → Fin 64 → ℝ) : Prop where
  query : ∀ (b : Fin 4) (n : Fin 4096) (h : Fin 4) (c : Fin 2) (d : Fin 64), x0 (ix5 b n h c d) = (X b.val n.val h.val c d : EReal)
  key : ∀ (b : Fin 4) (k : Fin 4096) (h : Fin 4) (c : Fin 2) (d : Fin 64), x1 (ix4 b k h ⟨64 * c.val + d.val, by omega⟩) = (Y b.val h.val c k.val d : EReal)
  value : ∀ (b : Fin 4) (k : Fin 4096) (h : Fin 4) (e : Fin 128), x2 (ix4 b k h e) = (Z b.val h.val e k.val : EReal)
  w0 : ∀ d, x4 (ix1 d) = (w 0 d : EReal)
  w1 : ∀ d, x5 (ix1 d) = (w 1 d : EReal)
  w2 : ∀ d, x6 (ix1 d) = (w 2 d : EReal)
  w3 : ∀ d, x7 (ix1 d) = (w 3 d : EReal)

section
variable {x0 : (⟨S4x4096x4x2x64, .f32⟩ : BufTy).Contents (Elt Ideal)} {x1 x2 : (⟨S4x4096x4x128, .f32⟩ : BufTy).Contents (Elt Ideal)}
    {x4 x5 x6 x7 : (⟨S64, .f32⟩ : BufTy).Contents (Elt Ideal)} {X : ℕ → ℕ → ℕ → Fin 2 → Fin 64 → ℝ} {Y : ℕ → ℕ → Fin 2 → ℕ → Fin 64 → ℝ}
    {Z : ℕ → ℕ → Fin 128 → ℕ → ℝ} {w : Fin 4 → Fin 64 → ℝ} (R : Reals x0 x1 x2 x4 x5 x6 x7 X Y Z w)
include R

theorem scores_apply (c : Fin 2) (b h : Fin 4) (n k : Fin 4096) :
    val_main_v35 x0 x1 (ix5 c b h n k) = if k.val ≤ n.val then (score (X b.val n.val h.val c) (Y b.val h.val c) h.val n.val k.val : EReal) else ⊥ := by
  rw [val_main_v35_apply, dots_apply, bias_apply, eighth]
  simp only [R.query, R.key, ← EReal.coe_mul]
  rw [← coe_sum, ← EReal.coe_mul]
  split_ifs with hk
  · show (_ : EReal) + _ = _
    rw [← EReal.coe_add]
    congr 1
    unfold score
    ring
  · exact EReal.add_bot _

theorem probs_apply (c : Fin 2) (b h : Fin 4) (n k : Fin 4096) :
    val_main_v46 x0 x1 (ix5 c b h n k)
      = (((if k.val ≤ n.val then Real.exp (score (X b.val n.val h.val c) (Y b.val h.val c) h.val n.val k.val) else 0)
          / ∑ j ∈ Finset.range (n.val + 1), Real.exp (score (X b.val n.val h.val c) (Y b.val h.val c) h.val n.val j) : ℝ) : EReal) := by
  rw [weights_apply, total_apply]
  simp only [exps_apply, max_apply]
  rw [show Ideal.ofBits .f32 0xFF800000#32 = (⊥ : EReal) from bottom]
  rw [softmax_row (fun j => val_main_v35 x0 x1 (ix5 c b h n j)) (fun k : Fin 4096 => k.val ≤ n.val)
    (fun k => score (X b.val n.val h.val c) (Y b.val h.val c) h.val n.val k.val) (fun j => scores_apply R c b h n j) ⟨0, Nat.zero_le _⟩ k]
  rw [sum_upto n fun k => Real.exp (score (X b.val n.val h.val c) (Y b.val h.val c) h.val n.val k)]

theorem lam_apply (i : S_.Idx) : val_main_v7 x4 x5 x6 x7 i = (lam (w 0) (w 1) (w 2) (w 3) : EReal) := by
  rw [val_main_v7_apply, val_main_v6_apply, val_main_v5_apply, val_main_v2_apply, products1 x4 x5, products2 x6 x7, val_main_cst_1_apply]
  simp only [R.w0, R.w1, R.w2, R.w3, ← EReal.coe_mul]
  rw [← coe_sum, ← coe_sum]
  show ((Real.exp _ : ℝ) : EReal) - ((Real.exp _ : ℝ) : EReal) + Ideal.ofBits .f32 0x3E4CCCCD#32 = _
  rw [lamInit_word, ← EReal.coe_sub, ← EReal.coe_add]
  rfl

theorem diff_apply (b h : Fin 4) (n k : Fin 4096) :
    val_main_v53 x0 x1 x4 x5 x6 x7 (ix4 b h n k)
      = val_main_v46 x0 x1 (ix5 0 b h n k) - (lam (w 0) (w 1) (w 2) (w 3) : EReal) * val_main_v46 x0 x1 (ix5 1 b h n k) := by
  have h0 : idx_main_v47 (idx_main_v48 (ix4 b h n k)) = ix5 0 b h n k := funext fun a => Fin.ext (by
    have hb := b.isLt
    have hn := n.isLt
    have hh := h.isLt
    have hk := k.isLt
    match a with
    | ⟨0, _⟩ => rfl
    | ⟨1, _⟩ => show (((b.val * 4 + h.val) * 4096 + n.val) * 4096 + k.val) / 67108864 % 4 = b.val; omega
    | ⟨2, _⟩ => show (((b.val * 4 + h.val) * 4096 + n.val) * 4096 + k.val) / 16777216 % 4 = h.val; omega
    | ⟨3, _⟩ => show (((b.val * 4 + h.val) * 4096 + n.val) * 4096 + k.val) / 4096 % 4096 = n.val; omega
    | ⟨4, _⟩ => show (((b.val * 4 + h.val) * 4096 + n.val) * 4096 + k.val) % 4096 = k.val; omega)
  have h1 : idx_main_v49 (idx_main_v50 (ix4 b h n k)) = ix5 1 b h n k := funext fun a => Fin.ext (by
    have hb := b.isLt
    have hn := n.isLt
    have hh := h.isLt
    have hk := k.isLt
    match a with
    | ⟨0, _⟩ => rfl
    | ⟨1, _⟩ => show (((b.val * 4 + h.val) * 4096 + n.val) * 4096 + k.val) / 67108864 % 4 = b.val; omega
    | ⟨2, _⟩ => show (((b.val * 4 + h.val) * 4096 + n.val) * 4096 + k.val) / 16777216 % 4 = h.val; omega
    | ⟨3, _⟩ => show (((b.val * 4 + h.val) * 4096 + n.val) * 4096 + k.val) / 4096 % 4096 = n.val; omega
    | ⟨4, _⟩ => show (((b.val * 4 + h.val) * 4096 + n.val) * 4096 + k.val) % 4096 = k.val; omega)
  rw [val_main_v53_apply, val_main_v52_apply, val_main_v51_apply, val_main_v50_apply, val_main_v49_apply, val_main_v48_apply, val_main_v47_apply, h0, h1, lam_apply R]
  generalize val_main_v46 x0 x1 (ix5 0 b h n k) = p0
  generalize val_main_v46 x0 x1 (ix5 1 b h n k) = p1
  rfl

theorem heads_apply (b : Fin 4) (n : Fin 4096) (h : Fin 4) (e : Fin 128) :
    val_main_v55 x0 x1 x2 x4 x5 x6 x7 (ix4 b n h e)
      = ((mean (score (X b.val n.val h.val 0) (Y b.val h.val 0) h.val n.val) (Z b.val h.val e) n.val
        - lam (w 0) (w 1) (w 2) (w 3) * mean (score (X b.val n.val h.val 1) (Y b.val h.val 1) h.val n.val) (Z b.val h.val e) n.val : ℝ) : EReal) := by
  rw [val_main_v55_apply, val_main_v54_apply]
  have hl : ∀ k, lidx_main_v54 (idx_main_v55 (ix4 b n h e)) k = ix4 b k h e := fun k => funext fun a => match a with
    | ⟨0, _⟩ => rfl
    | ⟨1, _⟩ => rfl
    | ⟨2, _⟩ => rfl
    | ⟨3, _⟩ => rfl
  have hr : ∀ k, ridx_main_v54 (idx_main_v55 (ix4 b n h e)) k = ix4 b h n k := fun k => funext fun a => match a with
    | ⟨0, _⟩ => rfl
    | ⟨1, _⟩ => rfl
    | ⟨2, _⟩ => rfl
    | ⟨3, _⟩ => rfl
  simp only [hl, hr, diff_apply R, probs_apply R, R.value, ← EReal.coe_mul, ← EReal.coe_sub]
  rw [← coe_sum]
  congr 1
  unfold mean
  generalize ∑ j ∈ Finset.range (n.val + 1), Real.exp (score (X b.val n.val h.val 0) (Y b.val h.val 0) h.val n.val j) = D0
  generalize ∑ j ∈ Finset.range (n.val + 1), Real.exp (score (X b.val n.val h.val 1) (Y b.val h.val 1) h.val n.val j) = D1
  rw [← sum_upto n (fun k => Z b.val h.val e k * Real.exp (score (X b.val n.val h.val 0) (Y b.val h.val 0) h.val n.val k)),
    ← sum_upto n (fun k => Z b.val h.val e k * Real.exp (score (X b.val n.val h.val 1) (Y b.val h.val 1) h.val n.val k)),
    Finset.sum_div, Finset.sum_div, Finset.mul_sum, ← Finset.sum_sub_distrib]
  refine Finset.sum_congr rfl fun k _ => ?_
  split_ifs <;> ring

theorem normed_apply (x3 : (⟨S128, .f32⟩ : BufTy).Contents (Elt Ideal)) (b : Fin 4) (n : Fin 4096) (h : Fin 4) (e : Fin 128) :
    val_main_v70 x0 x1 x2 x3 x4 x5 x6 x7 (ix4 b n h e) = normed (fun e => val_main_v55 x0 x1 x2 x4 x5 x6 x7 (ix4 b n h e)) (x3 (ix1 e)) e := by
  unfold val_main_v70 val_main_v69 val_main_v68 val_main_v67 val_main_v66 val_main_v65 val_main_v64 val_main_v63 val_main_v62 val_main_v61 val_main_v60 val_main_v59 val_main_v58 val_main_v57 val_main_v56
    val_main_cst_12 val_main_cst_13 val_main_cst_14 val_main_cst_15
  generalize val_main_v55 x0 x1 x2 x4 x5 x6 x7 = o
  unfold normed
  pointwise

/-- One entry of the result. -/
theorem result_apply (x3 : (⟨S128, .f32⟩ : BufTy).Contents (Elt Ideal)) (b : Fin 4) (n : Fin 4096) (h : Fin 4) (e : Fin 128) :
    val_main_v72 x0 x1 x2 x3 x4 x5 x6 x7 (ix2 ⟨4096 * b.val + n.val, by omega⟩ ⟨128 * h.val + e.val, by omega⟩)
      = normed (fun e => ((mean (score (X b.val n.val h.val 0) (Y b.val h.val 0) h.val n.val) (Z b.val h.val e) n.val
        - lam (w 0) (w 1) (w 2) (w 3) * mean (score (X b.val n.val h.val 1) (Y b.val h.val 1) h.val n.val) (Z b.val h.val e) n.val : ℝ) : EReal)) (x3 (ix1 e)) e := by
  rw [val_main_v72_apply, val_main_v71_apply]
  have hi : idx_main_v71 (ix2 ⟨4096 * b.val + n.val, by omega⟩ ⟨128 * h.val + e.val, by omega⟩) = ix4 b n h e := funext fun a => Fin.ext (by
    have hb := b.isLt
    have hn := n.isLt
    have hh := h.isLt
    have he := e.isLt
    match a with
    | ⟨0, _⟩ => show ((4096 * b.val + n.val) * 512 + (128 * h.val + e.val)) / 2097152 = b.val; omega
    | ⟨1, _⟩ => show ((4096 * b.val + n.val) * 512 + (128 * h.val + e.val)) / 512 % 4096 = n.val; omega
    | ⟨2, _⟩ => show ((4096 * b.val + n.val) * 512 + (128 * h.val + e.val)) / 128 % 4 = h.val; omega
    | ⟨3, _⟩ => show ((4096 * b.val + n.val) * 512 + (128 * h.val + e.val)) % 128 = e.val; omega)
  rw [hi]
  show val_main_v70 x0 x1 x2 x3 x4 x5 x6 x7 (ix4 b n h e) = _
  rw [normed_apply R]
  simp only [heads_apply R]

end

end Cert.ReferenceIdeal.Attn

end
-- ==== Proof.Finite.lean ====
/- The precondition, element by element: where it holds, the arguments that it speaks of are arrays of real numbers. -/
module

public import proofs.«01_k».proof.Pre_finite
public import proofs.«01_k».proof.Proof.RefValue
public import Idealize.ShloMosaic.Lib.ReduceAll
public import Idealize.ShloMosaic.Lib.Pointwise

@[expose] public section

noncomputable section

namespace Cert.Attention

open Idealize.ShloMosaic Idealize.ShloMosaic.Pointwise Cert.Pre_finite

/-- The word of `+∞`. -/
theorem infinity : Ideal.ofBits .f32 0x7F800000#32 = (⊤ : EReal) := by simp [Ideal.ofBits, Ideal.ieee]

theorem ofBool_one {b : Bool} (h : BitVec.ofBool b = 1#1) : b = true := by
  revert h
  cases b <;> decide

/-- An array all of whose magnitudes are below `+∞` holds real numbers. -/
theorem real_of_all {s : Shape} (x : FVec Ideal s .f32) (b : FVec Ideal s .f32) (hb : ∀ i, b i = (⊤ : EReal)) {axes : List (Fin s.rank)}
    (init : IVec S_ 1) (h : s.ReducesTo axes S_) (hu : 0 < S_.numel)
    (e : Host.reduce IntOp.andi (cmpf .olt (Host.absf x) b) init h hu ix0 = 1#1) (i : s.Idx) :
    x i = ((EReal.toReal (x i) : ℝ) : EReal) := by
  haveI : Subsingleton S_.Idx := ⟨fun _ _ => funext fun a => a.elim0⟩
  have hi := Host.reduce_andi_all _ init h hu ix0 e i
  have hc : Ideal.cmp .olt (Host.absf x i) (b i) = 1#1 := hi
  rw [hb] at hc
  have hc' : max (x i : EReal) (-(x i : EReal)) < ⊤ := by
    have := of_decide_eq_true (ofBool_one hc)
    exact this
  obtain ⟨h1, h2⟩ := max_lt_iff.1 hc'
  refine (EReal.coe_toReal h1.ne ?_).symm
  intro hbot
  rw [hbot, EReal.neg_bot] at h2
  exact lt_irrefl _ h2

variable [Facts] (x0 : FVec Ideal S4x4096x4x2x64 .f32) (x1 x2 : FVec Ideal S4x4096x4x128 .f32) (x3 : FVec Ideal S128 .f32)
  (x4 x5 x6 x7 : FVec Ideal S64 .f32)

theorem real_of_finite (hp : Cert.Pre_finite.fn (F := Ideal) x0 x1 x2 x3 x4 x5 x6 x7 = fun _ => 1#1) :
    (∀ i, x0 i = ((EReal.toReal (x0 i) : ℝ) : EReal)) ∧ (∀ i, x1 i = ((EReal.toReal (x1 i) : ℝ) : EReal))
    ∧ (∀ i, x2 i = ((EReal.toReal (x2 i) : ℝ) : EReal)) ∧ (∀ i, x4 i = ((EReal.toReal (x4 i) : ℝ) : EReal))
    ∧ (∀ i, x5 i = ((EReal.toReal (x5 i) : ℝ) : EReal)) ∧ (∀ i, x6 i = ((EReal.toReal (x6 i) : ℝ) : EReal))
    ∧ (∀ i, x7 i = ((EReal.toReal (x7 i) : ℝ) : EReal)) := by
  have e := congrFun hp ix0
  unfold Cert.Pre_finite.fn Cert.Pre_finite.fn_part1 at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e2⟩ := IntOp.andi_eq_one.1 e
  obtain ⟨e0, e1⟩ := IntOp.andi_eq_one.1 e
  exact ⟨real_of_all x0 _ (fun _ => infinity) _ _ _ e0, real_of_all x1 _ (fun _ => infinity) _ _ _ e1,
    real_of_all x2 _ (fun _ => infinity) _ _ _ e2, real_of_all x4 _ (fun _ => infinity) _ _ _ e4,
    real_of_all x5 _ (fun _ => infinity) _ _ _ e5, real_of_all x6 _ (fun _ => infinity) _ _ _ e6,
    real_of_all x7 _ (fun _ => infinity) _ _ _ e7⟩

/-- Queries, keys, values and λ vectors as real numbers. -/
theorem reals (hp : Cert.Pre_finite.fn (F := Ideal) x0 x1 x2 x3 x4 x5 x6 x7 = fun _ => 1#1) :
    ∃ X Y Z w, Cert.ReferenceIdeal.Attn.Reals x0 x1 x2 x4 x5 x6 x7 X Y Z w := by
  obtain ⟨h0, h1, h2, h4, h5, h6, h7⟩ := real_of_finite x0 x1 x2 x3 x4 x5 x6 x7 hp
  refine ⟨fun b n h c d => if hb : b < 4 ∧ n < 4096 ∧ h < 4 then (x0 (ix5 ⟨b, hb.1⟩ ⟨n, hb.2.1⟩ ⟨h, hb.2.2⟩ c d)).toReal else 0,
    fun b h c k d => if hb : b < 4 ∧ k < 4096 ∧ h < 4 then (x1 (ix4 ⟨b, hb.1⟩ ⟨k, hb.2.1⟩ ⟨h, hb.2.2⟩ ⟨64 * c.val + d.val, by omega⟩)).toReal else 0,
    fun b h e k => if hb : b < 4 ∧ k < 4096 ∧ h < 4 then (x2 (ix4 ⟨b, hb.1⟩ ⟨k, hb.2.1⟩ ⟨h, hb.2.2⟩ e)).toReal else 0,
    fun a d => ![(x4 (ix1 d)).toReal, (x5 (ix1 d)).toReal, (x6 (ix1 d)).toReal, (x7 (ix1 d)).toReal] a,
    ?_, ?_, ?_, fun d => h4 _, fun d => h5 _, fun d => h6 _, fun d => h7 _⟩
  · intro b n h c d
    rw [dif_pos ⟨b.isLt, n.isLt, h.isLt⟩]
    exact h0 _
  · intro b k h c d
    rw [dif_pos ⟨b.isLt, k.isLt, h.isLt⟩]
    exact h1 _
  · intro b k h e
    rw [dif_pos ⟨b.isLt, k.isLt, h.isLt⟩]
    exact h2 _

end Cert.Attention

end
-- ==== Proof.Step.lean ====
/- One block of keys met by the running softmax of one component, and what the kernel's body computes from its six
blocks, as plain functions of vectors. -/
module

public import proofs.«01_k».proof.Proof.Gen.KernelIdeal.Frame.Runs

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
/-- What the running softmax of one component keeps per query: the largest score so far, the sum of the weights and the
    weighted sum of the values. -/
structure Acc (F : FTy → Type) where
  m : Vec F S1x1x512 .f32
  l : Vec F S1x1x512 .f32
  o : Vec F S1x128x512 .f32

/-- The largest score once the scores `S`, each raised by `sh`, are met. -/
def newMax (S : FVec F S512x512 .f32) (sh : FVec F S1x512 .f32) (m : Vec F S1x1x512 .f32) : FVec F S1x512 .f32 :=
  maximumf (shapeCast S1x512 m shapeCasts_S1x1x512_S1x512)
    (addf (shapeCast S1x512 (multiReduction .maximumf [0] S512 S 0xFF800000#32 reduces_S512x512_S512 (.inl rfl) rfl) shapeCasts_S512_S1x512) sh)

/-- The weights of the block's keys against the new largest score. -/
def weights (S : FVec F S512x512 .f32) (sh : FVec F S1x512 .f32) (m : Vec F S1x1x512 .f32) : FVec F S512x512 .f32 :=
  exp2 (subf S (broadcastTo S512x512 (subf (newMax S sh m) sh) broadcasts_S1x512_S512x512))

/-- By how much what was kept before fades. -/
def fade (S : FVec F S512x512 .f32) (sh : FVec F S1x512 .f32) (m : Vec F S1x1x512 .f32) : FVec F S1x512 .f32 :=
  exp2 (subf (shapeCast S1x512 m shapeCasts_S1x1x512_S1x512) (newMax S sh m))

/-- One block of keys met. -/
def step (S : FVec F S512x512 .f32) (sh : FVec F S1x512 .f32) (v : FVec F S128x512 .bf16) (a : Acc F) : Acc F where
  m := shapeCast S1x1x512 (newMax S sh a.m) shapeCasts_S1x512_S1x1x512
  l := shapeCast S1x1x512 (addf (mulf (fade S sh a.m) (shapeCast S1x512 a.l shapeCasts_S1x1x512_S1x512))
    (shapeCast S1x512 (multiReduction .add [0] S512 (weights S sh a.m) 0x00000000#32 reduces_S512x512_S512 (.inl rfl) rfl) shapeCasts_S512_S1x512))
    shapeCasts_S1x512_S1x1x512
  o := shapeCast S1x128x512 (addf (mulf (broadcastTo S128x512 (fade S sh a.m) broadcasts_S1x512_S128x512) (shapeCast S128x512 a.o shapeCasts_S1x128x512_S128x512))
    (matmul dot_S128x512_S512x512_S128x512_1_0_0_1_n_n none v (truncf .bf16 (weights S sh a.m) bitsLt_bf16_f32) (constant S128x512 .f32 0x00000000#32)))
    shapeCasts_S128x512_S1x128x512

/-- Before the first block: no largest score, no weight, no value. -/
def start : Acc F where
  m := fun _ => Scalar.ofBits .f32 0xFF800000#32
  l := fun _ => Scalar.ofBits .f32 0x00000000#32
  o := fun _ => Scalar.ofBits .f32 0x00000000#32

/-- The queries with the bias terms below them, from the eight terms `x2` and the queries `x3`: the keep-below mask gives
    the first component's queries, the keep-above mask the second's. -/
def biasRows (x2 : Vec F S1x8x1 .f32) : FVec F S128x512 .f32 :=
  k0_pay48 (iota .tc S128x512 32 [0] iota_S128x512_d0_w32)
    (k0_pay46 (View.ld x2 (Rect.unit (s := S1x8x1) ![0, 0, 0] S1x1x1.size inb_S1x8x1_S1x1x1_0_0_0))
      (View.ld x2 (Rect.unit (s := S1x8x1) ![0, 1, 0] S1x1x1.size inb_S1x8x1_S1x1x1_0_1_0)))
    k0_pay47
    (View.ld x2 (Rect.unit (s := S1x8x1) ![0, 2, 0] S1x1x1.size inb_S1x8x1_S1x1x1_0_2_0))
    (View.ld x2 (Rect.unit (s := S1x8x1) ![0, 3, 0] S1x1x1.size inb_S1x8x1_S1x1x1_0_3_0))
    (View.ld x2 (Rect.unit (s := S1x8x1) ![0, 4, 0] S1x1x1.size inb_S1x8x1_S1x1x1_0_4_0))
    (View.ld x2 (Rect.unit (s := S1x8x1) ![0, 5, 0] S1x1x1.size inb_S1x8x1_S1x1x1_0_5_0))
    (View.ld x2 (Rect.unit (s := S1x8x1) ![0, 6, 0] S1x1x1.size inb_S1x8x1_S1x1x1_0_6_0))

/-- The first component's queries over the bias terms. -/
def queries0 (x2 : Vec F S1x8x1 .f32) (x3 : Vec F S1x128x512 .bf16) : FVec F S256x512 .bf16 :=
  k0_pay52 (k0_pay44 x3) (iota .tc S128x512 32 [0] iota_S128x512_d0_w32) k0_pay45 (biasRows x2)
    (k0_pay49 (iota .tc S128x512 32 [0] iota_S128x512_d0_w32))
    (k0_pay50 (View.ld x2 (Rect.unit (s := S1x8x1) ![0, 7, 0] S1x1x1.size inb_S1x8x1_S1x1x1_0_7_0)))

/-- The second component's queries over the bias terms. -/
def queries1 (x2 : Vec F S1x8x1 .f32) (x3 : Vec F S1x128x512 .bf16) : FVec F S256x512 .bf16 :=
  k0_pay53 (k0_pay44 x3) (iota .tc S128x512 32 [0] iota_S128x512_d0_w32) k0_pay45 (biasRows x2)
    (k0_pay49 (iota .tc S128x512 32 [0] iota_S128x512_d0_w32))
    (k0_pay50 (View.ld x2 (Rect.unit (s := S1x8x1) ![0, 7, 0] S1x1x1.size inb_S1x8x1_S1x1x1_0_7_0)))

/-- The position columns set beside the keys. -/
def positions : FVec F S512x128 .bf16 := k0_pay58 k0_pay54 k0_pay55 k0_pay56 16#32 k0_pay57

/-- The keys of the block met at trip `k`, and its values. -/
def keysAt (i : grid0.Coords) (x4 : Vec F S4096x128 .bf16) (k : Fin (k0_t1_loop i).trips) : Vec F S512x128 .bf16 :=
  View.ld x4 (Rect.unit (s := S4096x128) (k0_off1 i k) S512x128.size (k0_off1_inb i k))
def valuesAt (i : grid0.Coords) (x5 : Vec F S8x128x512 .bf16) (k : Fin (k0_t1_loop i).trips) : Vec F S1x128x512 .bf16 :=
  View.ld x5 (Rect.unit (s := S8x128x512) (k0_off2 i k) S1x128x512.size (k0_off2_inb i k))

/-- The keys and the values of the block the queries are in. -/
def keysDiag (i : grid0.Coords) (x4 : Vec F S4096x128 .bf16) : Vec F S512x128 .bf16 :=
  View.ld x4 (Rect.unit (s := S4096x128) (k0_off5 i) S512x128.size (k0_off5_inb i))
def valuesDiag (i : grid0.Coords) (x5 : Vec F S8x128x512 .bf16) : Vec F S1x128x512 .bf16 :=
  View.ld x5 (Rect.unit (s := S8x128x512) (k0_off6 i) S1x128x512.size (k0_off6_inb i))

/-- The shift of trip `k`'s scores: the slope times the distance from the queries' block to the keys'. -/
def shiftAt (i : grid0.Coords) (k : Fin (k0_t1_loop i).trips) : FVec F S1x512 .f32 :=
  k0_pay3 i (k0_pay43 i) (Scalar.muli (BitVec.ofNat 32 (i 2).val) 512#32) 0#32 1#32 k

/-- What a component with queries `q` keeps before trip `n`. -/
def before (i : grid0.Coords) (q : FVec F S256x512 .bf16) (x4 : Vec F S4096x128 .bf16) (x5 : Vec F S8x128x512 .bf16) : ℕ → Acc F
  | 0 => start
  | n + 1 => if h : n < (k0_t1_loop i).trips then
      step (k0_pay4 q positions (keysAt i x4 ⟨n, h⟩)) (shiftAt i ⟨n, h⟩) (k0_pay2 (valuesAt i x5 ⟨n, h⟩)) (before i q x4 x5 n)
    else before i q x4 x5 n

/-- What the component keeps at the end: the masked block met last. -/
def final (i : grid0.Coords) (q : FVec F S256x512 .bf16) (x4 : Vec F S4096x128 .bf16) (x5 : Vec F S8x128x512 .bf16) : Acc F :=
  step (k0_pay70 q positions (keysDiag i x4)) (k0_pay68 (BitVec.ofNat 32 (i 2).val) (k0_pay43 i) (Scalar.muli (BitVec.ofNat 32 (i 2).val) 512#32))
    (k0_pay67 (valuesDiag i x5)) (before i q x4 x5 (k0_t1_loop i).trips)

/-- The block of results. -/
def outBlock (i : grid0.Coords) (x0 : Vec F S4x64 .f32) (x1 : Vec F S128x1 .f32) (x2 : Vec F S1x8x1 .f32) (x3 : Vec F S1x128x512 .bf16)
    (x4 : Vec F S4096x128 .bf16) (x5 : Vec F S8x128x512 .bf16) : FVec F S512x128 .bf16 :=
  k0_pay89 (k0_pay87 x0) (k0_pay88 (final i (queries0 x2 x3) x4 x5).o) (final i (queries0 x2 x3) x4 x5).l
    (final i (queries1 x2 x3) x4 x5).o (final i (queries1 x2 x3) x4 x5).l x1

end Cert.KernelIdeal.Attn

end
-- ==== Proof.Trip.lean ====
/- What the loop over the earlier blocks of keys leaves in the three buffers it keeps its sums in. -/
module

public import proofs.«01_k».proof.Proof.Step
public import proofs.«01_k».proof.Proof.Gen.KernelIdeal.Loops
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
/-! ## Reading one component of a buffer of two -/

section Reads

variable {e : EltTy}

/-- Component 0 of a buffer of two rows, and component 1. -/
abbrev r0 : Rect S2x1x512 := Rect.unit (s := S2x1x512) ![0, 0, 0] S1x1x512.size inb_S2x1x512_S1x1x512_0_0_0
abbrev r1 : Rect S2x1x512 := Rect.unit (s := S2x1x512) ![1, 0, 0] S1x1x512.size inb_S2x1x512_S1x1x512_1_0_0
/-- Component 0 of a buffer of two tiles, and component 1. -/
abbrev t0 : Rect S2x128x512 := Rect.unit (s := S2x128x512) ![0, 0, 0] S1x128x512.size inb_S2x128x512_S1x128x512_0_0_0
abbrev t1 : Rect S2x128x512 := Rect.unit (s := S2x128x512) ![1, 0, 0] S1x128x512.size inb_S2x128x512_S1x128x512_1_0_0

/-- A component just written reads back as written. -/
theorem read_same {s : Shape} (v : View sig .tc .vmem s e) (f : v.ty.Contents (Elt F)) (r : Rect s) (w : r.shape.Idx → Elt F e)
    (L : List (View.Piece (Elt F) s e)) : v.readAt (Elt F) r.toLoadRect (v.writes (Elt F) f (⟨r, w⟩ :: L)) = w := by
  funext j
  exact View.read_writes_cons_emb v f r w L j

/-- A component keeps what it held when a component apart from it is written. -/
theorem read_apart {s : Shape} (v : View sig .tc .vmem s e) (f : v.ty.Contents (Elt F)) (r r' : Rect s) (w : r.shape.Idx → Elt F e)
    (L : List (View.Piece (Elt F) s e)) (h : ∀ j : r'.shape.Idx, r'.emb j ∉ r.set) :
    v.readAt (Elt F) r'.toLoadRect (v.writes (Elt F) f (⟨r, w⟩ :: L)) = v.readAt (Elt F) r'.toLoadRect (v.writes (Elt F) f L) := by
  show v.readAt (Elt F) r'.toLoadRect (v.writes (Elt F) (v.writes (Elt F) f L) [⟨r, w⟩]) = _
  exact View.readAt_writes_of_forall_not_mem v _ [⟨r, w⟩] _ (fun j p hp => by
    obtain rfl := List.mem_singleton.mp hp
    exact h j)

/-- A component read after the whole buffer is written is that part of what was written. -/
theorem read_whole {s : Shape} (v : View sig .tc .vmem s e) (f : v.ty.Contents (Elt F)) {off : Fin s.rank → ℕ} (hoff : off = fun _ => 0)
    (inb : ∀ a, off a + s.size a ≤ s.size a) (w : s.Idx → Elt F e) (r : Rect s) :
    v.readAt (Elt F) r.toLoadRect (v.writes (Elt F) f [⟨Rect.unit (s := s) off s.size inb, w⟩]) = View.ld w r := by
  subst hoff
  rw [View.readAt_eq_ld, View.read_writes_eq_canon v f _ (fun y => ⟨_, List.mem_cons_self, by
    rw [Rect.mem_set_unit]; exact fun a => ⟨Nat.zero_le _, by have := (y a).isLt; omega⟩⟩), View.canon_unit_zero rfl]

theorem r0_apart (j : r1.shape.Idx) : r1.emb j ∉ r0.set := by
  rw [Rect.mem_set_unit]
  intro h
  have h0 : 1 + 1 * (j 0).val < 0 + 1 := (h 0).2
  omega
theorem r1_apart (j : r0.shape.Idx) : r0.emb j ∉ r1.set := by
  rw [Rect.mem_set_unit]
  intro h
  have h0 : 1 ≤ 0 + 1 * (j 0).val := (h 0).1
  have := (j 0).isLt
  have h1 : r0.shape.size 0 = 1 := rfl
  omega
theorem t0_apart (j : t1.shape.Idx) : t1.emb j ∉ t0.set := by
  rw [Rect.mem_set_unit]
  intro h
  have h0 : 1 + 1 * (j 0).val < 0 + 1 := (h 0).2
  omega
theorem t1_apart (j : t0.shape.Idx) : t0.emb j ∉ t1.set := by
  rw [Rect.mem_set_unit]
  intro h
  have h0 : 1 ≤ 0 + 1 * (j 0).val := (h 0).1
  have := (j 0).isLt
  have h1 : t0.shape.size 0 = 1 := rfl
  omega

end Reads

/-- What component 0 keeps, read off the three buffers; and component 1. -/
def kept0 (v10 v11 : View sig .tc .vmem S2x1x512 .f32) (v12 : View sig .tc .vmem S2x128x512 .f32)
    (f10 : v10.ty.Contents (Elt F)) (f11 : v11.ty.Contents (Elt F)) (f12 : v12.ty.Contents (Elt F)) : Acc F :=
  ⟨v10.readAt (Elt F) r0.toLoadRect f10, v11.readAt (Elt F) r0.toLoadRect f11, v12.readAt (Elt F) t0.toLoadRect f12⟩
def kept1 (v10 v11 : View sig .tc .vmem S2x1x512 .f32) (v12 : View sig .tc .vmem S2x128x512 .f32)
    (f10 : v10.ty.Contents (Elt F)) (f11 : v11.ty.Contents (Elt F)) (f12 : v12.ty.Contents (Elt F)) : Acc F :=
  ⟨v10.readAt (Elt F) r1.toLoadRect f10, v11.readAt (Elt F) r1.toLoadRect f11, v12.readAt (Elt F) t1.toLoadRect f12⟩

set_option maxHeartbeats 1000000 in
/-- What one trip writes: each component's block met, the second component's last. -/
theorem trip_pieces (𝒱 : Variants) (c : Dev nD) (bd : Option 𝒱.V) (i : grid0.Coords) (arg3 : Memref sig .tc .vmem S4x64 .f32) (harg3 : arg3.IsWhole) (arg4 : Memref sig .tc .vmem S128x1 .f32) (harg4 : arg4.IsWhole) (arg5 : Memref sig .tc .vmem S1x8x1 .f32) (harg5 : arg5.IsWhole) (arg6 : Memref sig .tc .vmem S1x128x512 .bf16) (harg6 : arg6.IsWhole) (arg7 : Memref sig .tc .vmem S4096x128 .bf16) (harg7 : arg7.IsWhole) (arg8 : Memref sig .tc .vmem S8x128x512 .bf16) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x1x512 .f32) (harg11 : arg11.IsWhole) (arg12 : Memref sig .tc .vmem S2x128x512 .f32) (harg12 : arg12.IsWhole)
    (arg2 : BitVec 32) (v8 : F .f32) (v13 : BitVec 32) (v76 : FVec F S256x512 .bf16) (v80 : FVec F S256x512 .bf16) (v84 : IVec S512x128 1) (v108 : IVec S512x128 32) (v110 : IVec S512x128 1) (v112 : BitVec 32) (v114 : IVec S512x128 32) (x4 : Vec F S4096x128 .bf16) (x5 : Vec F S8x128x512 .bf16) (k : Fin (k0_t1_loop i).trips)
    (f10 : BufTy.Contents (Elt F) arg10.view.ty) (f11 : BufTy.Contents (Elt F) arg11.view.ty) (f12 : BufTy.Contents (Elt F) arg12.view.ty) :
    tripL_k0_t1 (F := F) 𝒱 c bd i arg3 harg3 arg4 harg4 arg5 harg5 arg6 harg6 arg7 harg7 arg8 harg8 arg9 harg9 arg10 harg10 arg11 harg11 arg12 harg12 arg2 v8 v13 v76 v80 v84 v108 v110 v112 v114 (harg7.unread x4) (harg8.unread x5) k f10 f11 f12
      = (let A0 := step (k0_pay4 v76 (k0_pay58 v84 v108 v110 v112 v114) (keysAt i x4 k)) (k0_pay3 i v8 v13 0#32 1#32 k) (k0_pay2 (valuesAt i x5 k))
            (kept0 arg10.view arg11.view arg12.view f10 f11 f12)
         let A1 := step (k0_pay4 v80 (k0_pay58 v84 v108 v110 v112 v114) (keysAt i x4 k)) (k0_pay3 i v8 v13 0#32 1#32 k) (k0_pay2 (valuesAt i x5 k))
            (kept1 arg10.view arg11.view arg12.view f10 f11 f12)
         ([⟨r1, A1.m⟩, ⟨r0, A0.m⟩], [⟨r1, A1.l⟩, ⟨r0, A0.l⟩], [⟨t1, A1.o⟩, ⟨t0, A0.o⟩])) := by
  have e7 : arg7.view.readAt (Elt F) (Rect.unit (s := S4096x128) (k0_off1 i k) S512x128.size (k0_off1_inb i k)).toLoadRect (harg7.unread x4) = keysAt i x4 k := by
    rw [View.readAt_eq_ld, harg7.read_unread]; rfl
  have e8 : arg8.view.readAt (Elt F) (Rect.unit (s := S8x128x512) (k0_off2 i k) S1x128x512.size (k0_off2_inb i k)).toLoadRect (harg8.unread x5) = valuesAt i x5 k := by
    rw [View.readAt_eq_ld, harg8.read_unread]; rfl
  rw [← e7, ← e8]
  unfold tripL_k0_t1 trip_k0_t1
  rfl

/-- One trip moves both components by one block. -/
theorem trip_kept (𝒱 : Variants) (c : Dev nD) (bd : Option 𝒱.V) (i : grid0.Coords) (arg3 : Memref sig .tc .vmem S4x64 .f32) (harg3 : arg3.IsWhole) (arg4 : Memref sig .tc .vmem S128x1 .f32) (harg4 : arg4.IsWhole) (arg5 : Memref sig .tc .vmem S1x8x1 .f32) (harg5 : arg5.IsWhole) (arg6 : Memref sig .tc .vmem S1x128x512 .bf16) (harg6 : arg6.IsWhole) (arg7 : Memref sig .tc .vmem S4096x128 .bf16) (harg7 : arg7.IsWhole) (arg8 : Memref sig .tc .vmem S8x128x512 .bf16) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x1x512 .f32) (harg11 : arg11.IsWhole) (arg12 : Memref sig .tc .vmem S2x128x512 .f32) (harg12 : arg12.IsWhole)
    (arg2 : BitVec 32) (v8 : F .f32) (v13 : BitVec 32) (v76 : FVec F S256x512 .bf16) (v80 : FVec F S256x512 .bf16) (v84 : IVec S512x128 1) (v108 : IVec S512x128 32) (v110 : IVec S512x128 1) (v112 : BitVec 32) (v114 : IVec S512x128 32) (x4 : Vec F S4096x128 .bf16) (x5 : Vec F S8x128x512 .bf16) (k : Fin (k0_t1_loop i).trips)
    (f10 : BufTy.Contents (Elt F) arg10.view.ty) (f11 : BufTy.Contents (Elt F) arg11.view.ty) (f12 : BufTy.Contents (Elt F) arg12.view.ty)
    (g10 : BufTy.Contents (Elt F) arg10.view.ty) (g11 : BufTy.Contents (Elt F) arg11.view.ty) (g12 : BufTy.Contents (Elt F) arg12.view.ty)
    (T) (hT : tripL_k0_t1 (F := F) 𝒱 c bd i arg3 harg3 arg4 harg4 arg5 harg5 arg6 harg6 arg7 harg7 arg8 harg8 arg9 harg9 arg10 harg10 arg11 harg11 arg12 harg12 arg2 v8 v13 v76 v80 v84 v108 v110 v112 v114 (harg7.unread x4) (harg8.unread x5) k f10 f11 f12 = T) :
    kept0 arg10.view arg11.view arg12.view (arg10.view.writes (Elt F) g10 T.1) (arg11.view.writes (Elt F) g11 T.2.1) (arg12.view.writes (Elt F) g12 T.2.2)
        = step (k0_pay4 v76 (k0_pay58 v84 v108 v110 v112 v114) (keysAt i x4 k)) (k0_pay3 i v8 v13 0#32 1#32 k) (k0_pay2 (valuesAt i x5 k))
            (kept0 arg10.view arg11.view arg12.view f10 f11 f12)
      ∧ kept1 arg10.view arg11.view arg12.view (arg10.view.writes (Elt F) g10 T.1) (arg11.view.writes (Elt F) g11 T.2.1) (arg12.view.writes (Elt F) g12 T.2.2)
        = step (k0_pay4 v80 (k0_pay58 v84 v108 v110 v112 v114) (keysAt i x4 k)) (k0_pay3 i v8 v13 0#32 1#32 k) (k0_pay2 (valuesAt i x5 k))
            (kept1 arg10.view arg11.view arg12.view f10 f11 f12) := by
  rw [trip_pieces] at hT
  obtain rfl := hT
  constructor
  · unfold kept0
    rw [read_apart _ _ _ _ _ _ r1_apart, read_apart _ _ _ _ _ _ r1_apart, read_apart _ _ _ _ _ _ t1_apart, read_same, read_same, read_same]
  · unfold kept1
    rw [read_same, read_same, read_same]

/-- After `n` trips from the start, each component holds what meeting the first `n` blocks gives. -/
theorem kept_after (𝒱 : Variants) (c : Dev nD) (bd : Option 𝒱.V) (i : grid0.Coords) (arg3 : Memref sig .tc .vmem S4x64 .f32) (harg3 : arg3.IsWhole) (arg4 : Memref sig .tc .vmem S128x1 .f32) (harg4 : arg4.IsWhole) (arg5 : Memref sig .tc .vmem S1x8x1 .f32) (harg5 : arg5.IsWhole) (arg6 : Memref sig .tc .vmem S1x128x512 .bf16) (harg6 : arg6.IsWhole) (arg7 : Memref sig .tc .vmem S4096x128 .bf16) (harg7 : arg7.IsWhole) (arg8 : Memref sig .tc .vmem S8x128x512 .bf16) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x1x512 .f32) (harg11 : arg11.IsWhole) (arg12 : Memref sig .tc .vmem S2x128x512 .f32) (harg12 : arg12.IsWhole)
    (q0 q1 : FVec F S256x512 .bf16) (x4 : Vec F S4096x128 .bf16) (x5 : Vec F S8x128x512 .bf16)
    (g10 : BufTy.Contents (Elt F) arg10.view.ty) (g11 : BufTy.Contents (Elt F) arg11.view.ty) (g12 : BufTy.Contents (Elt F) arg12.view.ty)
    (h0 : kept0 arg10.view arg11.view arg12.view g10 g11 g12 = start) (h1 : kept1 arg10.view arg11.view arg12.view g10 g11 g12 = start)
    (n : ℕ) (hn : n ≤ (k0_t1_loop i).trips) (L)
    (hL : pb_k0_t1 (F := F) 𝒱 c bd i arg3 harg3 arg4 harg4 arg5 harg5 arg6 harg6 arg7 harg7 arg8 harg8 arg9 harg9 arg10 harg10 arg11 harg11 arg12 harg12 (BitVec.ofNat 32 (i 2).val) (k0_pay43 i) (Scalar.muli (BitVec.ofNat 32 (i 2).val) 512#32) q0 q1 k0_pay54 k0_pay55 k0_pay56 16#32 k0_pay57
      (harg7.unread x4) (harg8.unread x5) g10 g11 g12 n = L) :
    kept0 arg10.view arg11.view arg12.view (arg10.view.writes (Elt F) g10 L.1) (arg11.view.writes (Elt F) g11 L.2.1) (arg12.view.writes (Elt F) g12 L.2.2)
        = before i q0 x4 x5 n
      ∧ kept1 arg10.view arg11.view arg12.view (arg10.view.writes (Elt F) g10 L.1) (arg11.view.writes (Elt F) g11 L.2.1) (arg12.view.writes (Elt F) g12 L.2.2)
        = before i q1 x4 x5 n := by
  induction n generalizing L with
  | zero => obtain rfl := hL; exact ⟨h0, h1⟩
  | succ n ih =>
    have hlt : n < (k0_t1_loop i).trips := hn
    rw [show n + 1 = (⟨n, hlt⟩ : Fin (k0_t1_loop i).trips).val + 1 from rfl, pb_k0_t1_succ] at hL
    obtain rfl := hL
    obtain ⟨i0, i1⟩ := ih hlt.le _ rfl
    dsimp only
    rw [View.writes_append, View.writes_append, View.writes_append]
    obtain ⟨s0, s1⟩ := trip_kept 𝒱 c bd i arg3 harg3 arg4 harg4 arg5 harg5 arg6 harg6 arg7 harg7 arg8 harg8 arg9 harg9 arg10 harg10 arg11 harg11 arg12 harg12 (BitVec.ofNat 32 (i 2).val) (k0_pay43 i) (Scalar.muli (BitVec.ofNat 32 (i 2).val) 512#32) q0 q1 k0_pay54 k0_pay55 k0_pay56 16#32 k0_pay57
      x4 x5 ⟨n, hlt⟩ _ _ _ _ _ _ _ rfl
    refine ⟨(s0.trans ?_), (s1.trans ?_)⟩
    · rw [i0, before, dif_pos hlt]; rfl
    · rw [i1, before, dif_pos hlt]; rfl

end Cert.KernelIdeal.Attn

end
-- ==== Proof.Body.lean ====
/- The kernel's body, run on any buffers: it leaves `outBlock` of its six blocks in the block of results. -/
module

public import proofs.«01_k».proof.Proof.Trip

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
local notation "𝕄" => MT nD τ sig Unit (Elt F) ℕ (UR sig nD τ) ℕ

/-- No block is left over by the loop over whole blocks. -/
theorem rest_trips (i : grid0.Coords) : (k0_t2_loop i).trips = 0 := by
  have h : ∀ j : Fin 8, (⟨Scalar.addi 0#32 (Scalar.muli (Scalar.divsi (Scalar.subi (BitVec.ofNat 32 j.val) 0#32) 1#32) 1#32),
      Scalar.addi 0#32 (Scalar.subi (BitVec.ofNat 32 j.val) 0#32), 1#32⟩ : Scf.Loop 32).trips = 0 := by decide +kernel
  exact h (i 2)

/-- The loop meets one block per block of keys before the queries' own. -/
theorem block_trips (i : grid0.Coords) : (k0_t1_loop i).trips = (i 2).val := by
  have h : ∀ j : Fin 8, (⟨0#32, Scalar.addi 0#32 (Scalar.muli (Scalar.divsi (Scalar.subi (BitVec.ofNat 32 j.val) 0#32) 1#32) 1#32),
      1#32⟩ : Scf.Loop 32).trips = j.val := by decide +kernel
  exact h (i 2)

set_option maxHeartbeats 1000000 in
/-- The pieces the body writes into the block of results, with the run that writes them: the inputs are left as they
    were, the three buffers of sums at anything. -/
def run (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x8x1 .f32) (harg5 : arg5.IsWhole) (arg6 : Memref sig .tc .vmem S1x128x512 .bf16) (harg6 : arg6.IsWhole) (arg7 : Memref sig .tc .vmem S4096x128 .bf16) (harg7 : arg7.IsWhole) (arg8 : Memref sig .tc .vmem S8x128x512 .bf16) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x1x512 .f32) (harg11 : arg11.IsWhole) (arg12 : Memref sig .tc .vmem S2x128x512 .f32) (harg12 : arg12.IsWhole) (x0 : Vec F S4x64 .f32) (x1 : Vec F S128x1 .f32) (x2 : Vec F S1x8x1 .f32) (x3 : Vec F S1x128x512 .bf16) (x4 : Vec F S4096x128 .bf16) (x5 : Vec F S8x128x512 .bf16) :
    { L6 : List (View.Piece (Elt F) S512x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11 arg12 harg12) K } := by
  refine ⟨?_, fun E K => ?run⟩
  case run =>
    have rest : (k0_t2_loop i).trips = 0 := rest_trips i
    simp only [cc0_attn_prompt_eq_skeleton]; unfold cc0_attn_prompt_skel
    simp only [k0_part12_eq_skeleton]; unfold k0_part12_skel
    simp only [k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]; · iexists _; isplitr; · ipureintro; exact harg3.read_unread _
                    iexact H0
    isplitl [H1]; · iexists _; isplitr; · ipureintro; exact harg4.read_unread _
                    iexact H1
    isplitl [H2]; · iexists _; isplitr; · ipureintro; exact harg5.read_unread _
                    iexact H2
    isplitl [H3]; · iexists _; isplitr; · ipureintro; exact harg6.read_unread _
                    iexact H3
    isplitl [H4]; · iexists _; isplitr; · ipureintro; exact harg7.read_unread _
                    iexact H4
    isplitl [H5]; · iexists _; isplitr; · ipureintro; exact harg8.read_unread _
                    iexact H5
    isplitl [H6]; · iexists _; iexact H6
    isplitl [HS0]; · iexists _, _; isplitr; swap; · iexact HS0
                     ipureintro; rfl
    isplitl [HS1]; · iexists _, _; isplitr; swap; · iexact HS1
                     ipureintro; rfl
    iexists _, _; isplitr; swap; · iexact HS2
    ipureintro; rfl

theorem run_pieces (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x8x1 .f32) (harg5 : arg5.IsWhole) (arg6 : Memref sig .tc .vmem S1x128x512 .bf16) (harg6 : arg6.IsWhole) (arg7 : Memref sig .tc .vmem S4096x128 .bf16) (harg7 : arg7.IsWhole) (arg8 : Memref sig .tc .vmem S8x128x512 .bf16) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x1x512 .f32) (harg11 : arg11.IsWhole) (arg12 : Memref sig .tc .vmem S2x128x512 .f32) (harg12 : arg12.IsWhole) (x0 : Vec F S4x64 .f32) (x1 : Vec F S128x1 .f32) (x2 : Vec F S1x8x1 .f32) (x3 : Vec F S1x128x512 .bf16) (x4 : Vec F S4096x128 .bf16) (x5 : Vec F S8x128x512 .bf16) :
    (run c i arg3 harg3 arg4 harg4 arg5 harg5 arg6 harg6 arg7 harg7 arg8 harg8 arg9 harg9 arg10 harg10 arg11 harg11 arg12 harg12 x0 x1 x2 x3 x4 x5).1 = [⟨Rect.unit (s := S512x128) ![0, 0] S512x128.size inb_S512x128_S512x128_0_0, outBlock i x0 x1 x2 x3 x4 x5⟩] := by
  have e3 : arg3.view.readAt (Elt F) (Rect.unit (s := S4x64) ![0, 0] S4x64.size inb_S4x64_S4x64_0_0).toLoadRect (harg3.unread x0) = x0 := by
    rw [View.readAt_eq_ld, harg3.read_unread]; exact View.ld_unit_zero (by decide) _ _
  have e4 : arg4.view.readAt (Elt F) (Rect.unit (s := S128x1) ![0, 0] S128x1.size inb_S128x1_S128x1_0_0).toLoadRect (harg4.unread x1) = x1 := by
    rw [View.readAt_eq_ld, harg4.read_unread]; exact View.ld_unit_zero (by decide) _ _
  have e5 : ∀ r : Rect S1x8x1, arg5.view.readAt (Elt F) r.toLoadRect (harg5.unread x2) = View.ld x2 r := fun r => by
    rw [View.readAt_eq_ld, harg5.read_unread]
  have e6 : arg6.view.readAt (Elt F) (Rect.unit (s := S1x128x512) ![0, 0, 0] S1x128x512.size inb_S1x128x512_S1x128x512_0_0_0).toLoadRect (harg6.unread x3) = x3 := by
    rw [View.readAt_eq_ld, harg6.read_unread]; exact View.ld_unit_zero (by decide) _ _
  have e7 : ∀ r : Rect S4096x128, arg7.view.readAt (Elt F) r.toLoadRect (harg7.unread x4) = View.ld x4 r := fun r => by
    rw [View.readAt_eq_ld, harg7.read_unread]
  have e8 : ∀ r : Rect S8x128x512, arg8.view.readAt (Elt F) r.toLoadRect (harg8.unread x5) = View.ld x5 r := fun r => by
    rw [View.readAt_eq_ld, harg8.read_unread]
  unfold run
  dsimp only
  sl_unfold_words
  simp only [e3, e4, e5, e6, e7, e8]
  set q0 := queries0 x2 x3 with hq0
  set q1 := queries1 x2 x3 with hq1
  unfold queries0 biasRows at hq0
  unfold queries1 biasRows at hq1
  simp only [← hq0, ← hq1]
  have hz : Scf.trips (Scalar.addi 0#32 (Scalar.muli (Scalar.divsi (Scalar.subi (BitVec.ofNat 32 (i 2).val) 0#32) 1#32) 1#32))
      (Scalar.addi 0#32 (Scalar.subi (BitVec.ofNat 32 (i 2).val) 0#32)) 1#32 = 0 := rest_trips i
  simp only [hz, pb_k0_t2, List.nil_append, View.readCov, View.writes_append]
  have s0 : kept0 arg10.view arg11.view arg12.view
      (arg10.view.writes (Elt F) arg10.view.junk [⟨Rect.unit (s := S2x1x512) ![0, 0, 0] S2x1x512.size inb_S2x1x512_S2x1x512_0_0_0, k0_pay59⟩])
      (arg11.view.writes (Elt F) arg11.view.junk [⟨Rect.unit (s := S2x1x512) ![0, 0, 0] S2x1x512.size inb_S2x1x512_S2x1x512_0_0_0, k0_pay60⟩])
      (arg12.view.writes (Elt F) arg12.view.junk [⟨Rect.unit (s := S2x128x512) ![0, 0, 0] S2x128x512.size inb_S2x128x512_S2x128x512_0_0_0, k0_pay61⟩]) = start := by
    unfold kept0
    rw [read_whole _ _ (by decide), read_whole _ _ (by decide), read_whole _ _ (by decide)]; rfl
  have s1 : kept1 arg10.view arg11.view arg12.view
      (arg10.view.writes (Elt F) arg10.view.junk [⟨Rect.unit (s := S2x1x512) ![0, 0, 0] S2x1x512.size inb_S2x1x512_S2x1x512_0_0_0, k0_pay59⟩])
      (arg11.view.writes (Elt F) arg11.view.junk [⟨Rect.unit (s := S2x1x512) ![0, 0, 0] S2x1x512.size inb_S2x1x512_S2x1x512_0_0_0, k0_pay60⟩])
      (arg12.view.writes (Elt F) arg12.view.junk [⟨Rect.unit (s := S2x128x512) ![0, 0, 0] S2x128x512.size inb_S2x128x512_S2x128x512_0_0_0, k0_pay61⟩]) = start := by
    unfold kept1
    rw [read_whole _ _ (by decide), read_whole _ _ (by decide), read_whole _ _ (by decide)]; rfl
  obtain ⟨b0, b1⟩ := kept_after Variants.none c none i arg3 harg3 arg4 harg4 arg5 harg5 arg6 harg6 arg7 harg7 arg8 harg8 arg9 harg9 arg10 harg10 arg11 harg11 arg12 harg12 q0 q1 x4 x5 _ _ _ s0 s1 (k0_t1_loop i).trips le_rfl _ rfl
  generalize pb_k0_t1 (F := F) Variants.none c none i arg3 harg3 arg4 harg4 arg5 harg5 arg6 harg6 arg7 harg7 arg8 harg8 arg9 harg9 arg10 harg10 arg11 harg11 arg12 harg12 (BitVec.ofNat 32 (i 2).val) (k0_pay43 i) (Scalar.muli (BitVec.ofNat 32 (i 2).val) 512#32) q0 q1 k0_pay54 k0_pay55 k0_pay56 16#32 k0_pay57
      (harg7.unread x4) (harg8.unread x5) _ _ _ _ = L at b0 b1 ⊢
  unfold kept0 at b0
  unfold kept1 at b1
  have b0m := congrArg Acc.m b0; have b0l := congrArg Acc.l b0; have b0o := congrArg Acc.o b0
  have b1m := congrArg Acc.m b1; have b1l := congrArg Acc.l b1; have b1o := congrArg Acc.o b1
  dsimp only at b0m b0l b0o b1m b1l b1o
  simp only [read_same, read_apart _ _ _ _ _ _ r0_apart, read_apart _ _ _ _ _ _ r1_apart, read_apart _ _ _ _ _ _ t0_apart, read_apart _ _ _ _ _ _ t1_apart,
    View.writes_append, b0m, b0l, b0o, b1m, b1l, b1o]
  rfl

end Cert.KernelIdeal.Attn

end
-- ==== Proof.Launch.lean ====
/- The launch of the attention kernel with the named logarithm: what each grid point
leaves in its output block is `outBlock` at the point's input blocks, so the whole run leaves
the output array as those blocks, side by side, and every argument as it was. -/
module

public import proofs.«01_k».proof.Proof.Body
public import Idealize.ShloMosaic.Lib.Claim
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-- Reading a buffer whose last writing covered it whole gives what was written. -/
theorem read_full {κ : Kind} {sp : Space} {s : Shape} {e : EltTy} (V : View sig κ sp s e) (f) {off : Fin s.rank → ℕ}
    {inb : ∀ d, off d + s.size d ≤ s.size d} (hoff : off = fun _ => 0) (w : s.Idx → Elt F e) :
    V.read (Elt F) (V.writes (Elt F) f [⟨Rect.unit off s.size inb, w⟩]) = w := by
  subst hoff
  rw [View.read_writes_eq_canon V f _ (fun y => ⟨_, List.mem_cons_self, by
    rw [Rect.mem_set_unit]; exact fun a => ⟨Nat.zero_le _, by have := (y a).isLt; omega⟩⟩), View.canon_unit_zero rfl]

/-- What the body leaves in the output block at a grid point. -/
def result (c : Dev nD) (t : Fin cfg0.N) : Vec F S512x128 .bf16 :=
  outBlock (grid0.coords t) (iblk m c 0 t) (iblk m c 1 t) (iblk m c 2 t) (iblk m c 3 t) (iblk m c 4 t) (iblk m c 5 t)

/-- The contents the proof follows: every input block as fetched, the output block at `result`. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => result m c t
  Φ _ := Pipeline.ΦA spec0 c
  q _ := fullShare
  owed _ := 0

theorem data_A (c : Dev nD) (w : Fin cfg0.W) : (data m 0 c).A w = V m c (Pipeline.arrRef spec0 w) := by
  dsimp only [data]

theorem left0 (c : Dev nD) (t : Fin cfg0.N) : (data m 0 c).after 0 t = iblk m c 0 t := by dsimp only [data]
theorem left1 (c : Dev nD) (t : Fin cfg0.N) : (data m 0 c).after 1 t = iblk m c 1 t := by dsimp only [data]
theorem left2 (c : Dev nD) (t : Fin cfg0.N) : (data m 0 c).after 2 t = iblk m c 2 t := by dsimp only [data]
theorem left3 (c : Dev nD) (t : Fin cfg0.N) : (data m 0 c).after 3 t = iblk m c 3 t := by dsimp only [data]
theorem left4 (c : Dev nD) (t : Fin cfg0.N) : (data m 0 c).after 4 t = iblk m c 4 t := by dsimp only [data]
theorem left5 (c : Dev nD) (t : Fin cfg0.N) : (data m 0 c).after 5 t = iblk m c 5 t := by dsimp only [data]
theorem left6 (c : Dev nD) (t : Fin cfg0.N) : (data m 0 c).after 6 t = result m c t := by dsimp only [data]

theorem found0 (c : Dev nD) (t : Fin cfg0.N) (d) : (data m 0 c).before 0 t d = iblk m c 0 t :=
  before0_0_of m (data m 0 c) (data_A m c 0) (left0 m c) t d
theorem found1 (c : Dev nD) (t : Fin cfg0.N) (d) : (data m 0 c).before 1 t d = iblk m c 1 t :=
  before0_1_of m (data m 0 c) (data_A m c 1) (left1 m c) t d
theorem found2 (c : Dev nD) (t : Fin cfg0.N) (d) : (data m 0 c).before 2 t d = iblk m c 2 t :=
  before0_2_of m (data m 0 c) (data_A m c 2) (left2 m c) t d
theorem found3 (c : Dev nD) (t : Fin cfg0.N) (d) : (data m 0 c).before 3 t d = iblk m c 3 t :=
  before0_3_of m (data m 0 c) (data_A m c 3) (left3 m c) t d
theorem found4 (c : Dev nD) (t : Fin cfg0.N) (d) : (data m 0 c).before 4 t d = iblk m c 4 t :=
  before0_4_of m (data m 0 c) (data_A m c 4) (left4 m c) t d
theorem found5 (c : Dev nD) (t : Fin cfg0.N) (d) : (data m 0 c).before 5 t d = iblk m c 5 t :=
  before0_5_of m (data m 0 c) (data_A m c 5) (left5 m c) t d

/-- What the body starts from at a point, window by window. -/
def startOf (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d)))

/-- What it ends with. -/
def endOf (c : Dev nD) (t : Fin cfg0.N) : sProp 𝕄 :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t)
    ∗ owns (c : Thread nD τ) (ms0_4 t) fullShare ((data m 0 c).after 4 t)
    ∗ owns (c : Thread nD τ) (ms0_5 t) fullShare ((data m 0 c).after 5 t)
    ∗ owns (c : Thread nD τ) (ms0_6 t) fullShare ((data m 0 c).after 6 t))

set_option maxHeartbeats 800000 in
theorem point_sound (c : Dev nD) (t : Fin cfg0.N) :
    startOf m c t ⊢ wp frame (wpE (defs₀ (F := F)) Variants.none c none) Set.univ (bodyAt0 t) (fun _ => endOf m c t) := by
  unfold startOf endOf bodyAt0
  simp only [found0, found1, found2, found3, found4, found5]
  rw [show (data m 0 c).Φ t.succ = (data m 0 c).Φ t.castSucc from rfl,
    show (data m 0 c).owesAt () t.succ = (data m 0 c).owesAt () t.castSucc from rfl,
    left0, left1, left2, left3, left4, left5, left6]
  rw [show (data m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((run c (grid0.coords t) _ _ _ _ _ _ _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, ⟨%e6, H6⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  rw [run_pieces]
  exact read_full (s := S512x128) (off := ![0, 0]) _ _ (by decide) _

/-- The table's entry for the body is the body. -/
theorem body_entry (t : Fin cfg0.N) :
    defs₀ (F := F) .tc cfg0.body (cfg0.bodyArgs t (cfg0.slots t)) = bodyAt0 t := by
  unfold defs₀; rw [Defs.onTc_tc]

theorem every_point (c : Dev nD) : BodyObligation (data (F := F) m 0 c) (defs₀ (F := F)) Variants.none () Set.univ := fun t => by
  rw [bigSep_W0, bigSep_W0, body_entry]
  exact triple_restated (point_sound m c t) rfl .rfl fun _ => .rfl

set_option backward.isDefEq.respectTransparency.types false in
/-- The whole program runs, and every semaphore counter ends at zero. -/
theorem launch : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (every_point m c).loose) (hshare := fun c => (data m 0 c).share_full fun _ => rfl)
    (howed := fun _ _ => rfl) (V := V m) (hmain := hmain m Variants.none) (hA := data_A m) (hΦ := fun _ _ => rfl)

theorem launch_post : θ_run defs (onTc (τ := τ) (main (F := F))) (s₀ m ρ) (Pipeline.FramePost cfgs (data m) 0 (V m)) :=
  (θ_run defs _ _).mono (fun _ h => h.1) (launch m ρ)

/-- The arguments end unchanged and the counters at zero. -/
theorem frame_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (data m) (data_A m) (launch_post m ρ)) ((θ_run defs _ _).mono (fun _ h => h.2) (launch m ρ))

/-! ## The output array, block by block -/

/-- Distinct grid points write distinct blocks. -/
theorem index_inj : ∀ t t' : Fin cfg0.N, win0_6.index t = win0_6.index t' → t = t' :=
  (by decide +kernel : ∀ t t' : Fin grid0.N, win0_6.index t = win0_6.index t' → t = t')

theorem block_apart : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (index_inj t t' h)

/-- The final array's block at a grid point is what the body left there. -/
theorem block_of (c : Dev nD) (t : Fin cfg0.N) (hf : (cfg0.win 6).flush t = true) :
    ((cfg0.win 6).blk t).view.read (Elt F) ((data m 0 c).arrAt 6 cfg0.N) = (cfg0.win 6).cut (grid0.coords t) (result m c t) := by
  rw [(data m 0 c).read_blk_arrAt_eq_flushed 6 block_apart cfg0.N t t.isLt hf]
  show (cfg0.win 6).cut (grid0.coords t) ((data m 0 c).after 6 t) = _
  rw [left6]

/-- After the run the result buffer holds that array, and the arguments are as launched. -/
theorem run_array : θ_run defs (onTc (τ := τ) (main (F := F))) ⟨m, fun _ => 0, ρ⟩ fun r => ∀ c : Dev nD,
      r.2.mem ((c.tc : Thread nD τ).loc main_v50) = (data m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1 6,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (launch_post m ρ)

end Cert.KernelIdeal.Attn

end
-- ==== Proof.StepValue.lean ====
/- One block of keys met, read one query at a time over extended reals. -/
module

public import proofs.«01_k».proof.Proof.Step
public import proofs.«01_k».proof.Proof.Softmax
public import Idealize.ShloMosaic.Lib.Pointwise
public import Idealize.ShloMosaic.Lib.IdealHost

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The pattern of minus infinity. -/
theorem bottom : Ideal.ofBits .f32 0xFF800000#32 = ⊥ := by
  simp [Ideal.ofBits, Ideal.ieee]

theorem newMax_apply (S : FVec Ideal S512x512 .f32) (sh : FVec Ideal S1x512 .f32) (m : Vec Ideal S1x1x512 .f32) (i : Fin 512) :
    newMax S sh m (ix2 0 i) = max (m (ix3 0 0 i)) (Finset.univ.fold max ⊥ (fun j : Fin 512 => S (ix2 j i)) + sh (ix2 0 i)) := by
  unfold newMax
  pointwise
  rw [bottom]

theorem weights_apply (S : FVec Ideal S512x512 .f32) (sh : FVec Ideal S1x512 .f32) (m : Vec Ideal S1x1x512 .f32) (j i : Fin 512) :
    weights S sh m (ix2 j i) = Ideal.exp2 (S (ix2 j i) - (newMax S sh m (ix2 0 i) - sh (ix2 0 i))) := by
  unfold weights
  pointwise
  rfl

theorem fade_apply (S : FVec Ideal S512x512 .f32) (sh : FVec Ideal S1x512 .f32) (m : Vec Ideal S1x1x512 .f32) (i : Fin 512) :
    fade S sh m (ix2 0 i) = Ideal.exp2 (m (ix3 0 0 i) - newMax S sh m (ix2 0 i)) := by
  unfold fade
  pointwise
  rfl

theorem step_m (S : FVec Ideal S512x512 .f32) (sh : FVec Ideal S1x512 .f32) (v : FVec Ideal S128x512 .bf16) (a : Acc Ideal) (i : Fin 512) :
    (step S sh v a).m (ix3 0 0 i) = newMax S sh a.m (ix2 0 i) := by
  unfold step
  pointwise

theorem step_l (S : FVec Ideal S512x512 .f32) (sh : FVec Ideal S1x512 .f32) (v : FVec Ideal S128x512 .bf16) (a : Acc Ideal) (i : Fin 512) :
    (step S sh v a).l (ix3 0 0 i) = fade S sh a.m (ix2 0 i) * a.l (ix3 0 0 i) + ∑ j : Fin 512, weights S sh a.m (ix2 j i) := by
  unfold step
  pointwise

theorem step_o (S : FVec Ideal S512x512 .f32) (sh : FVec Ideal S1x512 .f32) (v : FVec Ideal S128x512 .bf16) (a : Acc Ideal) (e : Fin 128) (i : Fin 512) :
    (step S sh v a).o (ix3 0 e i) = fade S sh a.m (ix2 0 i) * a.o (ix3 0 e i) + ∑ j : Fin 512, v (ix2 e j) * weights S sh a.m (ix2 j i) := by
  unfold step
  pointwise

end Cert.KernelIdeal.Attn

end
-- ==== Proof.Scores.lean ====
/- The position columns, the bias rows, the queries, the shifts and the scores read at an index over extended reals. -/
module

public import proofs.«01_k».proof.Proof.StepValue
public import Idealize.ShloMosaic.Lib.Pointwise
public import Idealize.ShloMosaic.Lib.IdealHost
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
open Idealize.ShloMosaic.Pointwise

/-- A position over sixteen. -/
theorem sixteenths (j : Fin 512) (t : Fin 128) : k0_pay55 (ix2 j t) = BitVec.ofNat 32 (j.val / 16) := by
  unfold k0_pay55
  pointwise
  revert j
  decide +kernel

/-- A number as it is turned into a float. -/
theorem toFloat (n : ℕ) (h : n < 512) : FloatOps.sitofp (F := Ideal) .f32 (BitVec.ofNat 32 n) = ((n : ℝ) : EReal) := by
  show (((BitVec.ofNat 32 n).toInt : ℝ) : EReal) = _
  rw [WordCmp.toInt_ofNat_of_lt (by omega)]
  simp

/-- A position's rest by sixteen, as the words compute it. -/
theorem rests : ∀ j : Fin 512, Scalar.select
      (IntOp.andi
        (IntOp.xori
          (IntOp.cmpi CmpIPredicate.slt
            (IntOp.remsi ArithUnit.vector (BitVec.ofNat 32 j.val)
              (Scalar.select (Scalar.cmpi CmpIPredicate.eq 16#32 0#32) 1#32 16#32))
            0#32)
          (Scalar.cmpi CmpIPredicate.slt 16#32 0#32))
        (IntOp.cmpi CmpIPredicate.ne
          (IntOp.remsi ArithUnit.vector (BitVec.ofNat 32 j.val)
            (Scalar.select (Scalar.cmpi CmpIPredicate.eq 16#32 0#32) 1#32 16#32))
          0#32))
      (IntOp.addi
        (IntOp.remsi ArithUnit.vector (BitVec.ofNat 32 j.val)
          (Scalar.select (Scalar.cmpi CmpIPredicate.eq 16#32 0#32) 1#32 16#32))
        16#32)
      (IntOp.remsi ArithUnit.vector (BitVec.ofNat 32 j.val)
        (Scalar.select (Scalar.cmpi CmpIPredicate.eq 16#32 0#32) 1#32 16#32)) = BitVec.ofNat 32 (j.val % 16) := by
  decide +kernel

theorem positions_apply (j : Fin 512) (t : Fin 128) :
    positions (F := Ideal) (ix2 j t) = if t.val < 4 then (((j.val / 16 : ℕ) : ℝ) : EReal) else if t.val < 8 then (((j.val % 16 : ℕ) : ℝ) : EReal) else 0 := by
  unfold positions k0_pay58 k0_pay57 k0_pay54 k0_pay56
  pointwise
  rw [rests, sixteenths]
  have ht := t.isLt
  have hj := j.isLt
  word_cmp
  split
  · exact toFloat _ (by omega)
  · split
    · exact toFloat _ (by omega)
    · rw [show (0#32 : BitVec 32) = BitVec.ofNat 32 0 from rfl, toFloat 0 (by omega)]
      simp

theorem biasRows_apply (x2 : Vec Ideal S1x8x1 .f32) (t : Fin 128) (i : Fin 512) :
    biasRows x2 (ix2 t i) = if h : t.val < 7 then x2 (ix3 0 ⟨t.val, by omega⟩ 0) else 0 := by
  unfold biasRows k0_pay46 k0_pay47 k0_pay48
  pointwise
  obtain ⟨t, ht⟩ := t
  word_cmp
  by_cases h : t < 7
  · rw [dif_pos h]
    interval_cases t <;> rfl
  · rw [dif_neg h]
    repeat' rw [if_neg (by omega)]

theorem low_rows (x2 : Vec Ideal S1x8x1 .f32) (t : Fin 128) (i : Fin 512) :
    k0_pay51 (biasRows x2) (k0_pay49 (iota .tc S128x512 32 [0] iota_S128x512_d0_w32))
      (k0_pay50 (View.ld x2 (Rect.unit (s := S1x8x1) ![0, 7, 0] S1x1x1.size inb_S1x8x1_S1x1x1_0_7_0))) (ix2 t i)
      = if h : t.val < 8 then x2 (ix3 0 ⟨t.val, h⟩ 0) else 0 := by
  unfold k0_pay51 k0_pay49 k0_pay50
  pointwise
  rw [biasRows_apply]
  obtain ⟨t, ht⟩ := t
  word_cmp
  by_cases h : t = 7
  · subst h
    rfl
  · rw [if_neg h]
    by_cases h8 : t < 7
    · rw [dif_pos h8, dif_pos (by omega)]
    · rw [dif_neg h8, dif_neg (by omega)]

theorem queries0_top (x2 : Vec Ideal S1x8x1 .f32) (x3 : Vec Ideal S1x128x512 .bf16) (d : Fin 128) (i : Fin 512) :
    queries0 x2 x3 (ix2 ⟨d.val, by omega⟩ i) = if d.val < 64 then x3 (ix3 0 d i) else 0 := by
  unfold queries0 k0_pay52 k0_pay44 k0_pay45
  pointwise
  have hd := d.isLt
  word_cmp

theorem queries0_low (x2 : Vec Ideal S1x8x1 .f32) (x3 : Vec Ideal S1x128x512 .bf16) (t : Fin 128) (i : Fin 512) :
    queries0 x2 x3 (ix2 ⟨128 + t.val, by omega⟩ i) = if h : t.val < 8 then x2 (ix3 0 ⟨t.val, h⟩ 0) else 0 := by
  rw [← low_rows x2 t i]
  unfold queries0 k0_pay52
  pointwise

theorem queries1_top (x2 : Vec Ideal S1x8x1 .f32) (x3 : Vec Ideal S1x128x512 .bf16) (d : Fin 128) (i : Fin 512) :
    queries1 x2 x3 (ix2 ⟨d.val, by omega⟩ i) = if 64 ≤ d.val then x3 (ix3 0 d i) else 0 := by
  unfold queries1 k0_pay53 k0_pay44 k0_pay45
  pointwise
  have hd := d.isLt
  word_cmp

theorem queries1_low (x2 : Vec Ideal S1x8x1 .f32) (x3 : Vec Ideal S1x128x512 .bf16) (t : Fin 128) (i : Fin 512) :
    queries1 x2 x3 (ix2 ⟨128 + t.val, by omega⟩ i) = if h : t.val < 8 then x2 (ix3 0 ⟨t.val, h⟩ 0) else 0 := by
  rw [← low_rows x2 t i]
  unfold queries1 k0_pay53
  pointwise

theorem scores_apply (q : FVec Ideal S256x512 .bf16) (k : Vec Ideal S512x128 .bf16) (j i : Fin 512) :
    k0_pay4 q positions k (ix2 j i) = (∑ d : Fin 128, k (ix2 j d) * q (ix2 ⟨d.val, by omega⟩ i))
      + ∑ t : Fin 128, positions (ix2 j t) * q (ix2 ⟨128 + t.val, by omega⟩ i) := by
  unfold k0_pay4 k0_pay1
  pointwise

theorem masked_apply (q : FVec Ideal S256x512 .bf16) (k : Vec Ideal S512x128 .bf16) (j i : Fin 512) :
    k0_pay70 q positions k (ix2 j i) = if j.val ≤ i.val then k0_pay4 q positions k (ix2 j i) else ⊥ := by
  unfold k0_pay70 k0_pay69 k0_pay66 k0_pay4 k0_pay1
  pointwise
  have hi := i.isLt
  have hj := j.isLt
  rw [bottom]
  word_cmp

end Cert.KernelIdeal.Attn

end
-- ==== Proof.Column.lean ====
/- What the body keeps for one query of one component, as sums over the keys met. -/
module

public import proofs.«01_k».proof.Proof.Scores
public import proofs.«01_k».proof.Proof.Body
public import proofs.«01_k».proof.Proof.Meaning

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
open Idealize.ShloMosaic.Pointwise Cert.Softmax Cert.Attention

theorem headSlope (i : grid0.Coords) : k0_pay43 (F := Ideal) i = ((slope (i 1).val * invLn2 : ℝ) : EReal) := by
  rw [EReal.coe_mul]
  have hlog : (Named.named (F := Ideal) κ "log2e" 0x3FB8AA3B#32 : Ideal .f32) = (invLn2 : EReal) :=
    IdealRules.named_const.ideal_named_scalar _ _ _ _ rfl
  have h : ∀ a : Fin 4, (Scalar.select (Scalar.cmpi .eq (BitVec.ofNat 32 a.val) 3#32) (Ideal.ofBits .f32 0x3B800000#32)
      (Scalar.select (Scalar.cmpi .eq (BitVec.ofNat 32 a.val) 2#32) (Ideal.ofBits .f32 0x3C800000#32)
        (Scalar.select (Scalar.cmpi .eq (BitVec.ofNat 32 a.val) 1#32) (Ideal.ofBits .f32 0x3D800000#32)
          (Scalar.select (Scalar.cmpi .eq (BitVec.ofNat 32 a.val) 0#32) (Ideal.ofBits .f32 0x3E800000#32)
            (Ideal.ofBits .f32 0x00000000#32))))) = ((slope a.val : ℝ) : EReal) := by
    intro a
    rw [quarter, sixteenth, sixtyFourth, two56th]
    fin_cases a <;> rfl
  rw [← h (i 1), ← hlog]
  rfl

/-- The words of a block's distance from the queries' block. -/
theorem distance : ∀ k q : Fin 8, (Scalar.subi (Scalar.muli (Scf.iv 0#32 1#32 k.val) 512#32) (Scalar.muli (BitVec.ofNat 32 q.val) 512#32)).toInt
    = 512 * (k.val : ℤ) - 512 * (q.val : ℤ) := by decide +kernel

theorem trip_lt (i : grid0.Coords) (k : Fin (k0_t1_loop i).trips) : k.val < 8 :=
  lt_trans (lt_of_lt_of_eq k.isLt (block_trips i)) (i 2).isLt

theorem shiftAt_apply (i : grid0.Coords) (k : Fin (k0_t1_loop i).trips) (r : Fin 512) :
    shiftAt (F := Ideal) i k (ix2 0 r) = (((512 * (k.val : ℝ) - 512 * ((i 2).val : ℝ)) * (slope (i 1).val * invLn2) : ℝ) : EReal) := by
  unfold shiftAt k0_pay3
  rw [headSlope]
  have hk : k.val < 8 := trip_lt i k
  have h := distance ⟨k.val, hk⟩ (i 2)
  pointwise
  show ((BitVec.toInt _ : ℝ) : EReal) * ((_ : ℝ) : EReal) = _
  rw [← EReal.coe_mul]
  erw [h]
  push_cast
  rfl

theorem noDistance : ∀ q : Fin 8, (Scalar.subi (Scalar.muli (BitVec.ofNat 32 q.val) 512#32) (Scalar.muli (BitVec.ofNat 32 q.val) 512#32)).toInt
    = 0 := by decide +kernel

theorem shiftDiag_apply (i : grid0.Coords) (r : Fin 512) :
    k0_pay68 (F := Ideal) (BitVec.ofNat 32 (i 2).val) (k0_pay43 i) (Scalar.muli (BitVec.ofNat 32 (i 2).val) 512#32) (ix2 0 r) = ((0 : ℝ) : EReal) := by
  unfold k0_pay68
  rw [headSlope]
  have h := noDistance (i 2)
  pointwise
  show ((BitVec.toInt _ : ℝ) : EReal) * _ = _
  erw [h]
  simp

theorem keysAt_apply (i : grid0.Coords) (x4 : Vec Ideal S4096x128 .bf16) (k : Fin (k0_t1_loop i).trips) (hk : k.val < 8) (j : Fin 512) (d : Fin 128) :
    keysAt i x4 k (ix2 j d) = x4 (ix2 ⟨512 * k.val + j.val, by omega⟩ d) := by
  have h := k0_off1_eq i k
  unfold keysAt
  pointwise
  congr 2 <;> ext <;> simp [h]

theorem valuesAt_apply (i : grid0.Coords) (x5 : Vec Ideal S8x128x512 .bf16) (k : Fin (k0_t1_loop i).trips) (hk : k.val < 8) (e : Fin 128) (j : Fin 512) :
    k0_pay2 (valuesAt i x5 k) (ix2 e j) = x5 (ix3 ⟨k.val, hk⟩ e j) := by
  have h := k0_off2_eq i k
  unfold valuesAt k0_pay2
  pointwise
  congr 2 <;> ext <;> simp [h]

theorem keysDiag_apply (i : grid0.Coords) (x4 : Vec Ideal S4096x128 .bf16) (hi : (i 2).val < 8) (j : Fin 512) (d : Fin 128) :
    keysDiag i x4 (ix2 j d) = x4 (ix2 ⟨512 * (i 2).val + j.val, by omega⟩ d) := by
  have h := k0_off5_eq i
  unfold keysDiag
  pointwise
  congr 2 <;> ext <;> simp [h]

theorem valuesDiag_apply (i : grid0.Coords) (x5 : Vec Ideal S8x128x512 .bf16) (hi : (i 2).val < 8) (e : Fin 128) (j : Fin 512) :
    k0_pay67 (valuesDiag i x5) (ix2 e j) = x5 (ix3 ⟨(i 2).val, hi⟩ e j) := by
  have h := k0_off6_eq i
  unfold valuesDiag k0_pay67
  pointwise
  congr 2 <;> ext <;> simp [h]

/-- The eight bias terms over the reals, and nothing below: the first term of the split is the whole slope. -/
def biasTerm (σ : ℝ) (t : ℕ) : ℝ := if t = 0 then 16 * σ else if t = 4 then σ else 0

/-- A score is the product of key and query, and the slope times the key's position in its block. -/
theorem scores_real (q : FVec Ideal S256x512 .bf16) (k : Vec Ideal S512x128 .bf16) (Q K : Fin 128 → ℝ) (σ : ℝ) (j i : Fin 512)
    (hq : ∀ d : Fin 128, q (ix2 ⟨d.val, by omega⟩ i) = (Q d : EReal))
    (hl : ∀ t : Fin 128, q (ix2 ⟨128 + t.val, by omega⟩ i) = (biasTerm σ t.val : EReal))
    (hk : ∀ d : Fin 128, k (ix2 j d) = (K d : EReal)) :
    k0_pay4 q positions k (ix2 j i) = ((∑ d, K d * Q d + (j.val : ℝ) * σ : ℝ) : EReal) := by
  have hp : ∀ t : Fin 128, positions (F := Ideal) (ix2 j t)
      = ((if t.val < 4 then ((j.val / 16 : ℕ) : ℝ) else if t.val < 8 then ((j.val % 16 : ℕ) : ℝ) else 0 : ℝ) : EReal) := by
    intro t
    rw [positions_apply]
    split_ifs <;> rfl
  rw [scores_apply]
  simp only [hq, hl, hk, hp, ← EReal.coe_mul]
  rw [← coe_sum, ← coe_sum, ← EReal.coe_add]
  congr 2
  rw [Fintype.sum_eq_add (0 : Fin 128) (4 : Fin 128) (by decide)]
  · have h : (j.val : ℝ) = ((j.val / 16 : ℕ) : ℝ) * 16 + ((j.val % 16 : ℕ) : ℝ) := by
      exact_mod_cast (Nat.div_add_mod' j.val 16).symm
    have h0 : (0 : Fin 128).val = 0 := rfl
    have h4 : (4 : Fin 128).val = 4 := rfl
    rw [h0, h4]
    simp only [biasTerm]
    norm_num
    rw [h]
    push_cast
    ring
  · rintro t ⟨h0, h4⟩
    have h0 : t.val ≠ 0 := fun h => h0 (Fin.ext h)
    have h4 : t.val ≠ 4 := fun h => h4 (Fin.ext h)
    simp [biasTerm, h0, h4]

/-- One block met, for one query and one entry of the values. -/
theorem kept_block (S : FVec Ideal S512x512 .f32) (sh : FVec Ideal S1x512 .f32) (v : FVec Ideal S128x512 .bf16) (a : Acc Ideal)
    (e : Fin 128) (r : Fin 512) (keep : Fin 512 → Prop) [DecidablePred keep] (s u : Fin 512 → ℝ) (h L O : ℝ)
    (hS : ∀ j, S (ix2 j r) = if keep j then (s j : EReal) else ⊥) (hk : ∃ j, keep j) (hv : ∀ j, v (ix2 e j) = (u j : EReal))
    (hsh : sh (ix2 0 r) = (h : EReal)) (hK : Kept (a.m (ix3 0 0 r)) (a.l (ix3 0 0 r)) (a.o (ix3 0 e r)) L O) :
    Kept ((step S sh v a).m (ix3 0 0 r)) ((step S sh v a).l (ix3 0 0 r)) ((step S sh v a).o (ix3 0 e r))
      (L + ∑ j, if keep j then (2 : ℝ) ^ (s j + h) else 0) (O + ∑ j, u j * if keep j then (2 : ℝ) ^ (s j + h) else 0) := by
  rw [step_m, step_l, step_o, fade_apply]
  simp only [weights_apply, hsh]
  exact kept_step (fun j => S (ix2 j r)) (fun j => v (ix2 e j)) keep s u h hS hk hv _ _ _ _ L O hK (by rw [newMax_apply, hsh])

/-- The weight of key `k` for a query `Q` of block `n`: two to the score and the slope times the distance from the block. -/
def weight (Q : Fin 128 → ℝ) (K : ℕ → Fin 128 → ℝ) (σ : ℝ) (n k : ℕ) : ℝ :=
  (2 : ℝ) ^ (∑ d, K k d * Q d + ((k : ℝ) - 512 * (n : ℝ)) * σ)

section column

variable (i : grid0.Coords) (q : FVec Ideal S256x512 .bf16) (x4 : Vec Ideal S4096x128 .bf16) (x5 : Vec Ideal S8x128x512 .bf16)
  (Q : Fin 128 → ℝ) (K : ℕ → Fin 128 → ℝ) (U : ℕ → ℝ) (r : Fin 512) (e : Fin 128)
  (hq : ∀ d : Fin 128, q (ix2 ⟨d.val, by omega⟩ r) = (Q d : EReal))
  (hl : ∀ t : Fin 128, q (ix2 ⟨128 + t.val, by omega⟩ r) = (biasTerm (slope (i 1).val * invLn2) t.val : EReal))
  (h4 : ∀ (k : Fin 4096) (d : Fin 128), x4 (ix2 k d) = (K k.val d : EReal))
  (h5 : ∀ (n : Fin 8) (j : Fin 512), x5 (ix3 n e j) = (U (512 * n.val + j.val) : EReal))
include hq hl h4 h5

/-- Before a block, the sums run over the keys of the blocks met. -/
theorem before_kept (n : ℕ) (hn : n ≤ (i 2).val) :
    Kept ((before i q x4 x5 n).m (ix3 0 0 r)) ((before i q x4 x5 n).l (ix3 0 0 r)) ((before i q x4 x5 n).o (ix3 0 e r))
      (∑ k ∈ Finset.range (512 * n), weight Q K (slope (i 1).val * invLn2) (i 2).val k)
      (∑ k ∈ Finset.range (512 * n), U k * weight Q K (slope (i 1).val * invLn2) (i 2).val k) := by
  induction n with
  | zero =>
    simp only [mul_zero, Finset.range_zero, Finset.sum_empty]
    have h0 : (Scalar.ofBits .f32 0x00000000#32 : Ideal .f32) = 0 := Ideal.ofBits_zero_f32
    have hb : (Scalar.ofBits .f32 0xFF800000#32 : Ideal .f32) = ⊥ := bottom
    show Kept (Scalar.ofBits .f32 0xFF800000#32 : Ideal .f32) (Scalar.ofBits .f32 0x00000000#32 : Ideal .f32) (Scalar.ofBits .f32 0x00000000#32 : Ideal .f32) 0 0
    rw [h0, hb]
    exact kept_start
  | succ n ih =>
    have ht : n < (k0_t1_loop i).trips := by rw [block_trips]; omega
    have h8 : n < 8 := trip_lt i ⟨n, ht⟩
    have hstep : before i q x4 x5 (n + 1) = step (k0_pay4 q positions (keysAt i x4 ⟨n, ht⟩)) (shiftAt i ⟨n, ht⟩)
        (k0_pay2 (valuesAt i x5 ⟨n, ht⟩)) (before i q x4 x5 n) := by
      rw [before, dif_pos ht]
    rw [hstep, Nat.mul_succ, Finset.sum_range_add, Finset.sum_range_add (fun k => U k * weight Q K (slope (i 1).val * invLn2) (i 2).val k),
      Finset.sum_range (n := 512), Finset.sum_range (fun x => U (512 * n + x) * weight Q K (slope (i 1).val * invLn2) (i 2).val (512 * n + x))]
    have hb := kept_block (k0_pay4 q positions (keysAt i x4 ⟨n, ht⟩)) (shiftAt i ⟨n, ht⟩) (k0_pay2 (valuesAt i x5 ⟨n, ht⟩)) (before i q x4 x5 n)
      e r (fun _ => True) (fun j => ∑ d, K (512 * n + j.val) d * Q d + (j.val : ℝ) * (slope (i 1).val * invLn2)) (fun j => U (512 * n + j.val))
      ((512 * (n : ℝ) - 512 * ((i 2).val : ℝ)) * (slope (i 1).val * invLn2)) _ _
      (fun j => by
        rw [if_pos trivial]
        exact scores_real q _ Q (K (512 * n + j.val)) _ j r hq hl fun d => by rw [keysAt_apply i x4 ⟨n, ht⟩ h8 j d, h4])
      ⟨0, trivial⟩
      (fun j => by rw [valuesAt_apply i x5 ⟨n, ht⟩ h8 e j, h5])
      (shiftAt_apply i ⟨n, ht⟩ r) (ih (by omega))
    simp only [if_true] at hb
    have hw : ∀ j : Fin 512, (2 : ℝ) ^ (∑ d, K (512 * n + j.val) d * Q d + (j.val : ℝ) * (slope (i 1).val * invLn2)
        + (512 * (n : ℝ) - 512 * ((i 2).val : ℝ)) * (slope (i 1).val * invLn2)) = weight Q K (slope (i 1).val * invLn2) (i 2).val (512 * n + j.val) := by
      intro j
      unfold weight
      congr 1
      push_cast
      ring
    simp only [hw] at hb
    exact hb

/-- At the end, the sums run over the keys up to the query's own. -/
theorem final_kept :
    Kept ((final i q x4 x5).m (ix3 0 0 r)) ((final i q x4 x5).l (ix3 0 0 r)) ((final i q x4 x5).o (ix3 0 e r))
      (∑ k ∈ Finset.range (512 * (i 2).val + (r.val + 1)), weight Q K (slope (i 1).val * invLn2) (i 2).val k)
      (∑ k ∈ Finset.range (512 * (i 2).val + (r.val + 1)), U k * weight Q K (slope (i 1).val * invLn2) (i 2).val k) := by
  have h8 : (i 2).val < 8 := (i 2).isLt
  have hb := kept_block (k0_pay70 q positions (keysDiag i x4)) (k0_pay68 (BitVec.ofNat 32 (i 2).val) (k0_pay43 i) (Scalar.muli (BitVec.ofNat 32 (i 2).val) 512#32))
    (k0_pay67 (valuesDiag i x5)) (before i q x4 x5 (k0_t1_loop i).trips)
    e r (fun j => j.val ≤ r.val) (fun j => ∑ d, K (512 * (i 2).val + j.val) d * Q d + (j.val : ℝ) * (slope (i 1).val * invLn2))
    (fun j => U (512 * (i 2).val + j.val)) 0 _ _
    (fun j => by
      rw [masked_apply, scores_real q _ Q (K (512 * (i 2).val + j.val)) _ j r hq hl fun d => by rw [keysDiag_apply i x4 h8 j d, h4]])
    ⟨0, Nat.zero_le _⟩
    (fun j => by rw [valuesDiag_apply i x5 h8 e j, h5])
    (shiftDiag_apply i r) (by rw [block_trips i]; exact before_kept i q x4 x5 Q K U r e hq hl h4 h5 (i 2).val le_rfl)
  have hw : ∀ j : Fin 512, (2 : ℝ) ^ (∑ d, K (512 * (i 2).val + j.val) d * Q d + (j.val : ℝ) * (slope (i 1).val * invLn2) + 0)
      = weight Q K (slope (i 1).val * invLn2) (i 2).val (512 * (i 2).val + j.val) := by
    intro j
    unfold weight
    congr 1
    push_cast
    ring
  have hs : ∀ f : ℕ → ℝ, (∑ j : Fin 512, if j.val ≤ r.val then f j.val else 0) = ∑ j ∈ Finset.range (r.val + 1), f j := by
    intro f
    rw [← Finset.sum_range (fun j => if j ≤ r.val then f j else 0), ← Finset.sum_filter]
    refine Finset.sum_congr ?_ fun _ _ => rfl
    ext j
    simp only [Finset.mem_filter, Finset.mem_range]
    omega
  simp only [hw, mul_ite, mul_zero] at hb
  rw [hs fun j => weight Q K (slope (i 1).val * invLn2) (i 2).val (512 * (i 2).val + j),
    hs fun j => U (512 * (i 2).val + j) * weight Q K (slope (i 1).val * invLn2) (i 2).val (512 * (i 2).val + j)] at hb
  generalize r.val + 1 = len at hb ⊢
  rw [Finset.sum_range_add, Finset.sum_range_add (fun k => U k * weight Q K (slope (i 1).val * invLn2) (i 2).val k)]
  exact hb

/-- The kept value over the kept weight is the weighted mean over the keys up to the query's own. -/
theorem final_mean :
    (final i q x4 x5).o (ix3 0 e r) * Ideal.div 1 ((final i q x4 x5).l (ix3 0 0 r))
      = (((∑ k ∈ Finset.range (512 * (i 2).val + (r.val + 1)), U k * weight Q K (slope (i 1).val * invLn2) (i 2).val k)
        / (∑ k ∈ Finset.range (512 * (i 2).val + (r.val + 1)), weight Q K (slope (i 1).val * invLn2) (i 2).val k) : ℝ) : EReal) :=
  kept_quotient _ _ _ _ _ (final_kept i q x4 x5 Q K U r e hq hl h4 h5)
    (Finset.sum_pos (fun _ _ => Real.rpow_pos_of_pos (by norm_num) _) ⟨0, by simp⟩)

end column

end Cert.KernelIdeal.Attn

end
-- ==== Proof.Entry.lean ====
/- What the program has computed from its arguments when the kernel's loop begins.

The host operations before the launch are sixty, each writing one buffer once. `unary_at`, `binary_at`, `nullary_at` and
`nary_at` read one of them: what its buffer holds at the end of the sixty is its function of what its operands' buffers
hold at the end of the sixty. From them follow the contents of the six buffers that the kernel reads. The four rows of
the λ vectors, the queries (scaled by `log₂ e / 8` and transposed), the keys and the values (transposed) are arguments up
to a rearrangement; the bias columns are the heads' slopes times `log₂ e` with all the lower parts of the splitting `0`,
since a rounding changes nothing on the extended reals. -/
module

public import proofs.«01_k».proof.Proof.Launch
public import proofs.«01_k».proof.Proof.Column
public import Idealize.ShloMosaic.Lib.Pipeline.ValueKit.Point

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
open Idealize.ShloMosaic.Pointwise Cert.Softmax Cert.Attention

/-- The sixty buffers written before the launch, in order. -/
def written : List (Ref sig .tc) :=
  [main_v0, main_v1, main_v2, main_v3, main_v4, main_v5, main_cst, main_v6, main_cst_0, main_v7, main_cst_1, main_v8,
    main_v9, main_v10, main_v11, main_v12, main_v13, main_v14, main_v15, main_v16, main_v17, main_v18, main_v19,
    main_cst_2, main_cst_3, main_cst_4, main_cst_5, main_v20, main_v21, main_v22, main_v23, main_v24, main_cst_6,
    main_v25, main_cst_7, main_v26, main_v27, main_v28, main_v29, main_v30, main_v31, main_v32, main_v33, main_v34,
    main_v35, main_v36, main_v37, main_v38, main_v39, main_v40, main_v41, main_v42, main_v43, main_v44, main_v45,
    main_cst_8, main_v46, main_v47, main_v48, main_v49]

theorem written_eq :
    (hostOps0 : List (HloOp τ sig (Elt Ideal))).map HloOp.writes
      = written.map fun r => {Proc.devRef (τ := τ) .tc r} := rfl

theorem after_append (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

variable (m : (ℓ : Loc nD τ sig) → Buf (Elt Ideal) ℓ) (c : Dev nD)

/-- What the buffers hold before operation `k`. -/
def stage (k : ℕ) : Valuation τ sig (Elt Ideal) :=
  StableHlo.after ((hostOps0 : List (HloOp τ sig (Elt Ideal))).take k) (fun b => m (c, b))

/-- A buffer written by none of the operations from `k` on holds at the end what it held before `k`. -/
theorem kept_from (k : ℕ) (r : Ref sig .tc) (hr : r ∉ written.drop k) :
    V m c r = stage m c k (Proc.devRef .tc r) := by
  have hs : (hostOps0 : List (HloOp τ sig (Elt Ideal))) = hostOps0.take k ++ hostOps0.drop k :=
    (List.take_append_drop k _).symm
  show StableHlo.after hostOps0 _ _ = _
  conv_lhs => rw [hs, after_append]
  refine StableHlo.after_of_writes_sub (W := written.drop k) _ _ (StableHlo.forall_writes_sub_of_map ?_) hr
  rw [List.map_drop, List.map_drop, written_eq]

/-- Operation `k`'s buffer holds at the end what the operation gave. -/
theorem op_at (k : ℕ) (op : HloOp τ sig (Elt Ideal)) (y : Ref sig .tc)
    (hop : (hostOps0 : List (HloOp τ sig (Elt Ideal)))[k]? = some op) (hy : y ∉ written.drop (k + 1)) :
    V m c y = op.result (stage m c k) (Proc.devRef .tc y) := by
  rw [kept_from m c (k + 1) y hy]
  unfold stage
  rw [List.take_succ, hop, Option.toList_some, after_append]
  rfl

theorem nullary_at (k : ℕ) (y : Ref sig .tc) {v hy}
    (hop : (hostOps0 : List (HloOp τ sig (Elt Ideal)))[k]? = some (StableHlo.nullary y v hy))
    (hw : y ∉ written.drop (k + 1)) : V m c y = v :=
  (op_at m c k _ y hop hw).trans (StableHlo.nullary_result ..)

theorem unary_at (k : ℕ) (x y : Ref sig .tc) {f hx hy}
    (hop : (hostOps0 : List (HloOp τ sig (Elt Ideal)))[k]? = some (StableHlo.unary x y f hx hy))
    (hw : y ∉ written.drop (k + 1)) (hk : x ∉ written.drop k) : V m c y = f (V m c x) :=
  (op_at m c k _ y hop hw).trans ((StableHlo.unary_result ..).trans (congrArg f (kept_from m c k x hk).symm))

theorem binary_at (k : ℕ) (a b y : Ref sig .tc) {f ha hb hy}
    (hop : (hostOps0 : List (HloOp τ sig (Elt Ideal)))[k]? = some (StableHlo.binary a b y f ha hb hy))
    (hw : y ∉ written.drop (k + 1)) (hka : a ∉ written.drop k) (hkb : b ∉ written.drop k) :
    V m c y = f (V m c a) (V m c b) :=
  (op_at m c k _ y hop hw).trans ((StableHlo.binary_result ..).trans
    (congrArg₂ f (kept_from m c k a hka).symm (kept_from m c k b hkb).symm))

theorem nary_at (k : ℕ) {n : ℕ} (xs : Fin n → Ref sig .tc) (y : Ref sig .tc) {f hx hy}
    (hop : (hostOps0 : List (HloOp τ sig (Elt Ideal)))[k]? = some (StableHlo.nary xs y f hx hy))
    (hw : y ∉ written.drop (k + 1)) (hk : ∀ j, xs j ∉ written.drop k) : V m c y = f (fun j => V m c (xs j)) :=
  (op_at m c k _ y hop hw).trans ((StableHlo.nary_result ..).trans
    (congrArg f (funext fun j => (kept_from m c k (xs j) (hk j)).symm)))

/-! ## The λ vectors -/

theorem row0_apply (d : Fin 64) : V m c main_v0 (ix2 0 d) = m ((c.tc : Thread nD τ).loc main_arg4) (ix1 d) := by
  rw [unary_at m c 0 main_arg4 main_v0 rfl (by decide) (by decide), V_main_arg4]
  pointwise

theorem row1_apply (d : Fin 64) : V m c main_v1 (ix2 0 d) = m ((c.tc : Thread nD τ).loc main_arg5) (ix1 d) := by
  rw [unary_at m c 1 main_arg5 main_v1 rfl (by decide) (by decide), V_main_arg5]
  pointwise

theorem row2_apply (d : Fin 64) : V m c main_v2 (ix2 0 d) = m ((c.tc : Thread nD τ).loc main_arg6) (ix1 d) := by
  rw [unary_at m c 2 main_arg6 main_v2 rfl (by decide) (by decide), V_main_arg6]
  pointwise

theorem row3_apply (d : Fin 64) : V m c main_v3 (ix2 0 d) = m ((c.tc : Thread nD τ).loc main_arg7) (ix1 d) := by
  rw [unary_at m c 3 main_arg7 main_v3 rfl (by decide) (by decide), V_main_arg7]
  pointwise

/-- Row `a` of the buffer of λ vectors is the `a`-th of the four. -/
theorem rows_apply (w : Fin 4 → Fin 64 → ℝ)
    (h0 : ∀ d, m ((c.tc : Thread nD τ).loc main_arg4) (ix1 d) = (w 0 d : EReal))
    (h1 : ∀ d, m ((c.tc : Thread nD τ).loc main_arg5) (ix1 d) = (w 1 d : EReal))
    (h2 : ∀ d, m ((c.tc : Thread nD τ).loc main_arg6) (ix1 d) = (w 2 d : EReal))
    (h3 : ∀ d, m ((c.tc : Thread nD τ).loc main_arg7) (ix1 d) = (w 3 d : EReal)) (a : Fin 4) (d : Fin 64) :
    V m c main_v4 (ix2 a d) = (w a d : EReal) := by
  rw [nary_at m c 4 ![main_v0, main_v1, main_v2, main_v3] main_v4 rfl (by decide) (by decide)]
  fin_cases a
  · exact (show _ = V m c main_v0 (ix2 0 d) by pointwise).trans ((row0_apply m c d).trans (h0 d))
  · exact (show _ = V m c main_v1 (ix2 0 d) by pointwise).trans ((row1_apply m c d).trans (h1 d))
  · exact (show _ = V m c main_v2 (ix2 0 d) by pointwise).trans ((row2_apply m c d).trans (h2 d))
  · exact (show _ = V m c main_v3 (ix2 0 d) by pointwise).trans ((row3_apply m c d).trans (h3 d))

/-! ## Keys, values, gains, queries -/

theorem keys_apply (r : Fin 16384) (d : Fin 512) :
    V m c main_v15 (ix2 r d) = m ((c.tc : Thread nD τ).loc main_arg1)
      (ix4 ⟨r.val / 4096, by omega⟩ ⟨r.val % 4096, by omega⟩ ⟨d.val / 128, by omega⟩ ⟨d.val % 128, by omega⟩) := by
  entry_read
  pointwise

theorem gains_apply (e : Fin 128) :
    V m c main_v19 (ix2 e 0) = m ((c.tc : Thread nD τ).loc main_arg3) (ix1 e) := by
  entry_read
  pointwise

theorem values_apply (b : Fin 32) (d r : Fin 512) :
    V m c main_v18 (ix3 b d r) = m ((c.tc : Thread nD τ).loc main_arg2)
      (ix4 ⟨b.val / 8, by omega⟩ ⟨b.val % 8 * 512 + r.val, by omega⟩ ⟨d.val / 128, by omega⟩
        ⟨d.val % 128, by omega⟩) := by
  entry_read
  pointwise

/-- The quotient of `1` by the logarithm of `2`. -/
theorem log2e : Ideal.div (1 : EReal) (Ideal.log ((2 : ℝ) : EReal)) = (invLn2 : EReal) := by
  have h2 : Real.log 2 ≠ 0 := (Real.log_pos (by norm_num)).ne'
  rw [Ideal.log_coe, if_neg (by norm_num), Ideal.div_coe h2, one_mul, one_div, invLn2]

theorem queries_apply (b : Fin 32) (d r : Fin 512) (x : ℝ)
    (hx : m ((c.tc : Thread nD τ).loc main_arg0)
      (ix5 ⟨(b.val * 512 + r.val) / 4096, by omega⟩ ⟨(b.val * 512 + r.val) % 4096, by omega⟩ ⟨d.val / 128, by omega⟩
        ⟨d.val / 64 % 2, by omega⟩ ⟨d.val % 64, by omega⟩) = (x : EReal)) :
    V m c main_v13 (ix3 b d r) = ((x * (invLn2 * (1 / 8)) : ℝ) : EReal) := by
  entry_read
  pointwise
  erw [hx]
  rw [two, log2e, eighth]
  rw [← EReal.coe_mul, ← EReal.coe_mul]

/-! ## The bias columns -/

theorem slopes_apply (h : Fin 4) : V m c main_v24 (ix1 h) = (slope h.val : EReal) := by
  rw [nary_at m c 31 ![main_v20, main_v21, main_v22, main_v23] main_v24 rfl (by decide) (by decide)]
  have e0 : V m c main_v20 (ix1 0) = (slope 0 : EReal) := by
    rw [unary_at m c 27 main_cst_2 main_v20 rfl (by decide) (by decide),
      nullary_at m c 23 main_cst_2 rfl (by decide)]
    pointwise
    exact quarter
  have e1 : V m c main_v21 (ix1 0) = (slope 1 : EReal) := by
    rw [unary_at m c 28 main_cst_3 main_v21 rfl (by decide) (by decide),
      nullary_at m c 24 main_cst_3 rfl (by decide)]
    pointwise
    exact sixteenth
  have e2 : V m c main_v22 (ix1 0) = (slope 2 : EReal) := by
    rw [unary_at m c 29 main_cst_4 main_v22 rfl (by decide) (by decide),
      nullary_at m c 25 main_cst_4 rfl (by decide)]
    pointwise
    exact sixtyFourth
  have e3 : V m c main_v23 (ix1 0) = (slope 3 : EReal) := by
    rw [unary_at m c 30 main_cst_5 main_v23 rfl (by decide) (by decide),
      nullary_at m c 26 main_cst_5 rfl (by decide)]
    pointwise
    exact two56th
  fin_cases h
  · exact (show _ = V m c main_v20 (ix1 0) by pointwise).trans e0
  · exact (show _ = V m c main_v21 (ix1 0) by pointwise).trans e1
  · exact (show _ = V m c main_v22 (ix1 0) by pointwise).trans e2
  · exact (show _ = V m c main_v23 (ix1 0) by pointwise).trans e3

theorem scaled_apply (h : Fin 4) : V m c main_v28 (ix1 h) = ((slope h.val * invLn2 : ℝ) : EReal) := by
  have e : V m c main_v27 (ix1 h) = (invLn2 : EReal) := by
    rw [unary_at m c 36 main_v26 main_v27 rfl (by decide) (by decide),
      binary_at m c 35 main_cst_7 main_v25 main_v26 rfl (by decide) (by decide) (by decide),
      nullary_at m c 34 main_cst_7 rfl (by decide),
      unary_at m c 33 main_cst_6 main_v25 rfl (by decide) (by decide), nullary_at m c 32 main_cst_6 rfl (by decide)]
    pointwise
    rw [two, log2e]
  rw [binary_at m c 37 main_v24 main_v27 main_v28 rfl (by decide) (by decide) (by decide)]
  exact (congrArg₂ (fun a b : EReal => a * b) (slopes_apply m c h) e).trans (EReal.coe_mul ..).symm

theorem first_apply (h : Fin 4) : V m c main_v30 (ix1 h) = ((slope h.val * invLn2 : ℝ) : EReal) := by
  rw [unary_at m c 39 main_v29 main_v30 rfl (by decide) (by decide),
    unary_at m c 38 main_v28 main_v29 rfl (by decide) (by decide)]
  exact scaled_apply m c h

theorem rest_apply (h : Fin 4) : V m c main_v31 (ix1 h) = (0 : EReal) := by
  rw [binary_at m c 40 main_v28 main_v30 main_v31 rfl (by decide) (by decide) (by decide)]
  refine (congrArg₂ (fun a b : EReal => a - b) (scaled_apply m c h) (first_apply m c h)).trans ?_
  show ((slope h.val * invLn2 : ℝ) : EReal) - ((slope h.val * invLn2 : ℝ) : EReal) = 0
  rw [← EReal.coe_sub, sub_self, EReal.coe_zero]

theorem second_apply (h : Fin 4) : V m c main_v33 (ix1 h) = (0 : EReal) := by
  rw [unary_at m c 42 main_v32 main_v33 rfl (by decide) (by decide),
    unary_at m c 41 main_v31 main_v32 rfl (by decide) (by decide)]
  exact rest_apply m c h

theorem rest'_apply (h : Fin 4) : V m c main_v34 (ix1 h) = (0 : EReal) := by
  rw [binary_at m c 43 main_v31 main_v33 main_v34 rfl (by decide) (by decide) (by decide)]
  exact (congrArg₂ (fun a b : EReal => a - b) (rest_apply m c h) (second_apply m c h)).trans (sub_zero _)

theorem third_apply (h : Fin 4) : V m c main_v36 (ix1 h) = (0 : EReal) := by
  rw [unary_at m c 45 main_v35 main_v36 rfl (by decide) (by decide),
    unary_at m c 44 main_v34 main_v35 rfl (by decide) (by decide)]
  exact rest'_apply m c h

theorem rest''_apply (h : Fin 4) : V m c main_v37 (ix1 h) = (0 : EReal) := by
  rw [binary_at m c 46 main_v34 main_v36 main_v37 rfl (by decide) (by decide) (by decide)]
  exact (congrArg₂ (fun a b : EReal => a - b) (rest'_apply m c h) (third_apply m c h)).trans (sub_zero _)

theorem fourth_apply (h : Fin 4) : V m c main_v39 (ix1 h) = (0 : EReal) := by
  rw [unary_at m c 48 main_v38 main_v39 rfl (by decide) (by decide),
    unary_at m c 47 main_v37 main_v38 rfl (by decide) (by decide)]
  exact rest''_apply m c h

/-- The four parts of a head's slope, side by side. -/
theorem parts_apply (h t : Fin 4) :
    V m c main_v45 (ix2 h t) = if t.val = 0 then ((slope h.val * invLn2 : ℝ) : EReal) else 0 := by
  have e0 : V m c main_v41 (ix2 h 0) = ((slope h.val * invLn2 : ℝ) : EReal) := by
    rw [unary_at m c 50 main_v30 main_v41 rfl (by decide) (by decide)]
    exact (show _ = V m c main_v30 (ix1 h) by pointwise).trans (first_apply m c h)
  have e1 : V m c main_v42 (ix2 h 0) = (0 : EReal) := by
    rw [unary_at m c 51 main_v33 main_v42 rfl (by decide) (by decide)]
    exact (show _ = V m c main_v33 (ix1 h) by pointwise).trans (second_apply m c h)
  have e2 : V m c main_v43 (ix2 h 0) = (0 : EReal) := by
    rw [unary_at m c 52 main_v36 main_v43 rfl (by decide) (by decide)]
    exact (show _ = V m c main_v36 (ix1 h) by pointwise).trans (third_apply m c h)
  have e3 : V m c main_v44 (ix2 h 0) = (0 : EReal) := by
    rw [unary_at m c 53 main_v39 main_v44 rfl (by decide) (by decide)]
    exact (show _ = V m c main_v39 (ix1 h) by pointwise).trans (fourth_apply m c h)
  rw [nary_at m c 54 ![main_v41, main_v42, main_v43, main_v44] main_v45 rfl (by decide) (by decide)]
  fin_cases t
  · exact (show _ = V m c main_v41 (ix2 h 0) by pointwise).trans e0
  · exact (show _ = V m c main_v42 (ix2 h 0) by pointwise).trans e1
  · exact (show _ = V m c main_v43 (ix2 h 0) by pointwise).trans e2
  · exact (show _ = V m c main_v44 (ix2 h 0) by pointwise).trans e3

/-- The bias columns are those of `biasTerm`. -/
theorem bias_apply (h : Fin 4) (t : Fin 8) :
    V m c main_v49 (ix3 h t 0) = (biasTerm (slope h.val * invLn2) t.val : EReal) := by
  rw [unary_at m c 59 main_v48 main_v49 rfl (by decide) (by decide),
    binary_at m c 58 main_v47 main_v45 main_v48 rfl (by decide) (by decide) (by decide),
    binary_at m c 57 main_v46 main_v45 main_v47 rfl (by decide) (by decide) (by decide),
    unary_at m c 56 main_cst_8 main_v46 rfl (by decide) (by decide), nullary_at m c 55 main_cst_8 rfl (by decide)]
  pointwise
  by_cases ht : t.val < 4
  · rw [dif_pos ht, parts_apply, sixteen, biasTerm]
    by_cases h0 : t.val = 0
    · rw [if_pos h0, if_pos h0, ← EReal.coe_mul]
    · rw [if_neg h0, if_neg h0, if_neg (by omega), mul_zero, EReal.coe_zero]
  · rw [dif_neg ht, parts_apply, biasTerm]
    show (if t.val - 4 = 0 then _ else _) = _
    rw [if_neg (show ¬t.val = 0 by omega)]
    by_cases h4 : t.val = 4
    · rw [if_pos (show t.val - 4 = 0 by omega), if_pos h4]
    · rw [if_neg (show ¬t.val - 4 = 0 by omega), if_neg h4, EReal.coe_zero]

end Cert.KernelIdeal.Attn

end
-- ==== Proof.Blocks.lean ====
/- The six blocks of a point, element by element. -/
module

public import proofs.«01_k».proof.Proof.Entry

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
open Idealize.ShloMosaic.Pointwise Cert.Softmax Cert.Attention

variable (m : (ℓ : Loc nD τ sig) → Buf (Elt Ideal) ℓ) (c : Dev nD)

theorem idx0 : ∀ t : Fin cfg0.N, (cfg0.win 0).index t = ![0, 0] := by decide +kernel
theorem idx1 : ∀ t : Fin cfg0.N, (cfg0.win 1).index t = ![0, 0] := by decide +kernel
theorem idx2 : ∀ t : Fin cfg0.N, (cfg0.win 2).index t = ![(grid0.coords t 1).val, 0, 0] := by decide +kernel
theorem idx3 : ∀ t : Fin cfg0.N, (cfg0.win 3).index t
    = ![(grid0.coords t 0).val * 8 + (grid0.coords t 2).val, (grid0.coords t 1).val, 0] := by decide +kernel
theorem idx4 : ∀ t : Fin cfg0.N, (cfg0.win 4).index t
    = ![(grid0.coords t 0).val, (grid0.coords t 1).val] := by decide +kernel
theorem idx5 : ∀ t : Fin cfg0.N, (cfg0.win 5).index t
    = ![(grid0.coords t 0).val, (grid0.coords t 1).val, 0] := by decide +kernel
theorem idx6 : ∀ t : Fin cfg0.N, (cfg0.win 6).index t
    = ![(grid0.coords t 0).val * 8 + (grid0.coords t 2).val, (grid0.coords t 1).val] := by decide +kernel

theorem bounds (i : grid0.Coords) : (i 0).val < 4 ∧ (i 1).val < 4 ∧ (i 2).val < 8 :=
  ⟨(i 0).isLt, (i 1).isLt, (i 2).isLt⟩

theorem block0 (t : Fin cfg0.N) (a : Fin 4) (d : Fin 64) : iblk m c 0 t (ix2 a d) = V m c main_v4 (ix2 a d) := by
  blk_ext [iblk, idx0 t]

theorem block1 (t : Fin cfg0.N) (e : Fin 128) : iblk m c 1 t (ix2 e 0) = V m c main_v19 (ix2 e 0) := by
  blk_ext [iblk, idx1 t]

theorem block2 (t : Fin cfg0.N) (s : Fin 8) :
    iblk m c 2 t (ix3 0 s 0) = V m c main_v49 (ix3 ⟨(grid0.coords t 1).val, (bounds _).2.1⟩ s 0) := by
  blk_ext [iblk, idx2 t]

theorem block3 (t : Fin cfg0.N) (d : Fin 128) (r : Fin 512) :
    iblk m c 3 t (ix3 0 d r) = V m c main_v13 (ix3
      ⟨(grid0.coords t 0).val * 8 + (grid0.coords t 2).val, by have := bounds (grid0.coords t); omega⟩
      ⟨(grid0.coords t 1).val * 128 + d.val, by have := bounds (grid0.coords t); omega⟩ r) := by
  blk_ext [iblk, idx3 t]

theorem block4 (t : Fin cfg0.N) (k : Fin 4096) (d : Fin 128) :
    iblk m c 4 t (ix2 k d) = V m c main_v15 (ix2
      ⟨(grid0.coords t 0).val * 4096 + k.val, by have := bounds (grid0.coords t); omega⟩
      ⟨(grid0.coords t 1).val * 128 + d.val, by have := bounds (grid0.coords t); omega⟩) := by
  blk_ext [iblk, idx4 t]

theorem block5 (t : Fin cfg0.N) (n : Fin 8) (e : Fin 128) (j : Fin 512) :
    iblk m c 5 t (ix3 n e j) = V m c main_v18 (ix3
      ⟨(grid0.coords t 0).val * 8 + n.val, by have := bounds (grid0.coords t); omega⟩
      ⟨(grid0.coords t 1).val * 128 + e.val, by have := bounds (grid0.coords t); omega⟩ j) := by
  blk_ext [iblk, idx5 t]

end Cert.KernelIdeal.Attn

end
-- ==== Proof.BlockValue.lean ====
/- The kernel's output block at an index, over the reals: the difference of two weighted means, normed. -/
module

public import proofs.«01_k».proof.Proof.Column

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
open Idealize.ShloMosaic.Pointwise Cert.Softmax Cert.Attention

theorem lam_apply (x0 : Vec Ideal S4x64 .f32) (w : Fin 4 → Fin 64 → ℝ) (h : ∀ a d, x0 (ix2 a d) = (w a d : EReal)) :
    k0_pay87 x0 (ix2 0 0) = (lam (w 0) (w 1) (w 2) (w 3) : EReal) := by
  unfold k0_pay87
  pointwise
  rw [lamInit_word]
  simp only [Finset.univ_unique, Finset.sum_singleton, h, ← EReal.coe_mul]
  rw [← coe_sum, ← coe_sum]
  show ((Real.exp _ : ℝ) : EReal) - ((Real.exp _ : ℝ) : EReal) + _ = _
  rw [← EReal.coe_sub, ← EReal.coe_add]
  rfl

theorem block_apply (v262 : FVec Ideal S1x1 .f32) (o0 : Vec Ideal S1x128x512 .f32) (l0 : Vec Ideal S1x1x512 .f32) (o1 : Vec Ideal S1x128x512 .f32)
    (l1 : Vec Ideal S1x1x512 .f32) (g : Vec Ideal S128x1 .f32) (r : Fin 512) (e : Fin 128) :
    k0_pay89 v262 (k0_pay88 o0) l0 o1 l1 g (ix2 r e)
      = normed (fun e => o0 (ix3 0 e r) * Ideal.div 1 (l0 (ix3 0 0 r)) - v262 (ix2 0 0) * (o1 (ix3 0 e r) * Ideal.div 1 (l1 (ix3 0 0 r))))
          (g (ix2 e 0)) e := by
  unfold k0_pay89 k0_pay88 normed
  pointwise

/-- A sum over the two halves of a head. -/
theorem sum_halves (f : Fin 128 → ℝ) :
    ∑ d, f d = ∑ d : Fin 64, f ⟨d.val, by omega⟩ + ∑ d : Fin 64, f ⟨64 + d.val, by omega⟩ :=
  Fin.sum_univ_add (a := 64) (b := 64) f

/-- The keys of both halves, side by side. -/
def both (K : Fin 2 → ℕ → Fin 64 → ℝ) (k : ℕ) (d : Fin 128) : ℝ :=
  if h : d.val < 64 then K 0 k ⟨d.val, h⟩ else K 1 k ⟨d.val - 64, by omega⟩

/-- The scaled queries of the first half, with nothing in the second. -/
def first (Q : Fin 2 → Fin 64 → ℝ) (d : Fin 128) : ℝ :=
  if h : d.val < 64 then Q 0 ⟨d.val, h⟩ * (invLn2 * (1 / 8)) else 0

/-- The scaled queries of the second half, with nothing in the first. -/
def second (Q : Fin 2 → Fin 64 → ℝ) (d : Fin 128) : ℝ :=
  if h : 64 ≤ d.val then Q 1 ⟨d.val - 64, by omega⟩ * (invLn2 * (1 / 8)) else 0

theorem weight_exp (Q' : Fin 128 → ℝ) (K' : ℕ → Fin 128 → ℝ) (Q : Fin 64 → ℝ) (K : ℕ → Fin 64 → ℝ) (h n r k : ℕ)
    (hs : ∑ d, K' k d * Q' d = (∑ d, Q d * K k d) / 8 * invLn2) :
    weight Q' K' (slope h * invLn2) n k = Real.exp (slope h * (r : ℝ)) * Real.exp (score Q K h (512 * n + r) k) := by
  unfold weight
  rw [hs, show (∑ d, Q d * K k d) / 8 * invLn2 + ((k : ℝ) - 512 * (n : ℝ)) * (slope h * invLn2)
    = ((∑ d, Q d * K k d) / 8 + ((k : ℝ) - 512 * (n : ℝ)) * slope h) * invLn2 by ring, two_rpow, ← Real.exp_add]
  congr 1
  unfold score
  push_cast
  ring

theorem weight_first (Q : Fin 2 → Fin 64 → ℝ) (K : Fin 2 → ℕ → Fin 64 → ℝ) (h n r k : ℕ) :
    weight (first Q) (both K) (slope h * invLn2) n k = Real.exp (slope h * (r : ℝ)) * Real.exp (score (Q 0) (K 0) h (512 * n + r) k) := by
  refine weight_exp _ _ _ _ h n r k ?_
  rw [sum_halves, Finset.sum_div, Finset.sum_mul]
  have h0 : ∀ d : Fin 64, both K k ⟨64 + d.val, by omega⟩ * first Q ⟨64 + d.val, by omega⟩ = 0 := fun d => by simp [first]
  simp only [h0, Finset.sum_const_zero, add_zero]
  refine Finset.sum_congr rfl fun d _ => ?_
  have hd := d.isLt
  simp only [both, first, hd, dif_pos]
  ring

theorem weight_second (Q : Fin 2 → Fin 64 → ℝ) (K : Fin 2 → ℕ → Fin 64 → ℝ) (h n r k : ℕ) :
    weight (second Q) (both K) (slope h * invLn2) n k = Real.exp (slope h * (r : ℝ)) * Real.exp (score (Q 1) (K 1) h (512 * n + r) k) := by
  refine weight_exp _ _ _ _ h n r k ?_
  rw [sum_halves, Finset.sum_div, Finset.sum_mul]
  have h0 : ∀ d : Fin 64, both K k ⟨d.val, by omega⟩ * second Q ⟨d.val, by omega⟩ = 0 := fun d => by
    have hd : ¬ 64 ≤ d.val := by omega
    simp [second, hd]
  simp only [h0, Finset.sum_const_zero, zero_add]
  refine Finset.sum_congr rfl fun d _ => ?_
  have h1 : ¬ 64 + d.val < 64 := by omega
  have h2 : 64 ≤ 64 + d.val := by omega
  simp only [both, second, h1, h2, dif_pos, dif_neg, not_false_eq_true, Nat.add_sub_cancel_left]
  ring

/-- One entry of the output block. -/
theorem outBlock_apply (i : grid0.Coords) (x0 : Vec Ideal S4x64 .f32) (x1 : Vec Ideal S128x1 .f32) (x2 : Vec Ideal S1x8x1 .f32) (x3 : Vec Ideal S1x128x512 .bf16)
    (x4 : Vec Ideal S4096x128 .bf16) (x5 : Vec Ideal S8x128x512 .bf16) (r : Fin 512) (e : Fin 128)
    (w : Fin 4 → Fin 64 → ℝ) (Q : Fin 2 → Fin 64 → ℝ) (K : Fin 2 → ℕ → Fin 64 → ℝ) (U : Fin 128 → ℕ → ℝ)
    (h0 : ∀ a d, x0 (ix2 a d) = (w a d : EReal))
    (h2 : ∀ t : Fin 8, x2 (ix3 0 t 0) = (biasTerm (slope (i 1).val * invLn2) t.val : EReal))
    (h3 : ∀ (c : Fin 2) (d : Fin 64), x3 (ix3 0 ⟨64 * c.val + d.val, by omega⟩ r) = ((Q c d * (invLn2 * (1 / 8)) : ℝ) : EReal))
    (h4 : ∀ (k : Fin 4096) (c : Fin 2) (d : Fin 64), x4 (ix2 k ⟨64 * c.val + d.val, by omega⟩) = (K c k.val d : EReal))
    (h5 : ∀ (e : Fin 128) (n : Fin 8) (j : Fin 512), x5 (ix3 n e j) = (U e (512 * n.val + j.val) : EReal)) :
    outBlock i x0 x1 x2 x3 x4 x5 (ix2 r e)
      = normed (fun e => ((mean (score (Q 0) (K 0) (i 1).val (512 * (i 2).val + r.val)) (U e) (512 * (i 2).val + r.val)
          - lam (w 0) (w 1) (w 2) (w 3) * mean (score (Q 1) (K 1) (i 1).val (512 * (i 2).val + r.val)) (U e) (512 * (i 2).val + r.val) : ℝ) : EReal))
        (x1 (ix2 e 0)) e := by
  have hk : ∀ (k : Fin 4096) (d : Fin 128), x4 (ix2 k d) = (both K k.val d : EReal) := by
    intro k d
    unfold both
    split_ifs with hd
    · rw [← h4 k 0 ⟨d.val, hd⟩]; congr 2; exact Fin.ext (by simp)
    · rw [← h4 k 1 ⟨d.val - 64, by omega⟩]; congr 2; exact Fin.ext (by simp; omega)
  have hq0 : ∀ d : Fin 128, queries0 x2 x3 (ix2 ⟨d.val, by omega⟩ r) = (first Q d : EReal) := by
    intro d
    rw [queries0_top]
    unfold first
    split_ifs with hd
    · rw [← h3 0 ⟨d.val, hd⟩]; congr 2; exact Fin.ext (by simp)
    · rfl
  have hq1 : ∀ d : Fin 128, queries1 x2 x3 (ix2 ⟨d.val, by omega⟩ r) = (second Q d : EReal) := by
    intro d
    rw [queries1_top]
    unfold second
    split_ifs with hd
    · rw [← h3 1 ⟨d.val - 64, by omega⟩]; congr 2; exact Fin.ext (by simp; omega)
    · rfl
  have hb : ∀ t : Fin 128, (if h : t.val < 8 then x2 (ix3 0 ⟨t.val, h⟩ 0) else 0) = (biasTerm (slope (i 1).val * invLn2) t.val : EReal) := by
    intro t
    split_ifs with ht
    · exact h2 ⟨t.val, ht⟩
    · have : t.val ≠ 0 ∧ t.val ≠ 4 := by omega
      simp [biasTerm, this.1, this.2]
  have hl0 : ∀ t : Fin 128, queries0 x2 x3 (ix2 ⟨128 + t.val, by omega⟩ r) = (biasTerm (slope (i 1).val * invLn2) t.val : EReal) := fun t => by
    rw [queries0_low, hb]
  have hl1 : ∀ t : Fin 128, queries1 x2 x3 (ix2 ⟨128 + t.val, by omega⟩ r) = (biasTerm (slope (i 1).val * invLn2) t.val : EReal) := fun t => by
    rw [queries1_low, hb]
  unfold outBlock
  rw [block_apply, lam_apply x0 w h0]
  congr 1
  funext e
  rw [final_mean i (queries0 x2 x3) x4 x5 (first Q) (both K) (U e) r e hq0 hl0 hk (h5 e),
    final_mean i (queries1 x2 x3) x4 x5 (second Q) (both K) (U e) r e hq1 hl1 hk (h5 e), ← EReal.coe_mul, ← EReal.coe_sub]
  rw [← add_assoc, mean_of_factor (score (Q 0) (K 0) (i 1).val (512 * (i 2).val + r.val)) _ _ _ _ (Real.exp_ne_zero _) (fun k => weight_first Q K (i 1).val (i 2).val r.val k),
    mean_of_factor (score (Q 1) (K 1) (i 1).val (512 * (i 2).val + r.val)) _ _ _ _ (Real.exp_ne_zero _) (fun k => weight_second Q K (i 1).val (i 2).val r.val k)]

end Cert.KernelIdeal.Attn

end
-- ==== Proof.Point.lean ====
/- A point of the kernel writes the block that the reference has there. -/
module

public import proofs.«01_k».proof.Proof.Blocks
public import proofs.«01_k».proof.Proof.BlockValue
public import proofs.«01_k».proof.Proof.RefValue

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
open Idealize.ShloMosaic.Pointwise Cert.Softmax Cert.Attention Cert.ReferenceIdeal.Attn

variable (m : (ℓ : Loc nD τ sig) → Buf (Elt Ideal) ℓ) (c : Dev nD)

/-- What the reference computes from the kernel's arguments. -/
def wanted : S16384x512.Idx → EReal :=
  Cert.ReferenceIdeal.Read.val_main_v72 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

theorem ix5_congr {n₀ n₁ n₂ n₃ n₄ : ℕ} {a a' : Fin n₀} {b b' : Fin n₁} {d d' : Fin n₂} {e e' : Fin n₃} {f f' : Fin n₄}
    (ha : a.val = a'.val) (hb : b.val = b'.val) (hd : d.val = d'.val) (he : e.val = e'.val) (hf : f.val = f'.val) :
    ix5 a b d e f = ix5 a' b' d' e' f' := by
  rw [Fin.ext ha, Fin.ext hb, Fin.ext hd, Fin.ext he, Fin.ext hf]

theorem ix4_congr {n₀ n₁ n₂ n₃ : ℕ} {a a' : Fin n₀} {b b' : Fin n₁} {d d' : Fin n₂} {e e' : Fin n₃}
    (ha : a.val = a'.val) (hb : b.val = b'.val) (hd : d.val = d'.val) (he : e.val = e'.val) :
    ix4 a b d e = ix4 a' b' d' e' := by
  rw [Fin.ext ha, Fin.ext hb, Fin.ext hd, Fin.ext he]

variable {X : ℕ → ℕ → ℕ → Fin 2 → Fin 64 → ℝ} {Y : ℕ → ℕ → Fin 2 → ℕ → Fin 64 → ℝ}
    {Z : ℕ → ℕ → Fin 128 → ℕ → ℝ} {w : Fin 4 → Fin 64 → ℝ}
  (R : Reals (m ((c.tc : Thread nD τ).loc main_arg0)) (m ((c.tc : Thread nD τ).loc main_arg1))
    (m ((c.tc : Thread nD τ).loc main_arg2)) (m ((c.tc : Thread nD τ).loc main_arg4))
    (m ((c.tc : Thread nD τ).loc main_arg5)) (m ((c.tc : Thread nD τ).loc main_arg6)) (m ((c.tc : Thread nD τ).loc main_arg7))
    X Y Z w)
include R

theorem query_block (t : Fin cfg0.N) (s : Fin 2) (d : Fin 64) (r : Fin 512) :
    iblk m c 3 t (ix3 0 ⟨64 * s.val + d.val, by omega⟩ r)
      = ((X (grid0.coords t 0).val (512 * (grid0.coords t 2).val + r.val) (grid0.coords t 1).val s d * (invLn2 * (1 / 8)) : ℝ) : EReal) := by
  have hb := bounds (grid0.coords t)
  refine (block3 m c t _ r).trans (queries_apply m c _ _ _ _ ?_)
  refine Eq.trans (congrArg _ (ix5_congr ?_ ?_ ?_ ?_ ?_))
    (R.query ⟨(grid0.coords t 0).val, hb.1⟩ ⟨512 * (grid0.coords t 2).val + r.val, by omega⟩ ⟨(grid0.coords t 1).val, hb.2.1⟩ s d)
  all_goals dsimp only; omega

theorem key_block (t : Fin cfg0.N) (k : Fin 4096) (s : Fin 2) (d : Fin 64) :
    iblk m c 4 t (ix2 k ⟨64 * s.val + d.val, by omega⟩)
      = (Y (grid0.coords t 0).val (grid0.coords t 1).val s k.val d : EReal) := by
  have hb := bounds (grid0.coords t)
  refine (block4 m c t k _).trans ((keys_apply m c _ _).trans ?_)
  refine Eq.trans (congrArg _ (ix4_congr ?_ ?_ ?_ ?_))
    (R.key ⟨(grid0.coords t 0).val, hb.1⟩ k ⟨(grid0.coords t 1).val, hb.2.1⟩ s d)
  all_goals dsimp only; omega

theorem value_block (t : Fin cfg0.N) (e : Fin 128) (n : Fin 8) (j : Fin 512) :
    iblk m c 5 t (ix3 n e j)
      = (Z (grid0.coords t 0).val (grid0.coords t 1).val e (512 * n.val + j.val) : EReal) := by
  have hb := bounds (grid0.coords t)
  refine (block5 m c t n e j).trans ((values_apply m c _ _ _).trans ?_)
  refine Eq.trans (congrArg _ (ix4_congr ?_ ?_ ?_ ?_))
    (R.value ⟨(grid0.coords t 0).val, hb.1⟩ ⟨512 * n.val + j.val, by omega⟩ ⟨(grid0.coords t 1).val, hb.2.1⟩ e)
  all_goals dsimp only; omega

theorem result_point (t : Fin cfg0.N) (r : Fin 512) (e : Fin 128) :
    result m c t (ix2 r e) = wanted m c (ix2
      ⟨4096 * (grid0.coords t 0).val + (512 * (grid0.coords t 2).val + r.val), by have := bounds (grid0.coords t); omega⟩
      ⟨128 * (grid0.coords t 1).val + e.val, by have := bounds (grid0.coords t); omega⟩) := by
  have hb := bounds (grid0.coords t)
  refine (outBlock_apply (grid0.coords t) (iblk m c 0 t) (iblk m c 1 t) (iblk m c 2 t) (iblk m c 3 t) (iblk m c 4 t)
    (iblk m c 5 t) r e w
    (X (grid0.coords t 0).val (512 * (grid0.coords t 2).val + r.val) (grid0.coords t 1).val)
    (Y (grid0.coords t 0).val (grid0.coords t 1).val)
    (Z (grid0.coords t 0).val (grid0.coords t 1).val)
    (fun a d => (block0 m c t a d).trans (rows_apply m c w R.w0 R.w1 R.w2 R.w3 a d))
    (fun s => (block2 m c t s).trans (bias_apply m c _ s))
    (fun s d => query_block m c R t s d r) (fun k s d => key_block m c R t k s d)
    (fun e n j => value_block m c R t e n j)).trans ?_
  have hg : iblk m c 1 t (ix2 e 0) = m ((c.tc : Thread nD τ).loc main_arg3) (ix1 e) := (block1 m c t e).trans (gains_apply m c e)
  rw [hg]
  exact (result_apply R (m ((c.tc : Thread nD τ).loc main_arg3)) ⟨(grid0.coords t 0).val, hb.1⟩
    ⟨512 * (grid0.coords t 2).val + r.val, by omega⟩ ⟨(grid0.coords t 1).val, hb.2.1⟩ e).symm

/-- The run leaves in the result buffer what the reference computes. -/
theorem array_eq : (data m 0 c).arrAt 6 cfg0.N = wanted m c := by
  refine (data m 0 c).arrAt_eq_of_covers 6 _ (by decide +kernel) fun t hf y => ?_
  blk_simp
  rw [left6]
  obtain ⟨r, e, rfl⟩ : ∃ (r : Fin 512) (e : Fin 128), y = ix2 r e :=
    ⟨y 0, y 1, funext fun a => match a with | ⟨0, _⟩ => rfl | ⟨1, _⟩ => rfl⟩
  refine (result_point m c R t r e).trans (congrArg (wanted m c) ?_)
  have hb := bounds (grid0.coords t)
  funext a
  refine Fin.ext ?_
  match a with
  | ⟨0, _⟩ =>
    blk_simp [idx6 t]
    dsimp only
    omega
  | ⟨1, _⟩ =>
    blk_simp [idx6 t]
    dsimp only
    omega

end Cert.KernelIdeal.Attn

end
-- ==== Proof.RoutedBody.lean ====
/- The body of the routed feed-forward kernel, run on any buffers, case by case: a tile past the
number of tiles in use is left alone until its last step, where zeros are written; a tile in use
starts its sum at the first step, adds one block of hidden columns at each step, and hands the sum
out at the last. -/
module

public import proofs.«01_k».proof.Defs
public import proofs.«01_k».proof.Proof.Gen.Kernel2Ideal.Launch
public import proofs.«01_k».proof.Proof.Gen.Kernel2Ideal.Skeleton
public import Idealize.ShloMosaic.Lib.Claim
public import Idealize.ShloMosaic.Lib.Pipeline.Value
public import Idealize.ShloMosaic.Lib.VecWindow

@[expose] public section

set_option maxRecDepth 16384

noncomputable section

namespace Cert.Kernel2Ideal.Routed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]
local notation "𝕄" => MT nD τ sig Unit (Elt F) ℕ (UR sig nD τ) ℕ

theorem zero2 : (![0, 0] : Fin 2 → ℕ) = fun _ => 0 := by decide
theorem zero3 : (![0, 0, 0] : Fin 3 → ℕ) = fun _ => 0 := by decide

section
variable (c : Dev nD) (i : grid0.Coords)
  (arg2 : Memref sig .tc .smem S40 .i32) (harg2 : arg2.IsWhole) (arg3 : Memref sig .tc .smem S1 .i32) (harg3 : arg3.IsWhole)
  (arg4 : Memref sig .tc .vmem S1024x1024 .f32) (harg4 : arg4.IsWhole) (arg5 : Memref sig .tc .vmem S1x1024x896 .bf16) (harg5 : arg5.IsWhole)
  (arg6 : Memref sig .tc .vmem S1x1024x896 .bf16) (harg6 : arg6.IsWhole) (arg7 : Memref sig .tc .vmem S1x896x1024 .bf16) (harg7 : arg7.IsWhole)
  (arg8 : Memref sig .tc .vmem S1024x1024 .f32) (harg8 : arg8.IsWhole) (arg9 : Memref sig .tc .vmem S1024x1024 .f32) (harg9 : arg9.IsWhole)
  (arg10 : Memref sig .tc .vmem S1024x1024 .bf16) (harg10 : arg10.IsWhole)
  (ft : Buf (Elt F) (arg3.view.loc (c : Thread nD τ)))
  (x : Vec F S1024x1024 .f32) (wg wu : Vec F S1x1024x896 .bf16) (wd : Vec F S1x896x1024 .bf16)

/-- The number of tiles in use, as the body reads it from its table. -/
abbrev count (arg3 : Memref sig .tc .smem S1 .i32) (ft : Buf (Elt F) (arg3.view.loc (c : Thread nD τ))) : BitVec 32 :=
  arg3.view.readAt (Elt F) (Rect.unit (s := S1) ![0] S1.size inb_S1_S1_0).toLoadRect ft (Shape.Idx.first (numel1_S1.symm ▸ Nat.one_pos))

/-- Is this the tile's first step? -/
abbrev firstStep (i : grid0.Coords) : BitVec 1 :=
  Scalar.cmpi .ne (Scalar.extui (Scalar.cmpi .eq (BitVec.ofNat 32 (i 1).val) 0#32) : BitVec 32) 0#32

/-- The buffers the body works on: the table of the number of tiles, the tile's rows, the three blocks of weights,
    the block of results, the sum so far and the rows kept rounded. -/
def held (d a : Vec F S1024x1024 .f32) (b : Vec F S1024x1024 .bf16) : sProp 𝕄 :=
  iprop((arg3.view.loc (c : Thread nD τ) ↦{fullShare.right} ft)
    ∗ owns (c : Thread nD τ) arg4 fullShare x ∗ owns (c : Thread nD τ) arg5 fullShare wg ∗ owns (c : Thread nD τ) arg6 fullShare wu
    ∗ owns (c : Thread nD τ) arg7 fullShare wd ∗ owns (c : Thread nD τ) arg8 fullShare d ∗ owns (c : Thread nD τ) arg9 fullShare a
    ∗ owns (c : Thread nD τ) arg10 fullShare b)

set_option maxHeartbeats 1000000 in
/-- A tile not in use, before its last step: nothing changes. -/
theorem run_skip (h1 : ¬ k0_cond1 i (count c arg3 ft) = 1#1) (h2 : ¬ k0_cond2 i (count c arg3 ft) = 1#1)
    (d a : Vec F S1024x1024 .f32) (b : Vec F S1024x1024 .bf16) (E : Set ℕ) (K : PUnit → sProp 𝕄) :
    iprop(held c arg3 arg4 arg5 arg6 arg7 arg8 arg9 arg10 ft x wg wu wd d a b
        ∗ (held c arg3 arg4 arg5 arg6 arg7 arg8 arg9 arg10 ft x wg wu wd d a b -∗ K ⟨⟩))
      ⊢ wp frame (wpE (defs₀ (F := F)) Variants.none c none) E
        (cc0_ffn_routed i arg2 harg2 arg3 harg3 arg4 harg4 arg5 harg5 arg6 harg6 arg7 harg7 arg8 harg8 arg9 harg9 arg10 harg10) K := by
  simp only [cc0_ffn_routed_eq_skeleton]; unfold cc0_ffn_routed_skel
  unfold held owns
  iintro ⟨⟨Ht, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  sl_exec
  sl_step
  iapply Hk
  isplitl [Ht]; · iexact Ht
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  iexists _; isplitr; swap; · iexact H6
  ipureintro; exact hf6

set_option maxHeartbeats 1000000 in
/-- A tile not in use, at its last step: the block of results is zeroed. -/
theorem run_blank (h1 : k0_cond1 i (count c arg3 ft) = 1#1) (h2 : ¬ k0_cond2 i (count c arg3 ft) = 1#1)
    (d a : Vec F S1024x1024 .f32) (b : Vec F S1024x1024 .bf16) (E : Set ℕ) (K : PUnit → sProp 𝕄) :
    iprop(held c arg3 arg4 arg5 arg6 arg7 arg8 arg9 arg10 ft x wg wu wd d a b
        ∗ (held c arg3 arg4 arg5 arg6 arg7 arg8 arg9 arg10 ft x wg wu wd (k0_pay1 (F := F)) a b -∗ K ⟨⟩))
      ⊢ wp frame (wpE (defs₀ (F := F)) Variants.none c none) E
        (cc0_ffn_routed i arg2 harg2 arg3 harg3 arg4 harg4 arg5 harg5 arg6 harg6 arg7 harg7 arg8 harg8 arg9 harg9 arg10 harg10) K := by
  simp only [cc0_ffn_routed_eq_skeleton]; unfold cc0_ffn_routed_skel
  unfold held owns
  iintro ⟨⟨Ht, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg4.eq_unread hf0; obtain rfl := harg5.eq_unread hf1; obtain rfl := harg6.eq_unread hf2
  obtain rfl := harg7.eq_unread hf3; obtain rfl := harg8.eq_unread hf4; obtain rfl := harg9.eq_unread hf5; obtain rfl := harg10.eq_unread hf6
  sl_exec
  sl_step
  iapply Hk
  isplitl [Ht]; · iexact Ht
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact View.read_writes_full _ _ _ _ _
  isplitl [H5]
  · iexists _; isplitr; swap; · iexact H5
    ipureintro; exact hf5
  iexists _; isplitr; swap; · iexact H6
  ipureintro; exact hf6

set_option maxHeartbeats 1000000 in
/-- A tile in use, at its first step: the rows are kept rounded, and the sum is the first block's part. -/
theorem run_first (h1 : ¬ k0_cond1 i (count c arg3 ft) = 1#1) (h2 : k0_cond2 i (count c arg3 ft) = 1#1) (h3 : firstStep i = 1#1) (h4 : ¬ k0_cond4 i = 1#1)
    (d a : Vec F S1024x1024 .f32) (b : Vec F S1024x1024 .bf16) (E : Set ℕ) (K : PUnit → sProp 𝕄) :
    iprop(held c arg3 arg4 arg5 arg6 arg7 arg8 arg9 arg10 ft x wg wu wd d a b
        ∗ (held c arg3 arg4 arg5 arg6 arg7 arg8 arg9 arg10 ft x wg wu wd d (k0_pay4 (k0_pay3 x) wg wu (k0_pay2 (F := F)) wd) (k0_pay3 x) -∗ K ⟨⟩))
      ⊢ wp frame (wpE (defs₀ (F := F)) Variants.none c none) E
        (cc0_ffn_routed i arg2 harg2 arg3 harg3 arg4 harg4 arg5 harg5 arg6 harg6 arg7 harg7 arg8 harg8 arg9 harg9 arg10 harg10) K := by
  simp only [cc0_ffn_routed_eq_skeleton]; unfold cc0_ffn_routed_skel
  unfold held owns
  iintro ⟨⟨Ht, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg4.eq_unread hf0; obtain rfl := harg5.eq_unread hf1; obtain rfl := harg6.eq_unread hf2
  obtain rfl := harg7.eq_unread hf3; obtain rfl := harg8.eq_unread hf4; obtain rfl := harg9.eq_unread hf5; obtain rfl := harg10.eq_unread hf6
  have e4 : arg4.view.readAt (Elt F) (Rect.unit (s := S1024x1024) ![0, 0] S1024x1024.size inb_S1024x1024_S1024x1024_0_0).toLoadRect (harg4.unread x) = x := by
    rw [View.readAt_full, harg4.read_unread]
  have e5 : arg5.view.readAt (Elt F) (Rect.unit (s := S1x1024x896) ![0, 0, 0] S1x1024x896.size inb_S1x1024x896_S1x1024x896_0_0_0).toLoadRect (harg5.unread wg) = wg := by
    rw [View.readAt_full, harg5.read_unread]
  have e6 : arg6.view.readAt (Elt F) (Rect.unit (s := S1x1024x896) ![0, 0, 0] S1x1024x896.size inb_S1x1024x896_S1x1024x896_0_0_0).toLoadRect (harg6.unread wu) = wu := by
    rw [View.readAt_full, harg6.read_unread]
  have e7 : arg7.view.readAt (Elt F) (Rect.unit (s := S1x896x1024) ![0, 0, 0] S1x896x1024.size inb_S1x896x1024_S1x896x1024_0_0_0).toLoadRect (harg7.unread wd) = wd := by
    rw [View.readAt_full, harg7.read_unread]
  have e9 : arg9.view.readAt (Elt F) (Rect.unit (s := S1024x1024) ![0, 0] S1024x1024.size inb_S1024x1024_S1024x1024_0_0).toLoadRect (harg9.unread a) = a := by
    rw [View.readAt_full, harg9.read_unread]
  have e10 : arg10.view.readAt (Elt F) (Rect.unit (s := S1024x1024) ![0, 0] S1024x1024.size inb_S1024x1024_S1024x1024_0_0).toLoadRect (harg10.unread b) = b := by
    rw [View.readAt_full, harg10.read_unread]
  have w9 : ∀ f w L, arg9.view.readAt (Elt F) (Rect.unit (s := S1024x1024) ![0, 0] S1024x1024.size inb_S1024x1024_S1024x1024_0_0).toLoadRect
      (arg9.view.writes (Elt F) f (⟨Rect.unit (s := S1024x1024) ![0, 0] S1024x1024.size inb_S1024x1024_S1024x1024_0_0, w⟩ :: L)) = w :=
    fun f w L => View.readAt_writes_full _ _ _ _ _ _
  have w10 : ∀ f w L, arg10.view.readAt (Elt F) (Rect.unit (s := S1024x1024) ![0, 0] S1024x1024.size inb_S1024x1024_S1024x1024_0_0).toLoadRect
      (arg10.view.writes (Elt F) f (⟨Rect.unit (s := S1024x1024) ![0, 0] S1024x1024.size inb_S1024x1024_S1024x1024_0_0, w⟩ :: L)) = w :=
    fun f w L => View.readAt_writes_full _ _ _ _ _ _
  sl_exec
  sl_step
  iapply Hk
  isplitl [Ht]; · iexact Ht
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; sl_unfold_words
    refine (View.read_writes_full _ _ _ _ _).trans ?_
    simp only [View.readCov, e4, e5, e6, e7, e9, e10, w9, w10]
  iexists _; isplitr; swap; · iexact H6
  ipureintro; sl_unfold_words
  refine (View.read_writes_full _ _ _ _ _).trans ?_
  simp only [View.readCov, e4, e5, e6, e7, e9, e10, w9, w10]

set_option maxHeartbeats 1000000 in
/-- A tile in use, at a step in between: one more block's part is added to the sum. -/
theorem run_next (h1 : ¬ k0_cond1 i (count c arg3 ft) = 1#1) (h2 : k0_cond2 i (count c arg3 ft) = 1#1) (h3 : ¬ firstStep i = 1#1) (h4 : ¬ k0_cond4 i = 1#1)
    (d a : Vec F S1024x1024 .f32) (b : Vec F S1024x1024 .bf16) (E : Set ℕ) (K : PUnit → sProp 𝕄) :
    iprop(held c arg3 arg4 arg5 arg6 arg7 arg8 arg9 arg10 ft x wg wu wd d a b
        ∗ (held c arg3 arg4 arg5 arg6 arg7 arg8 arg9 arg10 ft x wg wu wd d (k0_pay4 b wg wu a wd) b -∗ K ⟨⟩))
      ⊢ wp frame (wpE (defs₀ (F := F)) Variants.none c none) E
        (cc0_ffn_routed i arg2 harg2 arg3 harg3 arg4 harg4 arg5 harg5 arg6 harg6 arg7 harg7 arg8 harg8 arg9 harg9 arg10 harg10) K := by
  simp only [cc0_ffn_routed_eq_skeleton]; unfold cc0_ffn_routed_skel
  unfold held owns
  iintro ⟨⟨Ht, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg4.eq_unread hf0; obtain rfl := harg5.eq_unread hf1; obtain rfl := harg6.eq_unread hf2
  obtain rfl := harg7.eq_unread hf3; obtain rfl := harg8.eq_unread hf4; obtain rfl := harg9.eq_unread hf5; obtain rfl := harg10.eq_unread hf6
  have e4 : arg4.view.readAt (Elt F) (Rect.unit (s := S1024x1024) ![0, 0] S1024x1024.size inb_S1024x1024_S1024x1024_0_0).toLoadRect (harg4.unread x) = x := by
    rw [View.readAt_full, harg4.read_unread]
  have e5 : arg5.view.readAt (Elt F) (Rect.unit (s := S1x1024x896) ![0, 0, 0] S1x1024x896.size inb_S1x1024x896_S1x1024x896_0_0_0).toLoadRect (harg5.unread wg) = wg := by
    rw [View.readAt_full, harg5.read_unread]
  have e6 : arg6.view.readAt (Elt F) (Rect.unit (s := S1x1024x896) ![0, 0, 0] S1x1024x896.size inb_S1x1024x896_S1x1024x896_0_0_0).toLoadRect (harg6.unread wu) = wu := by
    rw [View.readAt_full, harg6.read_unread]
  have e7 : arg7.view.readAt (Elt F) (Rect.unit (s := S1x896x1024) ![0, 0, 0] S1x896x1024.size inb_S1x896x1024_S1x896x1024_0_0_0).toLoadRect (harg7.unread wd) = wd := by
    rw [View.readAt_full, harg7.read_unread]
  have e9 : arg9.view.readAt (Elt F) (Rect.unit (s := S1024x1024) ![0, 0] S1024x1024.size inb_S1024x1024_S1024x1024_0_0).toLoadRect (harg9.unread a) = a := by
    rw [View.readAt_full, harg9.read_unread]
  have e10 : arg10.view.readAt (Elt F) (Rect.unit (s := S1024x1024) ![0, 0] S1024x1024.size inb_S1024x1024_S1024x1024_0_0).toLoadRect (harg10.unread b) = b := by
    rw [View.readAt_full, harg10.read_unread]
  have w9 : ∀ f w L, arg9.view.readAt (Elt F) (Rect.unit (s := S1024x1024) ![0, 0] S1024x1024.size inb_S1024x1024_S1024x1024_0_0).toLoadRect
      (arg9.view.writes (Elt F) f (⟨Rect.unit (s := S1024x1024) ![0, 0] S1024x1024.size inb_S1024x1024_S1024x1024_0_0, w⟩ :: L)) = w :=
    fun f w L => View.readAt_writes_full _ _ _ _ _ _
  have w10 : ∀ f w L, arg10.view.readAt (Elt F) (Rect.unit (s := S1024x1024) ![0, 0] S1024x1024.size inb_S1024x1024_S1024x1024_0_0).toLoadRect
      (arg10.view.writes (Elt F) f (⟨Rect.unit (s := S1024x1024) ![0, 0] S1024x1024.size inb_S1024x1024_S1024x1024_0_0, w⟩ :: L)) = w :=
    fun f w L => View.readAt_writes_full _ _ _ _ _ _
  sl_exec
  sl_step
  iapply Hk
  isplitl [Ht]; · iexact Ht
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; sl_unfold_words
    refine (View.read_writes_full _ _ _ _ _).trans ?_
    simp only [View.readCov, e4, e5, e6, e7, e9, e10, w9, w10]
  iexists _; isplitr; swap; · iexact H6
  ipureintro; exact hf6

set_option maxHeartbeats 1000000 in
/-- A tile in use, at its last step: the last block's part is added and the sum handed out. -/
theorem run_last (h1 : ¬ k0_cond1 i (count c arg3 ft) = 1#1) (h2 : k0_cond2 i (count c arg3 ft) = 1#1) (h3 : ¬ firstStep i = 1#1) (h4 : k0_cond4 i = 1#1)
    (d a : Vec F S1024x1024 .f32) (b : Vec F S1024x1024 .bf16) (E : Set ℕ) (K : PUnit → sProp 𝕄) :
    iprop(held c arg3 arg4 arg5 arg6 arg7 arg8 arg9 arg10 ft x wg wu wd d a b
        ∗ (held c arg3 arg4 arg5 arg6 arg7 arg8 arg9 arg10 ft x wg wu wd (k0_pay4 b wg wu a wd) (k0_pay4 b wg wu a wd) b -∗ K ⟨⟩))
      ⊢ wp frame (wpE (defs₀ (F := F)) Variants.none c none) E
        (cc0_ffn_routed i arg2 harg2 arg3 harg3 arg4 harg4 arg5 harg5 arg6 harg6 arg7 harg7 arg8 harg8 arg9 harg9 arg10 harg10) K := by
  simp only [cc0_ffn_routed_eq_skeleton]; unfold cc0_ffn_routed_skel
  unfold held owns
  iintro ⟨⟨Ht, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg4.eq_unread hf0; obtain rfl := harg5.eq_unread hf1; obtain rfl := harg6.eq_unread hf2
  obtain rfl := harg7.eq_unread hf3; obtain rfl := harg8.eq_unread hf4; obtain rfl := harg9.eq_unread hf5; obtain rfl := harg10.eq_unread hf6
  have e4 : arg4.view.readAt (Elt F) (Rect.unit (s := S1024x1024) ![0, 0] S1024x1024.size inb_S1024x1024_S1024x1024_0_0).toLoadRect (harg4.unread x) = x := by
    rw [View.readAt_full, harg4.read_unread]
  have e5 : arg5.view.readAt (Elt F) (Rect.unit (s := S1x1024x896) ![0, 0, 0] S1x1024x896.size inb_S1x1024x896_S1x1024x896_0_0_0).toLoadRect (harg5.unread wg) = wg := by
    rw [View.readAt_full, harg5.read_unread]
  have e6 : arg6.view.readAt (Elt F) (Rect.unit (s := S1x1024x896) ![0, 0, 0] S1x1024x896.size inb_S1x1024x896_S1x1024x896_0_0_0).toLoadRect (harg6.unread wu) = wu := by
    rw [View.readAt_full, harg6.read_unread]
  have e7 : arg7.view.readAt (Elt F) (Rect.unit (s := S1x896x1024) ![0, 0, 0] S1x896x1024.size inb_S1x896x1024_S1x896x1024_0_0_0).toLoadRect (harg7.unread wd) = wd := by
    rw [View.readAt_full, harg7.read_unread]
  have e9 : arg9.view.readAt (Elt F) (Rect.unit (s := S1024x1024) ![0, 0] S1024x1024.size inb_S1024x1024_S1024x1024_0_0).toLoadRect (harg9.unread a) = a := by
    rw [View.readAt_full, harg9.read_unread]
  have e10 : arg10.view.readAt (Elt F) (Rect.unit (s := S1024x1024) ![0, 0] S1024x1024.size inb_S1024x1024_S1024x1024_0_0).toLoadRect (harg10.unread b) = b := by
    rw [View.readAt_full, harg10.read_unread]
  have w9 : ∀ f w L, arg9.view.readAt (Elt F) (Rect.unit (s := S1024x1024) ![0, 0] S1024x1024.size inb_S1024x1024_S1024x1024_0_0).toLoadRect
      (arg9.view.writes (Elt F) f (⟨Rect.unit (s := S1024x1024) ![0, 0] S1024x1024.size inb_S1024x1024_S1024x1024_0_0, w⟩ :: L)) = w :=
    fun f w L => View.readAt_writes_full _ _ _ _ _ _
  have w10 : ∀ f w L, arg10.view.readAt (Elt F) (Rect.unit (s := S1024x1024) ![0, 0] S1024x1024.size inb_S1024x1024_S1024x1024_0_0).toLoadRect
      (arg10.view.writes (Elt F) f (⟨Rect.unit (s := S1024x1024) ![0, 0] S1024x1024.size inb_S1024x1024_S1024x1024_0_0, w⟩ :: L)) = w :=
    fun f w L => View.readAt_writes_full _ _ _ _ _ _
  sl_exec
  sl_step
  iapply Hk
  isplitl [Ht]; · iexact Ht
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; sl_unfold_words
    refine (View.read_writes_full _ _ _ _ _).trans ?_
    simp only [View.readCov, e4, e5, e6, e7, e9, e10, w9, w10]
  isplitl [H5]
  · iexists _; isplitr; swap; · iexact H5
    ipureintro; sl_unfold_words
    refine (View.read_writes_full _ _ _ _ _).trans ?_
    simp only [View.readCov, e4, e5, e6, e7, e9, e10, w9, w10]
  iexists _; isplitr; swap; · iexact H6
  ipureintro; exact hf6
end

end Cert.Kernel2Ideal.Routed

end
-- ==== Proof.RoutedTables.lean ====
/- The routed feed-forward call's tables, its blocks, and when its steps do what: the number of tiles
in use is read from its table, a tile is in use when its number is below it, and each tile has four
steps, one per block of hidden columns. -/
module

public import proofs.«01_k».proof.Proof.RoutedBody

@[expose] public section

set_option maxRecDepth 16384

noncomputable section

namespace Cert.Kernel2Ideal.Routed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]
local notation "𝕄" => MT nD τ sig Unit (Elt F) ℕ (UR sig nD τ) ℕ

variable (m : (ℓ : Loc nD τ sig) → Buf (Elt F) ℓ)

/-! ## The memory when the call is entered -/

/-- Each buffer as the call finds it: the launch memory with the weights rounded. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host writes no argument. -/
theorem V_of_ne (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

theorem V_main_arg0 (c : Dev nD) : V m c main_arg0 = m ((c : Thread nD τ).loc main_arg0) := V_of_ne m c _ (by decide) (by decide) (by decide)
theorem V_main_arg1 (c : Dev nD) : V m c main_arg1 = m ((c : Thread nD τ).loc main_arg1) := V_of_ne m c _ (by decide) (by decide) (by decide)
theorem V_main_arg2 (c : Dev nD) : V m c main_arg2 = m ((c : Thread nD τ).loc main_arg2) := V_of_ne m c _ (by decide) (by decide) (by decide)
theorem V_main_arg3 (c : Dev nD) : V m c main_arg3 = m ((c : Thread nD τ).loc main_arg3) := V_of_ne m c _ (by decide) (by decide) (by decide)
theorem V_main_arg4 (c : Dev nD) : V m c main_arg4 = m ((c : Thread nD τ).loc main_arg4) := V_of_ne m c _ (by decide) (by decide) (by decide)
theorem V_main_arg5 (c : Dev nD) : V m c main_arg5 = m ((c : Thread nD τ).loc main_arg5) := V_of_ne m c _ (by decide) (by decide) (by decide)

/-! ## The two tables -/

/-- What the tables hold: each tile's expert, and the number of tiles in use. -/
def tbl : pre0.Contents (Elt F) := fun k => V m (0 : Dev nD) (pre0.ref k)

theorem V_tbl (c : Dev nD) (k : Fin 2) : V m c (pre0.ref k) = tbl m k := by
  obtain rfl : c = 0 := Subsingleton.elim _ _; rfl

/-- The experts named in the table are experts, so that every block the call fetches lies in its array. -/
abbrev Ok : Prop := ok0 (F := F) (tbl m)

abbrev adm (hO : Ok m) : (pcfg0 (F := F)).Adm := ⟨tbl m, hO⟩

abbrev cfgM (hO : Ok m) : Cfg sig Λ₀ := cfg0 (adm m hO)

/-- The number of tiles in use. -/
def used : BitVec 32 := (tbl m).atD 1 ![0]

/-- The body reads that number. -/
theorem count_eq (c : Dev nD) : count c (Memref.whole main_arg1) (tbl m 1) = used m := by
  unfold used Pipeline.Prefetch.Contents.atD
  rw [dif_pos (by decide)]
  exact congrArg (tbl m 1) (funext fun a => Fin.ext (by
    have h : ∀ b : Fin (S1.size a), b.val = 0 := fun b => by have := b.isLt; revert a; decide
    exact (h _).trans (h _).symm))

/-- Is the tile of a grid point in use? -/
def inUse (i : grid0.Coords) : Prop := Scalar.cmpi .slt (BitVec.ofNat 32 (i 0).val) (used m) = 1#1

instance (i : grid0.Coords) : Decidable (inUse m i) := inferInstanceAs (Decidable (_ = _))

theorem cond2_iff (i : grid0.Coords) : k0_cond2 i (used m) = 1#1 ↔ inUse m i := by
  have h : ∀ b : BitVec 1, Scalar.cmpi .ne (Scalar.extui b : BitVec 32) 0#32 = 1#1 ↔ b = 1#1 := by decide
  exact h _

theorem sge_iff (x y : BitVec 32) : Scalar.cmpi .sge x y = ~~~ (Scalar.cmpi .slt x y) := by
  simp only [Scalar.cmpi, IntOp.cmpi, BitVec.sle_eq_not_slt]
  cases x.slt y <;> rfl

theorem cond4_iff (i : grid0.Coords) : k0_cond4 i = 1#1 ↔ (i 1).val = 3 := by
  have h : ∀ j : Fin 4, Scalar.cmpi .ne (Scalar.extui (Scalar.cmpi .eq (BitVec.ofNat 32 j.val) 3#32) : BitVec 32) 0#32 = 1#1 ↔ j.val = 3 := by decide
  exact h (i 1)

theorem cond1_iff (i : grid0.Coords) : k0_cond1 i (used m) = 1#1 ↔ ¬ inUse m i ∧ (i 1).val = 3 := by
  have h : ∀ (b : BitVec 1) (j : Fin 4), Scalar.cmpi .ne (Scalar.extui (Scalar.andi (~~~b) (Scalar.cmpi .eq (BitVec.ofNat 32 j.val) 3#32)) : BitVec 32) 0#32 = 1#1
      ↔ ¬ b = 1#1 ∧ j.val = 3 := by decide
  refine Iff.trans ?_ (h (Scalar.cmpi .slt (BitVec.ofNat 32 (i 0).val) (used m)) (i 1))
  rw [← sge_iff]; rfl

theorem first_iff (i : grid0.Coords) : firstStep i = 1#1 ↔ (i 1).val = 0 := by
  have h : ∀ j : Fin 4, Scalar.cmpi .ne (Scalar.extui (Scalar.cmpi .eq (BitVec.ofNat 32 j.val) 0#32) : BitVec 32) 0#32 = 1#1 ↔ j.val = 0 := by decide
  exact h (i 1)

/-! ## The grid: four steps to a tile -/

theorem coords_tile (t : Fin grid0.N) : (grid0.coords t 0).val = t.val / 4 := by
  revert t; decide +kernel
theorem coords_step (t : Fin grid0.N) : (grid0.coords t 1).val = t.val % 4 := by
  revert t; decide +kernel

/-- The output block is written back at a tile's last step. -/
theorem flush_iff (hO : Ok m) (t : Fin (cfgM m hO).N) : ((cfgM m hO).win 4).flush t = true ↔ t.val % 4 = 3 :=
  (by decide +kernel : ∀ t : Fin grid0.N, Pipeline.Window.flushOf grid0 true cc0_transform_4 t = true ↔ t.val % 4 = 3) t

/-! ## The blocks -/

/-- The block of window `w`'s array that grid point `t` works on. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

theorem found0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Kernel2Ideal.Routed

end
-- ==== Proof.RoutedLaunch.lean ====
/- The launch of the routed feed-forward call: at each grid point the sum so far is the sum over the
blocks of hidden columns met, so the run leaves in each tile's block of results the whole sum where
the tile is in use and zeros where it is not, and every argument as it was. -/
module

public import proofs.«01_k».proof.Proof.RoutedTables

@[expose] public section

set_option maxRecDepth 16384

noncomputable section

namespace Cert.Kernel2Ideal.Routed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## What the body leaves -/

/-- Is tile `T` in use? -/
def tileUsed (T : ℕ) : Prop := Scalar.cmpi .slt (BitVec.ofNat 32 T) (used m) = 1#1

instance (T : ℕ) : Decidable (tileUsed m T) := inferInstanceAs (Decidable (_ = _))

theorem inUse_iff (t : Fin grid0.N) : inUse m (grid0.coords t) ↔ tileUsed m (t.val / 4) := by
  unfold inUse tileUsed; rw [coords_tile]

/-- The grid point of step `k` of tile `T`. -/
def pt (T k : ℕ) : Fin grid0.N := ⟨(4 * T + k) % 160, by rw [N_0]; omega⟩

theorem pt_eq (t : Fin grid0.N) : pt (t.val / 4) (t.val % 4) = t := by
  have := lt_of_lt_of_eq t.isLt N_0
  apply Fin.ext; unfold pt; dsimp only; omega

variable (hO : Ok m)

/-- The rows of a tile, rounded. -/
def rows (c : Dev nD) (T : ℕ) : Vec F S1024x1024 .bf16 := k0_pay3 (iblk m hO c 0 (pt T 0))

/-- The sum over the first `k` blocks of hidden columns of a tile. -/
def part (c : Dev nD) (T : ℕ) : ℕ → Vec F S1024x1024 .f32
  | 0 => k0_pay2
  | k + 1 => k0_pay4 (rows m hO c T) (iblk m hO c 1 (pt T k)) (iblk m hO c 2 (pt T k)) (part c T k) (iblk m hO c 3 (pt T k))

/-- What the run leaves in a tile's block of results. -/
def result (c : Dev nD) (T : ℕ) : Vec F S1024x1024 .f32 := if tileUsed m T then part m hO c T 4 else k0_pay1

/-- What is known of the two buffers kept between grid points, before point `n`: inside a tile in use they hold the
    sum so far and the rows. -/
def Kept (c : Dev nD) (n : ℕ) (a : Vec F S1024x1024 .f32) (b : Vec F S1024x1024 .bf16) : Prop :=
  n % 4 ≠ 0 → tileUsed m (n / 4) → a = part m hO c (n / 4) (n % 4) ∧ b = rows m hO c (n / 4)

abbrev acc : Memref sig .tc .vmem S1024x1024 .f32 := Memref.whole cc0_scratch0
abbrev kept : Memref sig .tc .vmem S1024x1024 .bf16 := Memref.whole cc0_scratch1
abbrev tabE : Memref sig .tc .smem S40 .i32 := Memref.whole main_arg0
abbrev tabN : Memref sig .tc .smem S1 .i32 := Memref.whole main_arg1

/-- The body's halves of the two tables. -/
def tables (c : Dev nD) : sProp 𝕄 :=
  iprop((tabE.view.loc (c : Thread nD τ) ↦{fullShare.right} (tbl m 0)) ∗ (tabN.view.loc (c : Thread nD τ) ↦{fullShare.right} (tbl m 1)))

theorem PhiT_eq (c : Dev nD) : (Pipeline.ΦT pre0 (tbl m) c : sProp 𝕄) = tables m c := by
  unfold Pipeline.ΦT Pipeline.prefHeld
  rw [show (Finset.univ : Finset (Fin 2)) = insert (0 : Fin 2) {(1 : Fin 2)} from by decide, bigSep_insert (by decide), bigSep_singleton]
  rfl

theorem PhiA_eq (c : Dev nD) :
    (Pipeline.ΦA spec0 c : sProp 𝕄)
      = iprop(((∃ d, owns (c : Thread nD τ) acc fullShare d) ∗ (∃ d, owns (c : Thread nD τ) kept fullShare d)) ∗ (∃ r, prngReg c r)) := by
  unfold Pipeline.ΦA; rw [scopedRest0_eq]; simp only [acc, kept, owns_whole]; try rfl

/-- What holds between the grid points. -/
def between (c : Dev nD) (n : ℕ) : sProp 𝕄 :=
  iprop(∃ a b, ⌜Kept m hO c n a b⌝ ∗ owns (c : Thread nD τ) acc fullShare a ∗ owns (c : Thread nD τ) kept fullShare b
    ∗ (∃ r, prngReg c r) ∗ tables m c)

/-- The contents the proof follows. -/
def data (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => result m hO c (t.val / 4)
  Φ t := between m hO c t.val
  q _ := fullShare
  owed _ := 0

theorem data_A (c : Dev nD) (w : Fin (cfgM m hO).W) : (data m hO 0 c).A w = V m c (Pipeline.arrRef spec0 w) := by
  dsimp only [data]

theorem left0 (c : Dev nD) (t : Fin (cfgM m hO).N) : (data m hO 0 c).after 0 t = iblk m hO c 0 t := rfl
theorem left1 (c : Dev nD) (t : Fin (cfgM m hO).N) : (data m hO 0 c).after 1 t = iblk m hO c 1 t := rfl
theorem left2 (c : Dev nD) (t : Fin (cfgM m hO).N) : (data m hO 0 c).after 2 t = iblk m hO c 2 t := rfl
theorem left3 (c : Dev nD) (t : Fin (cfgM m hO).N) : (data m hO 0 c).after 3 t = iblk m hO c 3 t := rfl
theorem left4 (c : Dev nD) (t : Fin (cfgM m hO).N) : (data m hO 0 c).after 4 t = result m hO c (t.val / 4) := rfl

theorem found0 (c : Dev nD) (t : Fin (cfgM m hO).N) (d) : (data m hO 0 c).before 0 t d = iblk m hO c 0 t :=
  found0_of m hO (data m hO 0 c) (data_A m hO c 0) (left0 m hO c) t d
theorem found1 (c : Dev nD) (t : Fin (cfgM m hO).N) (d) : (data m hO 0 c).before 1 t d = iblk m hO c 1 t :=
  found1_of m hO (data m hO 0 c) (data_A m hO c 1) (left1 m hO c) t d
theorem found2 (c : Dev nD) (t : Fin (cfgM m hO).N) (d) : (data m hO 0 c).before 2 t d = iblk m hO c 2 t :=
  found2_of m hO (data m hO 0 c) (data_A m hO c 2) (left2 m hO c) t d
theorem found3 (c : Dev nD) (t : Fin (cfgM m hO).N) (d) : (data m hO 0 c).before 3 t d = iblk m hO c 3 t :=
  found3_of m hO (data m hO 0 c) (data_A m hO c 3) (left3 m hO c) t d

/-! ## One grid point -/

abbrev st0 (t : Fin (cfgM m hO).N) : Memref sig .tc .vmem S1024x1024 .f32 := spec0_0.stage ((cfgM m hO).slots t 0)
abbrev st1 (t : Fin (cfgM m hO).N) : Memref sig .tc .vmem S1x1024x896 .bf16 := spec0_1.stage ((cfgM m hO).slots t 1)
abbrev st2 (t : Fin (cfgM m hO).N) : Memref sig .tc .vmem S1x1024x896 .bf16 := spec0_2.stage ((cfgM m hO).slots t 2)
abbrev st3 (t : Fin (cfgM m hO).N) : Memref sig .tc .vmem S1x896x1024 .bf16 := spec0_3.stage ((cfgM m hO).slots t 3)
abbrev st4 (t : Fin (cfgM m hO).N) : Memref sig .tc .vmem S1024x1024 .f32 := spec0_4.stage ((cfgM m hO).slots t 4)

/-- The body as the grid point calls it. -/
abbrev bodyAt (t : Fin (cfgM m hO).N) : Prog (TpuEff nD τ sig (Elt F) Λ₀ .tc) PUnit :=
  cc0_ffn_routed (grid0.coords t) tabE (Memref.isWhole_whole _) tabN (Memref.isWhole_whole _)
    (st0 m hO t) (hstage0_0 (((cfgM m hO).slots t 0).cast nbuf0_0)) (st1 m hO t) (hstage0_1 (((cfgM m hO).slots t 1).cast nbuf0_1))
    (st2 m hO t) (hstage0_2 (((cfgM m hO).slots t 2).cast nbuf0_2)) (st3 m hO t) (hstage0_3 (((cfgM m hO).slots t 3).cast nbuf0_3))
    (st4 m hO t) (hstage0_4 (((cfgM m hO).slots t 4).cast nbuf0_4)) acc (Memref.isWhole_whole _) kept (Memref.isWhole_whole _)

theorem idle_of (x y z : BitVec 1) (P Q : Prop) [Decidable Q] (h1 : x = 1#1 ↔ ¬ P ∧ Q) (h2 : y = 1#1 ↔ P) (h4 : z = 1#1 ↔ Q) :
    (!(x == 1#1) && !(y == 1#1 && z == 1#1)) = decide (¬ Q) := by
  rw [Bool.eq_iff_iff]
  simp only [Bool.and_eq_true, Bool.not_eq_true', beq_eq_false_iff_ne, Bool.and_eq_false_iff, ne_eq, decide_eq_true_eq, h1, h2, h4]
  tauto

theorem cfg_idle : (cfgM m hO).idle = idle0 (tbl m) := rfl

/-- The body leaves the block of results alone except at a tile's last step. -/
theorem idle_eq (t : Fin grid0.N) : (cfgM m hO).idle 4 (grid0.coords t) = decide (¬ t.val % 4 = 3) := by
  have h1 := cond1_iff m (grid0.coords t)
  have h2 := cond2_iff m (grid0.coords t)
  have h4 := cond4_iff (grid0.coords t)
  rw [coords_step] at h1 h4
  rw [cfg_idle]
  exact idle_of _ _ _ _ _ h1 h2 h4

/-- What the body starts from at a point, window by window. -/
def startOf (c : Dev nD) (t : Fin (cfgM m hO).N) : sProp 𝕄 :=
  iprop((data m hO 0 c).Φ t.castSucc ∗ (data m hO 0 c).owesAt () t.castSucc
    ∗ (∃ d, owns (c : Thread nD τ) (st0 m hO t) fullShare ((data m hO 0 c).before 0 t d))
    ∗ (∃ d, owns (c : Thread nD τ) (st1 m hO t) fullShare ((data m hO 0 c).before 1 t d))
    ∗ (∃ d, owns (c : Thread nD τ) (st2 m hO t) fullShare ((data m hO 0 c).before 2 t d))
    ∗ (∃ d, owns (c : Thread nD τ) (st3 m hO t) fullShare ((data m hO 0 c).before 3 t d))
    ∗ (∃ d, owns (c : Thread nD τ) (st4 m hO t) fullShare ((data m hO 0 c).before 4 t d)))

/-- What it ends with. -/
def endOf (c : Dev nD) (t : Fin (cfgM m hO).N) : sProp 𝕄 :=
  iprop((data m hO 0 c).Φ t.succ ∗ (data m hO 0 c).owesAt () t.succ
    ∗ owns (c : Thread nD τ) (st0 m hO t) fullShare ((data m hO 0 c).after 0 t)
    ∗ owns (c : Thread nD τ) (st1 m hO t) fullShare ((data m hO 0 c).after 1 t)
    ∗ owns (c : Thread nD τ) (st2 m hO t) fullShare ((data m hO 0 c).after 2 t)
    ∗ owns (c : Thread nD τ) (st3 m hO t) fullShare ((data m hO 0 c).after 3 t)
    ∗ (data m hO 0 c).leavesExact 4 t)

theorem leaves_last (c : Dev nD) (t : Fin (cfgM m hO).N) (h : t.val % 4 = 3) :
    (data m hO 0 c).leavesExact 4 t = owns (c : Thread nD τ) (st4 m hO t) fullShare (result m hO c (t.val / 4)) := by
  have hi : (cfgM m hO).idle 4 ((cfgM m hO).grid.coords t) = false := (idle_eq m hO t).trans (by simp [h])
  unfold Dat.leavesExact; rw [hi, left4]; try rfl

theorem leaves_early (c : Dev nD) (t : Fin (cfgM m hO).N) (h : t.val % 4 ≠ 3) :
    (data m hO 0 c).leavesExact 4 t = iprop(∃ d, owns (c : Thread nD τ) (st4 m hO t) fullShare ((data m hO 0 c).before 4 t d)) :=
  (data m hO 0 c).leavesExact_idle 4 t ((idle_eq m hO t).trans (by simp [h]))
    (by rw [Bool.eq_false_iff]; exact fun hf => h ((flush_iff m hO t).mp hf))

/-- The body's step, whichever case it is: from contents `d`, `a`, `b` it comes to `d'`, `a'`, `b'`. -/
def Steps (c : Dev nD) (t : Fin (cfgM m hO).N) (d a : Vec F S1024x1024 .f32) (b : Vec F S1024x1024 .bf16)
    (d' a' : Vec F S1024x1024 .f32) (b' : Vec F S1024x1024 .bf16) : Prop :=
  ∀ (K : PUnit → sProp 𝕄),
    iprop(held c tabN (st0 m hO t) (st1 m hO t) (st2 m hO t) (st3 m hO t) (st4 m hO t) acc kept (tbl m 1)
        (iblk m hO c 0 t) (iblk m hO c 1 t) (iblk m hO c 2 t) (iblk m hO c 3 t) d a b
      ∗ (held c tabN (st0 m hO t) (st1 m hO t) (st2 m hO t) (st3 m hO t) (st4 m hO t) acc kept (tbl m 1)
        (iblk m hO c 0 t) (iblk m hO c 1 t) (iblk m hO c 2 t) (iblk m hO c 3 t) d' a' b' -∗ K ⟨⟩))
      ⊢ wp frame (wpE (defs₀ (F := F)) Variants.none c none) Set.univ (bodyAt m hO t) K

/-- From any contents kept as they should be, the body comes to contents kept as they should be, with the block of
    results as the tile's result at the last step and as it was before it. -/
theorem steps (c : Dev nD) (t : Fin (cfgM m hO).N) (d a : Vec F S1024x1024 .f32) (b : Vec F S1024x1024 .bf16)
    (h : Kept m hO c t.val a b) :
    ∃ d' a' b', Kept m hO c (t.val + 1) a' b' ∧ (t.val % 4 = 3 → d' = result m hO c (t.val / 4)) ∧ (t.val % 4 ≠ 3 → d' = d) ∧ Steps m hO c t d a b d' a' b' := by
  have h1 := cond1_iff m (grid0.coords t)
  have h2 := cond2_iff m (grid0.coords t)
  have h3 := first_iff (grid0.coords t)
  have h4 := cond4_iff (grid0.coords t)
  rw [coords_step] at h1 h3 h4
  rw [inUse_iff] at h1 h2
  rw [← count_eq m c] at h1 h2
  by_cases hu : tileUsed m (t.val / 4)
  · by_cases hl : t.val % 4 = 3
    · obtain ⟨rfl, rfl⟩ := h (by omega) hu
      refine ⟨result m hO c (t.val / 4), result m hO c (t.val / 4), rows m hO c (t.val / 4), fun hn => by omega, fun _ => rfl, fun h => absurd hl h, fun K => ?_⟩
      have key := run_last c (grid0.coords t) tabE (Memref.isWhole_whole _) tabN (Memref.isWhole_whole _)
        (st0 m hO t) (hstage0_0 (((cfgM m hO).slots t 0).cast nbuf0_0)) (st1 m hO t) (hstage0_1 (((cfgM m hO).slots t 1).cast nbuf0_1))
        (st2 m hO t) (hstage0_2 (((cfgM m hO).slots t 2).cast nbuf0_2)) (st3 m hO t) (hstage0_3 (((cfgM m hO).slots t 3).cast nbuf0_3))
        (st4 m hO t) (hstage0_4 (((cfgM m hO).slots t 4).cast nbuf0_4)) acc (Memref.isWhole_whole _) kept (Memref.isWhole_whole _)
        (tbl m 1) (iblk m hO c 0 t) (iblk m hO c 1 t) (iblk m hO c 2 t) (iblk m hO c 3 t)
        (fun h => (h1.mp h).1 hu) (h2.mpr hu) (fun h => by have := h3.mp h; omega) (h4.mpr hl) d (part m hO c (t.val / 4) (t.val % 4)) (rows m hO c (t.val / 4)) Set.univ K
      have e : k0_pay4 (rows m hO c (t.val / 4)) (iblk m hO c 1 t) (iblk m hO c 2 t) (part m hO c (t.val / 4) (t.val % 4)) (iblk m hO c 3 t)
          = result m hO c (t.val / 4) := by
        unfold result; rw [if_pos hu]
        have ep := pt_eq t
        rw [hl] at ep ⊢
        conv_rhs => unfold part
        rw [ep]
      rw [e] at key
      exact key
    · by_cases hf : t.val % 4 = 0
      · refine ⟨d, k0_pay4 (k0_pay3 (iblk m hO c 0 t)) (iblk m hO c 1 t) (iblk m hO c 2 t) k0_pay2 (iblk m hO c 3 t), k0_pay3 (iblk m hO c 0 t), ?_, fun h => absurd h hl, fun _ => rfl, fun K => ?_⟩
        · intro _ _
          have e1 : (t.val + 1) / 4 = t.val / 4 := by omega
          have e2 : (t.val + 1) % 4 = 1 := by omega
          have ep := pt_eq t
          rw [hf] at ep
          rw [e1, e2]
          refine ⟨?_, ?_⟩
          · conv_rhs => unfold part part rows
            rw [ep]
          · unfold rows; rw [ep]
        · exact run_first c (grid0.coords t) tabE (Memref.isWhole_whole _) tabN (Memref.isWhole_whole _)
            (st0 m hO t) (hstage0_0 (((cfgM m hO).slots t 0).cast nbuf0_0)) (st1 m hO t) (hstage0_1 (((cfgM m hO).slots t 1).cast nbuf0_1))
            (st2 m hO t) (hstage0_2 (((cfgM m hO).slots t 2).cast nbuf0_2)) (st3 m hO t) (hstage0_3 (((cfgM m hO).slots t 3).cast nbuf0_3))
            (st4 m hO t) (hstage0_4 (((cfgM m hO).slots t 4).cast nbuf0_4)) acc (Memref.isWhole_whole _) kept (Memref.isWhole_whole _)
            (tbl m 1) (iblk m hO c 0 t) (iblk m hO c 1 t) (iblk m hO c 2 t) (iblk m hO c 3 t)
            (fun h => (h1.mp h).1 hu) (h2.mpr hu) (h3.mpr hf) (fun h => hl (h4.mp h)) d a b Set.univ K
      · obtain ⟨rfl, rfl⟩ := h hf hu
        refine ⟨d, k0_pay4 (rows m hO c (t.val / 4)) (iblk m hO c 1 t) (iblk m hO c 2 t) (part m hO c (t.val / 4) (t.val % 4)) (iblk m hO c 3 t), rows m hO c (t.val / 4), ?_, fun h => absurd h hl, fun _ => rfl, fun K => ?_⟩
        · intro _ _
          have e1 : (t.val + 1) / 4 = t.val / 4 := by omega
          have e2 : (t.val + 1) % 4 = t.val % 4 + 1 := by omega
          have ep := pt_eq t
          rw [e1, e2]
          refine ⟨?_, rfl⟩
          conv_rhs => unfold part
          rw [ep]
        · exact run_next c (grid0.coords t) tabE (Memref.isWhole_whole _) tabN (Memref.isWhole_whole _)
            (st0 m hO t) (hstage0_0 (((cfgM m hO).slots t 0).cast nbuf0_0)) (st1 m hO t) (hstage0_1 (((cfgM m hO).slots t 1).cast nbuf0_1))
            (st2 m hO t) (hstage0_2 (((cfgM m hO).slots t 2).cast nbuf0_2)) (st3 m hO t) (hstage0_3 (((cfgM m hO).slots t 3).cast nbuf0_3))
            (st4 m hO t) (hstage0_4 (((cfgM m hO).slots t 4).cast nbuf0_4)) acc (Memref.isWhole_whole _) kept (Memref.isWhole_whole _)
            (tbl m 1) (iblk m hO c 0 t) (iblk m hO c 1 t) (iblk m hO c 2 t) (iblk m hO c 3 t)
            (fun h => (h1.mp h).1 hu) (h2.mpr hu) (fun h => hf (h3.mp h)) (fun h => hl (h4.mp h)) d _ _ Set.univ K
  · have hk : ∀ a' b', Kept m hO c (t.val + 1) a' b' := by
      intro a' b' hn hu'
      have e1 : (t.val + 1) / 4 = t.val / 4 := by omega
      rw [e1] at hu'
      exact absurd hu' hu
    by_cases hl : t.val % 4 = 3
    · refine ⟨result m hO c (t.val / 4), a, b, hk _ _, fun _ => rfl, fun h => absurd hl h, fun K => ?_⟩
      unfold result; rw [if_neg hu]
      exact run_blank c (grid0.coords t) tabE (Memref.isWhole_whole _) tabN (Memref.isWhole_whole _)
        (st0 m hO t) (hstage0_0 (((cfgM m hO).slots t 0).cast nbuf0_0)) (st1 m hO t) (hstage0_1 (((cfgM m hO).slots t 1).cast nbuf0_1))
        (st2 m hO t) (hstage0_2 (((cfgM m hO).slots t 2).cast nbuf0_2)) (st3 m hO t) (hstage0_3 (((cfgM m hO).slots t 3).cast nbuf0_3))
        (st4 m hO t) (hstage0_4 (((cfgM m hO).slots t 4).cast nbuf0_4)) acc (Memref.isWhole_whole _) kept (Memref.isWhole_whole _)
        (tbl m 1) (iblk m hO c 0 t) (iblk m hO c 1 t) (iblk m hO c 2 t) (iblk m hO c 3 t)
        (h1.mpr ⟨hu, hl⟩) (fun h => hu (h2.mp h)) d a b Set.univ K
    · refine ⟨d, a, b, hk _ _, fun h => absurd h hl, fun _ => rfl, fun K => ?_⟩
      exact run_skip c (grid0.coords t) tabE (Memref.isWhole_whole _) tabN (Memref.isWhole_whole _)
        (st0 m hO t) (hstage0_0 (((cfgM m hO).slots t 0).cast nbuf0_0)) (st1 m hO t) (hstage0_1 (((cfgM m hO).slots t 1).cast nbuf0_1))
        (st2 m hO t) (hstage0_2 (((cfgM m hO).slots t 2).cast nbuf0_2)) (st3 m hO t) (hstage0_3 (((cfgM m hO).slots t 3).cast nbuf0_3))
        (st4 m hO t) (hstage0_4 (((cfgM m hO).slots t 4).cast nbuf0_4)) acc (Memref.isWhole_whole _) kept (Memref.isWhole_whole _)
        (tbl m 1) (iblk m hO c 0 t) (iblk m hO c 1 t) (iblk m hO c 2 t) (iblk m hO c 3 t)
        (fun h => hl (h1.mp h).2) (fun h => hu (h2.mp h)) d a b Set.univ K

set_option maxHeartbeats 800000 in
theorem point_sound (c : Dev nD) (t : Fin (cfgM m hO).N) :
    startOf m hO c t ⊢ wp frame (wpE (defs₀ (F := F)) Variants.none c none) Set.univ (bodyAt m hO t) (fun _ => endOf m hO c t) := by
  unfold startOf endOf
  simp only [found0, found1, found2, found3]
  rw [show (data m hO 0 c).Φ t.succ = between m hO c (t.val + 1) from rfl,
    show (data m hO 0 c).Φ t.castSucc = between m hO c t.val from rfl,
    show (data m hO 0 c).owesAt () t.succ = (data m hO 0 c).owesAt () t.castSucc from rfl,
    left0, left1, left2, left3]
  unfold between tables
  iintro ⟨⟨%a, %b, %hk, Ha, Hb, Hg, HtE, HtN⟩, Ho, ⟨%d0, H0⟩, ⟨%d1, H1⟩, ⟨%d2, H2⟩, ⟨%d3, H3⟩, ⟨%d4, H4⟩⟩
  obtain ⟨d', a', b', hk', hd, hd', hs⟩ := steps m hO c t ((data m hO 0 c).before 4 t d4) a b hk
  iapply (hs _)
  unfold held
  isplitl [HtN H0 H1 H2 H3 H4 Ha Hb]
  · isplitl [HtN]; · iexact HtN
    isplitl [H0]; · iexact H0
    isplitl [H1]; · iexact H1
    isplitl [H2]; · iexact H2
    isplitl [H3]; · iexact H3
    isplitl [H4]; · iexact H4
    isplitl [Ha]; · iexact Ha
    iexact Hb
  iintro ⟨HtN, H0, H1, H2, H3, H4, Ha, Hb⟩
  isplitl [HtE HtN Ha Hb Hg]
  · iexists a', b'
    isplitr; · ipureintro; exact hk'
    isplitl [Ha]; · iexact Ha
    isplitl [Hb]; · iexact Hb
    isplitl [Hg]; · iexact Hg
    isplitl [HtE]; · iexact HtE
    iexact HtN
  isplitl [Ho]; · iexact Ho
  isplitl [H0]; · iexact H0
  isplitl [H1]; · iexact H1
  isplitl [H2]; · iexact H2
  isplitl [H3]; · iexact H3
  by_cases hl : t.val % 4 = 3
  · rw [leaves_last m hO c t hl]
    rw [hd hl]
    iexact H4
  · rw [leaves_early m hO c t hl]
    rw [hd' hl]
    iexists d4
    iexact H4

/-- The table's entry for the body is the body. -/
theorem body_entry (t : Fin (cfgM m hO).N) :
    defs₀ (F := F) .tc (cfgM m hO).body ((cfgM m hO).bodyArgs t ((cfgM m hO).slots t)) = bodyAt m hO t := by
  unfold defs₀; rw [Defs.onTc_tc]

theorem every_point (c : Dev nD) : BodyObligation (data (F := F) m hO 0 c) (defs₀ (F := F)) Variants.none () Set.univ := fun t => by
  rw [bigSep_W0, bigSep_W0, body_entry]
  exact triple_restated (point_sound m hO c t) rfl .rfl fun _ => .rfl

/-! ## The run -/

theorem Kept_zero (c : Dev nD) (a : Vec F S1024x1024 .f32) (b : Vec F S1024x1024 .bf16) : Kept m hO c 0 a b := fun h => absurd rfl h

theorem enter (c : Dev nD) : iprop(Pipeline.ΦA spec0 c ∗ Pipeline.ΦT pre0 (tbl m) c) ⊢ between m hO c 0 := by
  rw [PhiA_eq, PhiT_eq]
  unfold between
  iintro ⟨⟨⟨⟨%a, Ha⟩, ⟨%b, Hb⟩⟩, Hg⟩, Ht⟩
  iexists a, b
  isplitr; · ipureintro; exact Kept_zero m hO c a b
  isplitl [Ha]; · iexact Ha
  isplitl [Hb]; · iexact Hb
  isplitl [Hg]; · iexact Hg
  iexact Ht

theorem exit_ (c : Dev nD) (n : ℕ) : between m hO c n ⊢ (Pipeline.ΦA spec0 c : sProp 𝕄) := by
  rw [PhiA_eq]
  unfold between
  iintro ⟨%a, %b, %hk, Ha, Hb, Hg, -⟩
  isplitl [Ha Hb]
  · isplitl [Ha]
    · iexists a; iexact Ha
    · iexists b; iexact Hb
  iexact Hg

theorem away (b : Ref sig .tc) (h : ∀ w : Fin 5, (spec0 w).arr.view.ref ≠ b) :
    ∀ w : Fin (cfgM m hO).W, ((cfgM m hO).spec w).arr.view.ref ≠ b := h

set_option backward.isDefEq.respectTransparency.types false in
/-- The whole program runs, and every semaphore counter ends at zero. -/
theorem launch : θ_run defs (onTc (τ := τ) (main (F := F))) (s₀ m ρ)
    (fun r => (Pipeline.FramePost (Pipeline.pin pcfgs (fun _ => adm m hO)) (data m hO) 0 (V m)) r ∧ r.2.sem = fun _ => 0) :=
  Pipeline.θ_run_frameP_track (Q' := _) pcfgs (fun _ => adm m hO) (data m hO) (0 : Fin 1) launch0 defs₀ Variants.none m ρ main
    (hbody := fun c => (every_point m hO c).loose) (hshare := fun c => (data m hO 0 c).share_full fun _ => rfl)
    (howed := fun _ _ => rfl) (V := V m) (hmain := hmain m Variants.none) (hA := data_A m hO) (hpf := V_tbl m)
    (hin := enter m hO) (hout := fun c => exit_ m hO c _)

theorem launch_post : θ_run defs (onTc (τ := τ) (main (F := F))) (s₀ m ρ)
    (Pipeline.FramePost (Pipeline.pin pcfgs (fun _ => adm m hO)) (data m hO) 0 (V m)) :=
  (θ_run defs _ _).mono (fun _ h => h.1) (launch m ρ hO)

/-- After the run the result buffer holds the array written block by block, and the arguments are as launched. -/
theorem run_array : θ_run defs (onTc (τ := τ) (main (F := F))) ⟨m, fun _ => 0, ρ⟩ fun r => ∀ c : Dev nD,
      r.2.mem ((c.tc : Thread nD τ).loc main_v3) = (data m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1 4,
      ((h c).2 main_arg0 (Pipeline.mem_restRefs_of main_arg0 (by decide) (away m hO main_arg0 (by decide)))).trans (V_main_arg0 m c),
      ((h c).2 main_arg1 (Pipeline.mem_restRefs_of main_arg1 (by decide) (away m hO main_arg1 (by decide)))).trans (V_main_arg1 m c),
      ((h c).1 0).trans (((data m hO 0 c).arrAt_in 0 rfl _).trans ((data_A m hO c 0).trans (V_main_arg2 m c))),
      ((h c).2 main_arg3 (Pipeline.mem_restRefs_of main_arg3 (by decide) (away m hO main_arg3 (by decide)))).trans (V_main_arg3 m c),
      ((h c).2 main_arg4 (Pipeline.mem_restRefs_of main_arg4 (by decide) (away m hO main_arg4 (by decide)))).trans (V_main_arg4 m c),
      ((h c).2 main_arg5 (Pipeline.mem_restRefs_of main_arg5 (by decide) (away m hO main_arg5 (by decide)))).trans (V_main_arg5 m c)⟩)
    (launch_post m ρ hO)

include hO in
/-- The arguments end unchanged and the counters at zero. -/
theorem frame_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun r h c => (h c).2) (run_array m ρ hO)) ((θ_run defs _ _).mono (fun _ h => h.2) (launch m ρ hO))

/-! ## The output array, block by block -/

/-- Distinct tiles write distinct blocks, each at its last step. -/
theorem index_inj : ∀ t t' : Fin grid0.N, t.val % 4 = 3 → t'.val % 4 = 3 → cc0_transform_4 (grid0.coords t) = cc0_transform_4 (grid0.coords t') → t = t' := by
  intro t t' h h' he
  have e0 : ∀ s : Fin grid0.N, cc0_transform_4 (grid0.coords s) 0 = s.val / 4 := by decide +kernel
  have := congrFun he 0
  rw [e0, e0] at this
  apply Fin.ext; omega

theorem block_apart : ∀ t t' : Fin (cfgM m hO).N, ((cfgM m hO).win 4).flush t = true → ((cfgM m hO).win 4).flush t' = true → t ≠ t' →
    Disjoint (((cfgM m hO).win 4).blk t).view.set (((cfgM m hO).win 4).blk t').view.set :=
  fun t t' hf hf' hne => ((cfgM m hO).win 4).disjoint_blk fun h =>
    hne (index_inj t t' ((flush_iff m hO t).mp hf) ((flush_iff m hO t').mp hf') h)

/-- The final array's block at a tile's last step is the tile's result. -/
theorem block_of (c : Dev nD) (t : Fin (cfgM m hO).N) (hf : ((cfgM m hO).win 4).flush t = true) :
    (((cfgM m hO).win 4).blk t).view.read (Elt F) ((data m hO 0 c).arrAt 4 (cfgM m hO).N)
      = ((cfgM m hO).win 4).cut (grid0.coords t) (result m hO c (t.val / 4)) := by
  rw [(data m hO 0 c).read_blk_arrAt_eq_flushed 4 (block_apart m hO) (cfgM m hO).N t t.isLt hf]
  show ((cfgM m hO).win 4).cut (grid0.coords t) ((data m hO 0 c).after 4 t) = _
  rw [left4]

end Cert.Kernel2Ideal.Routed

end
-- ==== Proof.RoutedRange.lean ====
/- Where the experts named are among the eight and the tiles in use among the forty, every block the routed
feed-forward call fetches lies in its array. -/
module

public import proofs.«01_k».proof.Proof.RoutedTables
public import Idealize.ShloMosaic.Lib.ReduceAll
public import Idealize.ShloMosaic.Lib.Pointwise

@[expose] public section

set_option maxRecDepth 16384

noncomputable section

namespace Cert.Kernel2Ideal.Routed

open Idealize.ShloMosaic Idealize.ShloMosaic.TcCoe Idealize.ShloMosaic.Pointwise
open Cert.Kernel2Ideal Cert.Kernel2Ideal.Gen

variable {F : FTy → Type} [FloatOps F]
variable (m : (ℓ : Loc nD τ sig) → Buf (Elt F) ℓ)

/-! ## Words of small numbers -/

theorem small_toInt {x : BitVec 32} (h : x.toNat < 2 ^ 31) : x.toInt = (x.toNat : ℤ) := by
  rw [BitVec.toInt_eq_toNat_cond, if_pos (by omega)]

theorem toNat_of_toInt {x : BitVec 32} {n : ℕ} (h0 : 0 ≤ x.toInt) (h : x.toInt < n) : x.toNat < n := by
  rw [BitVec.toInt_eq_toNat_cond] at h0 h
  have := x.isLt
  split at h0 <;> omega

theorem slt_small {x y : BitVec 32} (hx : x.toNat < 2 ^ 31) (hy : y.toNat < 2 ^ 31) :
    Scalar.cmpi .slt x y = 1#1 ↔ x.toNat < y.toNat := by
  have h : ∀ b : Bool, BitVec.ofBool b = 1#1 ↔ b = true := by decide
  refine (h _).trans ?_
  rw [BitVec.slt_iff_toInt_lt, small_toInt hx, small_toInt hy]
  exact Int.ofNat_lt

theorem minsi_small {x y : BitVec 32} (hx : x.toNat < 2 ^ 31) (hy : y.toNat < 2 ^ 31) :
    (Scalar.minsi x y).toNat = min x.toNat y.toNat := by
  show (if x.slt y then x else y).toNat = _
  have := BitVec.slt_iff_toInt_lt (x := x) (y := y)
  rw [small_toInt hx, small_toInt hy] at this
  split
  · have : x.toNat < y.toNat := by exact_mod_cast this.mp ‹_›
    omega
  · have : ¬ x.toNat < y.toNat := fun h => ‹¬ _› (this.mpr (by exact_mod_cast h))
    omega

theorem ofNat_small {n : ℕ} (h : n < 2 ^ 31) : (BitVec.ofNat 32 n).toNat = n := by
  rw [BitVec.toNat_ofNat]; omega

/-! ## The tables -/

/-- The expert of a tile. -/
def expert (T : Fin 40) : BitVec 32 := V m (0 : Dev nD) main_arg0 (ix1 T)

/-- Every expert named is one of the eight, and there are one to forty tiles in use. -/
structure InRange : Prop where
  expert_lt : ∀ T : Fin 40, (expert m T).toNat < 8
  used_pos : 1 ≤ (used m).toNat
  used_le : (used m).toNat ≤ 40

theorem unit_zero : ∀ (a : Fin 1) (b : Fin (S1.size a)), b.val = 0 := by decide

theorem at_used (h1 : S1.numel = 1) : (tbl m).at 1 (Rect.unit (s := S1) ![0] S1.size inb_S1_S1_0) h1 = used m := by
  unfold used Pipeline.Prefetch.Contents.atD
  rw [dif_pos (by decide)]
  exact congrArg (tbl m 1) (funext fun a => Fin.ext (by
    exact (unit_zero a _).trans (unit_zero a _).symm))

theorem at_expert (i : grid0.Coords) (h1 : S1.numel = 1) :
    (tbl m).at 0 (Rect.unit (s := S40) (k0_off1 i) S1.size (k0_off1_inb i)) h1 = expert m (i 0) := by
  unfold expert
  refine congrArg (tbl m 0) (funext fun a => Fin.ext ?_)
  match a with
  | ⟨0, _⟩ =>
    have hi : (i 0).val < 40 := (i 0).isLt
    have e : k0_off1 i 0 = (i 0).val := ofNat_small (by omega)
    show k0_off1 i 0 + 1 * (Shape.Idx.first (s := S1) (h1.symm ▸ Nat.one_pos) 0).val = (i 0).val
    rw [e, unit_zero 0]; rfl

variable {m}

theorem rows_index (R : InRange m) (i : grid0.Coords) :
    cc0_transform_0 inb_S1_S1_0 numel1_S1 (tbl m) i = ![min (i 0).val ((used m).toNat - 1), 0] := by
  have hp := R.used_pos
  have hl := R.used_le
  have hi : (i 0).val < 40 := (i 0).isLt
  have e : (Scalar.subi (used m) 1#32).toNat = (used m).toNat - 1 := by
    show (used m - 1#32).toNat = _
    rw [BitVec.toNat_sub]
    have : (1#32 : BitVec 32).toNat = 1 := rfl
    omega
  unfold cc0_transform_0
  rw [at_used]
  dsimp only
  rw [minsi_small (by rw [ofNat_small] <;> omega) (by omega), e, ofNat_small (by omega)]
  rfl

/-- The block of hidden columns fetched at a grid point. -/
def column (m : (ℓ : Loc nD τ sig) → Buf (Elt F) ℓ) (i : grid0.Coords) : ℕ := if inUse m i then (i 1).val else 3

theorem column_lt (i : grid0.Coords) : column m i < 4 := by
  have hi : (i 1).val < 4 := (i 1).isLt
  unfold column; split <;> omega

theorem select_column (i : grid0.Coords) :
    (Scalar.select (Scalar.cmpi .slt (BitVec.ofNat 32 (i 0).val) (used m)) (BitVec.ofNat 32 (i 1).val) 3#32).toNat = column m i := by
  have hi : (i 1).val < 4 := (i 1).isLt
  unfold column
  by_cases h : inUse m i
  · rw [if_pos h]
    unfold inUse at h
    rw [h]; exact ofNat_small (by omega)
  · rw [if_neg h]
    unfold inUse at h
    have h0 : ∀ b : BitVec 1, ¬ b = 1#1 → b = 0#1 := by decide
    rw [h0 _ h]; rfl

theorem gate_index (i : grid0.Coords) :
    cc0_transform_1 k0_off1_inb numel1_S1 inb_S1_S1_0 (tbl m) i = ![(expert m (i 0)).toNat, 0, column m i] := by
  unfold cc0_transform_1
  rw [at_used]
  dsimp only
  rw [select_column, ← at_expert m i numel1_S1]
  rfl

theorem up_index (i : grid0.Coords) :
    cc0_transform_2 k0_off1_inb numel1_S1 inb_S1_S1_0 (tbl m) i = ![(expert m (i 0)).toNat, 0, column m i] := by
  unfold cc0_transform_2
  rw [at_used]
  dsimp only
  rw [select_column, ← at_expert m i numel1_S1]
  rfl

theorem down_index (i : grid0.Coords) :
    cc0_transform_3 k0_off1_inb numel1_S1 inb_S1_S1_0 (tbl m) i = ![(expert m (i 0)).toNat, column m i, 0] := by
  unfold cc0_transform_3
  rw [at_used]
  dsimp only
  rw [select_column, ← at_expert m i numel1_S1]
  rfl

/-! ## Every block is in its array -/

theorem packed_cols (e j : ℕ) : S8x1024x3584.WholeWordsAt 2 (fun a => ![e, 0, j] a * S1x1024x896.size a) S1x1024x896.size (fun _ => 1) :=
  .inl (.inr ⟨by decide, rfl, .inl ⟨Dvd.intro_left _ rfl, by decide⟩⟩)

theorem packed_rows (e j : ℕ) : S8x3584x1024.WholeWordsAt 2 (fun a => ![e, j, 0] a * S1x896x1024.size a) S1x896x1024.size (fun _ => 1) :=
  .inl (.inr ⟨by decide, rfl, .inl ⟨Dvd.dvd.mul_left (by decide : 2 ∣ 896) _, by decide⟩⟩)

theorem ok_of_range (R : InRange m) : Ok m := by
  have hc : ∀ i : grid0.Coords, column m i < 4 := column_lt
  have he : ∀ i : grid0.Coords, (expert m (i 0)).toNat < 8 := fun i => R.expert_lt _
  have ha : ∀ i : grid0.Coords, ∀ a, (![(expert m (i 0)).toNat, 0, column m i] a + 1) * S1x1024x896.size a ≤ S8x1024x3584.size a := fun i a => by
    have := hc i; have := he i
    match a with
    | ⟨0, _⟩ => show ((expert m (i 0)).toNat + 1) * 1 ≤ 8; omega
    | ⟨1, _⟩ => show (0 + 1) * 1024 ≤ 1024; omega
    | ⟨2, _⟩ => show (column m i + 1) * 896 ≤ 3584; omega
  have hb : ∀ i : grid0.Coords, ∀ a, (![(expert m (i 0)).toNat, column m i, 0] a + 1) * S1x896x1024.size a ≤ S8x3584x1024.size a := fun i a => by
    have := hc i; have := he i
    match a with
    | ⟨0, _⟩ => show ((expert m (i 0)).toNat + 1) * 1 ≤ 8; omega
    | ⟨1, _⟩ => show (column m i + 1) * 896 ≤ 3584; omega
    | ⟨2, _⟩ => show (0 + 1) * 1024 ≤ 1024; omega
  refine ⟨fun i => ⟨?_, .inl rfl⟩, fun i => ?_, fun i => ?_, fun i => ?_⟩
  · rw [rows_index R i]
    have := R.used_pos; have := R.used_le
    intro a
    match a with
    | ⟨0, _⟩ => show (min (i 0).val ((used m).toNat - 1) + 1) * 1024 ≤ 40960; omega
    | ⟨1, _⟩ => show (0 + 1) * 1024 ≤ 1024; omega
  · rw [gate_index i]
    exact ⟨ha i, .inr (packed_cols _ _)⟩
  · rw [up_index i]
    exact ⟨ha i, .inr (packed_cols _ _)⟩
  · rw [down_index i]
    exact ⟨hb i, .inr (packed_rows _ _)⟩

/-! ## The precondition -/

/-- The number of tiles in use is the second argument's word. -/
theorem used_eq (m : (ℓ : Loc nD τ sig) → Buf (Elt F) ℓ) : used m = m (((0 : Dev nD).tc : Thread nD τ).loc main_arg1) (ix1 0) := by
  rw [← V_main_arg1 m 0]
  unfold used Pipeline.Prefetch.Contents.atD
  rw [dif_pos (by decide)]
  exact congrArg (tbl m 1) (funext fun a => Fin.ext (by
    exact (unit_zero a _).trans (unit_zero a _).symm))

/-- The condition on the arguments says that the tables are in range. -/
theorem inRange_of_condition [Cert.Pre_in_range.Facts]
    (h : Cert.Pre_in_range.fn (F := F) (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3))
      (m (((0 : Dev nD).tc : Thread nD τ).loc main_arg4)) (m (((0 : Dev nD).tc : Thread nD τ).loc main_arg5)) = fun _ => 1#1) : InRange m := by
  have hb : ∀ b : Bool, BitVec.ofBool b = 1#1 ↔ b = true := by decide
  have h0 := congrFun h Idealize.ShloMosaic.ix0
  unfold Cert.Pre_in_range.fn at h0
  obtain ⟨hE, hN⟩ := IntOp.andi_eq_one.1 h0
  have hu := used_eq m
  have hn := IntOp.andi_eq_one.1 (Host.reduce_andi_all _ _ _ _ Idealize.ShloMosaic.ix0 hN (ix1 0))
  have n1 := BitVec.sle_iff_toInt_le.1 ((hb _).1 hn.1)
  have n2 := BitVec.sle_iff_toInt_le.1 ((hb _).1 hn.2)
  refine ⟨fun T => ?_, ?_, ?_⟩
  · have ht := IntOp.andi_eq_one.1 (Host.reduce_andi_all _ _ _ _ Idealize.ShloMosaic.ix0 hE (ix1 T))
    have t1 := BitVec.sle_iff_toInt_le.1 ((hb _).1 ht.1)
    have t2 := BitVec.slt_iff_toInt_lt.1 ((hb _).1 ht.2)
    unfold expert
    rw [V_main_arg0]
    exact toNat_of_toInt t1 t2
  · rw [hu]
    have n1' : (1 : ℤ) ≤ (m (((0 : Dev nD).tc : Thread nD τ).loc main_arg1) (ix1 0) : BitVec 32).toInt := n1
    have n2' : (m (((0 : Dev nD).tc : Thread nD τ).loc main_arg1) (ix1 0) : BitVec 32).toInt ≤ 40 := n2
    rw [BitVec.toInt_eq_toNat_cond] at n1' n2'
    split at n1' <;> omega
  · rw [hu]
    have n1' : (1 : ℤ) ≤ (m (((0 : Dev nD).tc : Thread nD τ).loc main_arg1) (ix1 0) : BitVec 32).toInt := n1
    have n2' : (m (((0 : Dev nD).tc : Thread nD τ).loc main_arg1) (ix1 0) : BitVec 32).toInt ≤ 40 := n2
    have := toNat_of_toInt (x := m (((0 : Dev nD).tc : Thread nD τ).loc main_arg1) (ix1 0)) (n := 41) (by omega) (by omega)
    omega

end Cert.Kernel2Ideal.Routed

end
-- ==== Proof.RoutedRef.lean ====
/- The reference of the routed feed-forward call, element by element: each row of a tile in use goes through the tile's
expert, the rows of the other tiles give zeros. -/
module

public import proofs.«01_k».proof.Proof.Gen.Reference2Ideal.Read
public import Idealize.ShloMosaic.Lib.Pointwise
public import Idealize.ShloMosaic.Lib.IdealHost

@[expose] public section

set_option maxRecDepth 16384

noncomputable section

namespace Cert.Feed

open Idealize.ShloMosaic

/-- One hidden value: from a row, a column of the gate's weights and a column of the other weights. -/
def hidden (x g u : Fin 1024 → EReal) : EReal :=
  ((∑ k, x k * g k) * Ideal.logistic (∑ k, x k * g k)) * ∑ k, x k * u k

theorem one_bits : Ideal.ofBits .f32 0x3F800000#32 = 1 := Ideal.ofBits_one_f32

theorem zero_bits : Ideal.ofBits .f32 0x00000000#32 = 0 := Ideal.ofBits_zero_f32

end Cert.Feed

namespace Cert.Reference2Ideal.Routed

open Idealize.ShloMosaic Idealize.ShloMosaic.Pointwise
open Cert.Reference2Ideal Cert.Reference2Ideal.Gen Cert.Reference2Ideal.Read Cert.Feed

variable (te : (⟨S40, .i32⟩ : BufTy).Contents (Elt Ideal)) (nt : (⟨S1, .i32⟩ : BufTy).Contents (Elt Ideal))
  (x : (⟨S40960x1024, .f32⟩ : BufTy).Contents (Elt Ideal)) (wg wu : (⟨S8x1024x3584, .f32⟩ : BufTy).Contents (Elt Ideal))
  (wd : (⟨S8x3584x1024, .f32⟩ : BufTy).Contents (Elt Ideal))

/-- Is a tile in use? -/
def Used (T : Fin 40) : Prop := Scalar.cmpi .slt (BitVec.ofNat 32 T.val) (nt (ix1 0)) = 1#1

instance (T : Fin 40) : Decidable (Used nt T) := inferInstanceAs (Decidable (_ = _))

/-- The weight an expert's output gets in a row: one for the expert of a tile in use. -/
theorem weight_apply (e : Fin 8) (r : Fin 40960) :
    val_main_v16 te nt (ix2 e r)
      = if Used nt ⟨r.val / 1024, by omega⟩ ∧ te (ix1 ⟨r.val / 1024, by omega⟩) = BitVec.ofNat 32 e.val then (1 : EReal) else 0 := by
  simp only [val_main_v16_apply, val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply,
    val_main_call0_v0_apply, val_main_call0_v1_apply, val_main_cst_apply, val_main_cst_0_apply]
  have h : ∀ (a b : BitVec 1) (P Q : Prop) [Decidable P] [Decidable Q], (a = 1#1 ↔ P) → (b = 1#1 ↔ Q) →
      Scalar.select (IntOp.andi a b) (FloatOps.ofBits (F := Ideal) .f32 0x3F800000#32) (FloatOps.ofBits (F := Ideal) .f32 0x00000000#32)
        = if P ∧ Q then (1 : EReal) else 0 := by
    intro a b P Q _ _ ha hb
    show (if IntOp.andi a b = 1#1 then Ideal.ofBits .f32 0x3F800000#32 else Ideal.ofBits .f32 0x00000000#32) = _
    rw [one_bits, zero_bits]
    refine if_congr ?_ rfl rfl
    rw [IntOp.andi_eq_one, ha, hb]
  have he : ∀ b : Bool, BitVec.ofBool b = 1#1 ↔ b = true := by decide
  refine h _ _ _ _ ?_ ?_
  · have e1 : (idx_main_v3 (idx_main_v5 (idx_main_v6 (idx_main_v13 (idx_main_v14 (ix2 e r)))))) = ix1 0 := by
      funext a; apply Fin.ext; match a with | ⟨0, _⟩ => rfl
    rw [e1]
    exact Iff.rfl
  · have e1 : idx_main_v0 (idx_main_v1 (idx_main_v9 (idx_main_v10 (ix2 e r)))) = ix1 ⟨r.val / 1024, by omega⟩ := by
      funext a; apply Fin.ext; match a with | ⟨0, _⟩ => rfl
    rw [e1]
    refine (he _).trans ?_
    exact beq_iff_eq

theorem gate_apply (e : Fin 8) (r : Fin 40960) (f : Fin 3584) :
    val_main_v18 x wg (ix3 e r f) = ∑ k : Fin 1024, (x (ix2 r k) : EReal) * wg (ix3 e k f) := by
  rw [val_main_v18_apply, val_main_v17_apply]
  refine Finset.sum_congr rfl fun k _ => ?_
  have e1 : lidx_main_v17 (idx_main_v18 (ix3 e r f)) k = ix3 e k f := by
    funext a; apply Fin.ext; match a with | ⟨0, _⟩ => rfl | ⟨1, _⟩ => rfl | ⟨2, _⟩ => rfl
  have e2 : ridx_main_v17 (idx_main_v18 (ix3 e r f)) k = ix2 r k := by
    funext a; apply Fin.ext; match a with | ⟨0, _⟩ => rfl | ⟨1, _⟩ => rfl
  rw [e1, e2]
  exact mul_comm (G := EReal) _ _

theorem up_apply (e : Fin 8) (r : Fin 40960) (f : Fin 3584) :
    val_main_v20 x wu (ix3 e r f) = ∑ k : Fin 1024, (x (ix2 r k) : EReal) * wu (ix3 e k f) := by
  rw [val_main_v20_apply, val_main_v19_apply]
  refine Finset.sum_congr rfl fun k _ => ?_
  have e1 : lidx_main_v19 (idx_main_v20 (ix3 e r f)) k = ix3 e k f := by
    funext a; apply Fin.ext; match a with | ⟨0, _⟩ => rfl | ⟨1, _⟩ => rfl | ⟨2, _⟩ => rfl
  have e2 : ridx_main_v19 (idx_main_v20 (ix3 e r f)) k = ix2 r k := by
    funext a; apply Fin.ext; match a with | ⟨0, _⟩ => rfl | ⟨1, _⟩ => rfl
  rw [e1, e2]
  exact mul_comm (G := EReal) _ _

theorem hidden_apply (e : Fin 8) (r : Fin 40960) (f : Fin 3584) :
    val_main_v22 x wg wu (ix3 e r f) = Cert.Feed.hidden (fun k => x (ix2 r k)) (fun k => wg (ix3 e k f)) (fun k => wu (ix3 e k f)) := by
  simp only [val_main_v22_apply, val_main_v21_apply, val_main_call1_v5_apply, val_main_call1_v4_apply, val_main_call1_v3_apply,
    val_main_call1_v2_apply, val_main_call1_v1_apply, val_main_call1_v0_apply, val_main_call1_cst_apply, val_main_call1_cst_0_apply]
  rw [gate_apply, up_apply]
  unfold Cert.Feed.hidden
  refine congrArg (fun a : EReal => (_ * a) * _) ?_
  show Ideal.div (Ideal.ofBits .f32 0x3F800000#32) (Ideal.ofBits .f32 0x3F800000#32 + Ideal.exp (-_)) = _
  rw [one_bits]
  rfl

theorem expert_apply (e : Fin 8) (r : Fin 40960) (n : Fin 1024) :
    val_main_v23 x wg wu wd (ix3 e r n)
      = ∑ f : Fin 3584, Cert.Feed.hidden (fun k => x (ix2 r k)) (fun k => wg (ix3 e k f)) (fun k => wu (ix3 e k f)) * (wd (ix3 e f n) : EReal) := by
  rw [val_main_v23_apply]
  refine Finset.sum_congr rfl fun f _ => ?_
  have e1 : lidx_main_v23 (ix3 e r n) f = ix3 e r f := by
    funext a; apply Fin.ext; match a with | ⟨0, _⟩ => rfl | ⟨1, _⟩ => rfl | ⟨2, _⟩ => rfl
  have e2 : ridx_main_v23 (ix3 e r n) f = ix3 e f n := by
    funext a; apply Fin.ext; match a with | ⟨0, _⟩ => rfl | ⟨1, _⟩ => rfl | ⟨2, _⟩ => rfl
  rw [e1, e2, hidden_apply]

/-- The reference's result, where the row's tile names one of the eight experts. -/
theorem result_apply (r : Fin 40960) (n : Fin 1024) (e : Fin 8) (he : (te (ix1 ⟨r.val / 1024, by omega⟩) : BitVec 32).toNat = e.val) :
    val_main_v28 te nt x wg wu wd (ix2 r n)
      = if Used nt ⟨r.val / 1024, by omega⟩ then
          ∑ f : Fin 3584, Cert.Feed.hidden (fun k => x (ix2 r k)) (fun k => wg (ix3 e k f)) (fun k => wu (ix3 e k f)) * (wd (ix3 e f n) : EReal)
        else 0 := by
  rw [val_main_v28_apply]
  have h0 : val_main_cst_1 (F := Ideal) (Shape.Idx.first h_S_) = (0 : EReal) := by
    rw [val_main_cst_1_apply]; exact zero_bits
  rw [h0]
  refine (zero_add (M := EReal) _).trans ?_
  have hterm : ∀ k : Fin 8, val_main_v27 te nt x wg wu wd (idx_main_v28 (ix2 r n) k)
      = (if Used nt ⟨r.val / 1024, by omega⟩ ∧ te (ix1 ⟨r.val / 1024, by omega⟩) = BitVec.ofNat 32 k.val then (1 : EReal) else 0)
        * val_main_v23 x wg wu wd (ix3 k r n) := by
    intro k
    have e0 : idx_main_v28 (ix2 r n) k = ix3 k r n := by
      funext a; apply Fin.ext; match a with | ⟨0, _⟩ => rfl | ⟨1, _⟩ => rfl | ⟨2, _⟩ => rfl
    rw [e0, val_main_v27_apply, val_main_v26_apply, val_main_v25_apply, val_main_v24_apply]
    have e1 : idx_main_v24 (idx_main_v26 (ix3 k r n)) = ix2 k r := by
      funext a; apply Fin.ext; match a with | ⟨0, _⟩ => rfl | ⟨1, _⟩ => rfl
    rw [e1, weight_apply]
    rfl
  rw [Finset.sum_congr rfl fun k _ => hterm k]
  by_cases hu : Used nt ⟨r.val / 1024, by omega⟩
  · rw [if_pos hu, Finset.sum_eq_single e]
    · have : te (ix1 ⟨r.val / 1024, by omega⟩) = BitVec.ofNat 32 e.val := by
        apply BitVec.eq_of_toNat_eq
        rw [he, BitVec.toNat_ofNat]; omega
      rw [if_pos ⟨hu, this⟩, expert_apply]
      exact one_mul (M := EReal) _
    · intro k _ hk
      rw [if_neg]
      · exact zero_mul (M₀ := EReal) _
      · rintro ⟨_, h⟩
        apply hk
        rw [h, BitVec.toNat_ofNat] at he
        apply Fin.ext; omega
    · intro h; exact absurd (Finset.mem_univ _) h
  · rw [if_neg hu]
    refine Finset.sum_eq_zero fun k _ => ?_
    rw [if_neg (fun h => hu h.1)]
    exact zero_mul (M₀ := EReal) _

end Cert.Reference2Ideal.Routed

end
-- ==== Proof.RoutedValue.lean ====
/- The routed feed-forward call leaves what its reference leaves: a tile's sum over four blocks of hidden columns is
the sum over all the columns of its expert. -/
module

public import proofs.«01_k».proof.Proof.RoutedLaunch
public import proofs.«01_k».proof.Proof.RoutedRange
public import proofs.«01_k».proof.Proof.RoutedRef
public import Idealize.ShloMosaic.Lib.Pipeline.ValueKit

@[expose] public section

set_option maxRecDepth 16384

noncomputable section

namespace Cert.Kernel2Ideal.Routed

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Idealize.ShloMosaic.Pointwise
open Cert.Kernel2Ideal Cert.Kernel2Ideal.Gen Cert.Feed

/-! ## The body's operations, element by element -/

theorem blank_apply (r n : Fin 1024) : (k0_pay1 (F := Ideal)) (ix2 r n) = (0 : EReal) := by
  unfold k0_pay1; pointwise

theorem start_apply (r n : Fin 1024) : (k0_pay2 (F := Ideal)) (ix2 r n) = (0 : EReal) := by
  unfold k0_pay2; pointwise

theorem round_apply (x : Vec Ideal S1024x1024 .f32) (r k : Fin 1024) : (k0_pay3 x) (ix2 r k) = (x (ix2 r k) : EReal) := by
  unfold k0_pay3; pointwise

theorem block_apply (xb : Vec Ideal S1024x1024 .bf16) (wg wu : Vec Ideal S1x1024x896 .bf16) (a : Vec Ideal S1024x1024 .f32)
    (wd : Vec Ideal S1x896x1024 .bf16) (r n : Fin 1024) :
    (k0_pay4 xb wg wu a wd) (ix2 r n)
      = (a (ix2 r n) : EReal) + ∑ j : Fin 896, Cert.Feed.hidden (fun k => xb (ix2 r k)) (fun k => wg (ix3 0 k j)) (fun k => wu (ix3 0 k j)) * (wd (ix3 0 j n) : EReal) := by
  unfold k0_pay4 Cert.Feed.hidden
  pointwise

/-! ## The blocks -/

variable (m : (ℓ : Loc nD τ sig) → Buf (Elt Ideal) ℓ) (hO : Ok m) (c : Dev nD)

theorem gate_weights (i : S8x1024x3584.Idx) : (V m c main_v0 i : EReal) = m ((c.tc : Thread nD τ).loc main_arg3) i := by
  rfl
theorem up_weights (i : S8x1024x3584.Idx) : (V m c main_v1 i : EReal) = m ((c.tc : Thread nD τ).loc main_arg4) i := by
  rfl
theorem down_weights (i : S8x3584x1024.Idx) : (V m c main_v2 i : EReal) = m ((c.tc : Thread nD τ).loc main_arg5) i := by
  rfl

variable {m}
variable (R : InRange m)
include R

theorem point_lt (T : Fin 40) (k : Fin 4) : 4 * T.val + k.val < 160 := by omega

theorem pt_val (T : Fin 40) (k : Fin 4) : (pt T.val k.val).val = 4 * T.val + k.val := by
  unfold pt; dsimp only; omega

theorem pt_tile (T : Fin 40) (k : Fin 4) : grid0.coords (pt T.val k.val) 0 = T := by
  apply Fin.ext; rw [coords_tile, pt_val R T k]; omega

theorem pt_step (T : Fin 40) (k : Fin 4) : (grid0.coords (pt T.val k.val) 1).val = k.val := by
  rw [coords_step, pt_val R T k]; omega

theorem index_rows (T : Fin 40) (k : Fin 4) (hu : tileUsed m T.val) : ((cfgM m hO).win 0).index (pt T.val k.val) = ![T.val, 0] := by
  refine (rows_index R (grid0.coords (pt T.val k.val))).trans ?_
  rw [pt_tile R T k]
  have := R.used_le
  have h : T.val < (used m).toNat := by
    have := (slt_small (by rw [ofNat_small] <;> omega) (by omega)).1 hu
    rwa [ofNat_small (by omega)] at this
  rw [min_eq_left (by omega)]

theorem column_pt (T : Fin 40) (k : Fin 4) (hu : tileUsed m T.val) : column m (grid0.coords (pt T.val k.val)) = k.val := by
  unfold column
  rw [if_pos, pt_step R T k]
  rw [inUse_iff, pt_val R T k]
  rwa [show (4 * T.val + k.val) / 4 = T.val by omega]

theorem index_gate (T : Fin 40) (k : Fin 4) (hu : tileUsed m T.val) :
    ((cfgM m hO).win 1).index (pt T.val k.val) = ![(expert m T).toNat, 0, k.val] := by
  refine (gate_index (grid0.coords (pt T.val k.val))).trans ?_
  rw [pt_tile R T k, column_pt R T k hu]

theorem index_up (T : Fin 40) (k : Fin 4) (hu : tileUsed m T.val) :
    ((cfgM m hO).win 2).index (pt T.val k.val) = ![(expert m T).toNat, 0, k.val] := by
  refine (up_index (grid0.coords (pt T.val k.val))).trans ?_
  rw [pt_tile R T k, column_pt R T k hu]

theorem index_down (T : Fin 40) (k : Fin 4) (hu : tileUsed m T.val) :
    ((cfgM m hO).win 3).index (pt T.val k.val) = ![(expert m T).toNat, k.val, 0] := by
  refine (down_index (grid0.coords (pt T.val k.val))).trans ?_
  rw [pt_tile R T k, column_pt R T k hu]

theorem rows_block (T : Fin 40) (k : Fin 4) (hu : tileUsed m T.val) (r d : Fin 1024) :
    iblk m hO c 0 (pt T.val k.val) (ix2 r d) = V m c main_arg2 (ix2 ⟨T.val * 1024 + r.val, by omega⟩ d) := by
  blk_ext [iblk, index_rows hO R T k hu]

theorem gate_block (T : Fin 40) (k : Fin 4) (hu : tileUsed m T.val) (d : Fin 1024) (j : Fin 896) :
    iblk m hO c 1 (pt T.val k.val) (ix3 0 d j) = V m c main_v0 (ix3 ⟨(expert m T).toNat, R.expert_lt T⟩ d ⟨k.val * 896 + j.val, by omega⟩) := by
  blk_ext [iblk, index_gate hO R T k hu]

theorem up_block (T : Fin 40) (k : Fin 4) (hu : tileUsed m T.val) (d : Fin 1024) (j : Fin 896) :
    iblk m hO c 2 (pt T.val k.val) (ix3 0 d j) = V m c main_v1 (ix3 ⟨(expert m T).toNat, R.expert_lt T⟩ d ⟨k.val * 896 + j.val, by omega⟩) := by
  blk_ext [iblk, index_up hO R T k hu]

theorem down_block (T : Fin 40) (k : Fin 4) (hu : tileUsed m T.val) (j : Fin 896) (n : Fin 1024) :
    iblk m hO c 3 (pt T.val k.val) (ix3 0 j n) = V m c main_v2 (ix3 ⟨(expert m T).toNat, R.expert_lt T⟩ ⟨k.val * 896 + j.val, by omega⟩ n) := by
  blk_ext [iblk, index_down hO R T k hu]

/-! ## A tile's result -/

omit R in
/-- A sum over all hidden columns, by blocks of them. -/
theorem sum_blocks (H : Fin 3584 → EReal) :
    ∑ f : Fin 3584, H f = ∑ k : Fin 4, ∑ j : Fin 896, H ⟨k.val * 896 + j.val, by omega⟩ := by
  rw [← Equiv.sum_comp (finProdFinEquiv : Fin 4 × Fin 896 ≃ Fin 3584) H, Fintype.sum_prod_type]
  refine Finset.sum_congr rfl fun k _ => Finset.sum_congr rfl fun j _ => congrArg H (Fin.ext ?_)
  show j.val + 896 * k.val = k.val * 896 + j.val
  omega

/-- One hidden column's share of a result. -/
def share (c : Dev nD) (T : Fin 40) (r n : Fin 1024) (f : Fin 3584) : EReal :=
  Cert.Feed.hidden (fun k => m ((c.tc : Thread nD τ).loc main_arg2) (ix2 ⟨T.val * 1024 + r.val, by omega⟩ k))
    (fun k => m ((c.tc : Thread nD τ).loc main_arg3) (ix3 ⟨(expert m T).toNat, R.expert_lt T⟩ k f))
    (fun k => m ((c.tc : Thread nD τ).loc main_arg4) (ix3 ⟨(expert m T).toNat, R.expert_lt T⟩ k f))
  * (m ((c.tc : Thread nD τ).loc main_arg5) (ix3 ⟨(expert m T).toNat, R.expert_lt T⟩ f n) : EReal)

theorem part_step (T : Fin 40) (k : Fin 4) (hu : tileUsed m T.val) (r n : Fin 1024) :
    part m hO c T.val (k.val + 1) (ix2 r n)
      = (part m hO c T.val k.val (ix2 r n) : EReal) + ∑ j : Fin 896, share R c T r n ⟨k.val * 896 + j.val, by omega⟩ := by
  conv_lhs => unfold part
  refine (block_apply _ _ _ _ _ r n).trans (congrArg (fun a : EReal => _ + a) (Finset.sum_congr rfl fun j _ => ?_))
  have hx : (fun d => (rows m hO c T.val (ix2 r d) : EReal)) = fun d => m ((c.tc : Thread nD τ).loc main_arg2) (ix2 ⟨T.val * 1024 + r.val, by omega⟩ d) :=
    funext fun d => (round_apply _ r d).trans ((rows_block hO c R T 0 hu r d).trans (congrFun (V_main_arg2 m c) _))
  have hg : (fun d => (iblk m hO c 1 (pt T.val k.val) (ix3 0 d j) : EReal)) = fun d => m ((c.tc : Thread nD τ).loc main_arg3) (ix3 ⟨(expert m T).toNat, R.expert_lt T⟩ d ⟨k.val * 896 + j.val, by omega⟩) :=
    funext fun d => (gate_block hO c R T k hu d j).trans (gate_weights m c _)
  have hw : (fun d => (iblk m hO c 2 (pt T.val k.val) (ix3 0 d j) : EReal)) = fun d => m ((c.tc : Thread nD τ).loc main_arg4) (ix3 ⟨(expert m T).toNat, R.expert_lt T⟩ d ⟨k.val * 896 + j.val, by omega⟩) :=
    funext fun d => (up_block hO c R T k hu d j).trans (up_weights m c _)
  have hd : (iblk m hO c 3 (pt T.val k.val) (ix3 0 j n) : EReal) = m ((c.tc : Thread nD τ).loc main_arg5) (ix3 ⟨(expert m T).toNat, R.expert_lt T⟩ ⟨k.val * 896 + j.val, by omega⟩ n) :=
    (down_block hO c R T k hu j n).trans (down_weights m c _)
  unfold share
  rw [← hx, ← hg, ← hw, ← hd]

theorem part_all (T : Fin 40) (hu : tileUsed m T.val) (r n : Fin 1024) :
    part m hO c T.val 4 (ix2 r n) = ∑ f : Fin 3584, share R c T r n f := by
  rw [sum_blocks, Fin.sum_univ_four]
  have h3 := part_step hO c R T 3 hu r n
  have h2 := part_step hO c R T 2 hu r n
  have h1 := part_step hO c R T 1 hu r n
  have h0 := part_step hO c R T 0 hu r n
  have hs : part m hO c T.val 0 (ix2 r n) = (0 : EReal) := by unfold part; exact start_apply r n
  refine h3.trans ?_
  refine congrArg (fun a : EReal => a + _) (h2.trans ?_)
  refine congrArg (fun a : EReal => a + _) (h1.trans ?_)
  refine congrArg (fun a : EReal => a + _) (h0.trans ?_)
  refine (congrArg (fun a : EReal => a + _) hs).trans (zero_add (M := EReal) _)

/-- What the reference computes from the call's arguments. -/
def wanted (m : (ℓ : Loc nD τ sig) → Buf (Elt Ideal) ℓ) (c : Dev nD) : S40960x1024.Idx → EReal :=
  Cert.Reference2Ideal.Read.val_main_v28 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))

theorem used_word : used m = m ((c.tc : Thread nD τ).loc main_arg1) (ix1 0) := by
  obtain rfl : c = 0 := Subsingleton.elim _ _
  exact used_eq m

theorem result_point (T : Fin 40) (r n : Fin 1024) :
    result m hO c T.val (ix2 r n) = wanted m c (ix2 ⟨T.val * 1024 + r.val, by omega⟩ n) := by
  have eT : (⟨(T.val * 1024 + r.val) / 1024, by omega⟩ : Fin 40) = T := by apply Fin.ext; dsimp only; omega
  have eE : expert m T = m ((c.tc : Thread nD τ).loc main_arg0) (ix1 T) := by
    obtain rfl : c = 0 := Subsingleton.elim _ _
    unfold expert; rw [V_main_arg0]
  have hU : Cert.Reference2Ideal.Routed.Used (m ((c.tc : Thread nD τ).loc main_arg1)) ⟨(T.val * 1024 + r.val) / 1024, by omega⟩ ↔ tileUsed m T.val := by
    rw [eT]
    unfold Cert.Reference2Ideal.Routed.Used tileUsed
    rw [used_word c R]
  have key := Cert.Reference2Ideal.Routed.result_apply (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) ⟨T.val * 1024 + r.val, by omega⟩ n ⟨(expert m T).toNat, R.expert_lt T⟩ (by rw [eT]; exact congrArg BitVec.toNat eE.symm)
  refine Eq.trans ?_ key.symm
  unfold result
  by_cases hu : tileUsed m T.val
  · rw [if_pos hu, if_pos (hU.2 hu)]
    exact part_all hO c R T hu r n
  · rw [if_neg hu, if_neg (fun h => hu (hU.1 h))]
    exact blank_apply r n

omit R in
theorem index_out (t : Fin (cfgM m hO).N) : ((cfgM m hO).win 4).index t = ![t.val / 4, 0] :=
  (by decide +kernel : ∀ t : Fin grid0.N, cc0_transform_4 (grid0.coords t) = ![t.val / 4, 0]) t

/-- The forty blocks written, each at its tile's last step, cover the results. -/
theorem covers : ((cfgM m hO).win 4).Covers := by
  refine ⟨fun a => ?_, fun β => ?_⟩
  · match a with
    | ⟨0, _⟩ => show 0 < 1024; omega
    | ⟨1, _⟩ => show 0 < 1024; omega
  · have n0 : ((cfgM m hO).win 4).nblk (0 : Fin 2) = 40 := by show (40960 + 1024 - 1) / 1024 = 40; rfl
    have n1 : ((cfgM m hO).win 4).nblk (1 : Fin 2) = 1 := by show (1024 + 1024 - 1) / 1024 = 1; rfl
    obtain ⟨b, hb0⟩ : ∃ b : Fin 40, b.val = (β (0 : Fin 2)).val := ⟨⟨_, lt_of_lt_of_eq (β (0 : Fin 2)).isLt n0⟩, rfl⟩
    obtain ⟨b', hb1⟩ : ∃ b' : Fin 1, b'.val = (β (1 : Fin 2)).val := ⟨⟨_, lt_of_lt_of_eq (β (1 : Fin 2)).isLt n1⟩, rfl⟩
    have hv : (pt b.val 3).val = 4 * b.val + 3 := by unfold pt; dsimp only; omega
    refine ⟨pt b.val 3, (flush_iff m hO _).2 (by rw [hv]; omega), fun a => ⟨?_, .inl ?_⟩⟩
    · rw [index_out]
      match a with
      | ⟨0, _⟩ =>
        refine Eq.trans (b := b.val) ?_ hb0
        show (pt b.val 3).val / 4 = b.val; rw [hv]; omega
      | ⟨1, _⟩ =>
        refine Eq.trans (b := b'.val) ?_ hb1
        show 0 = b'.val; omega
    · rfl

/-- The run leaves in the result buffer what the reference computes. -/
theorem array_eq : (data m hO 0 c).arrAt 4 (cfgM m hO).N = wanted m c := by
  refine (data m hO 0 c).arrAt_eq_of_covers 4 _ (covers hO R) fun t hf y => ?_
  blk_simp
  rw [left4]
  obtain ⟨r, n, rfl⟩ : ∃ (r n : Fin 1024), y = ix2 r n :=
    ⟨y (0 : Fin 2), y (1 : Fin 2), funext fun a => match a with | ⟨0, _⟩ => rfl | ⟨1, _⟩ => rfl⟩
  have ht : t.val < 160 := lt_of_lt_of_eq t.isLt N_0
  refine (result_point hO c R ⟨t.val / 4, by omega⟩ r n).trans (congrArg (wanted m c) ?_)
  funext a
  refine Fin.ext ?_
  match a with
  | ⟨0, _⟩ =>
    blk_simp [index_out hO t]
  | ⟨1, _⟩ =>
    blk_simp [index_out hO t]

end Cert.Kernel2Ideal.Routed

end
-- ==== Proof.DenseBody.lean ====
/- The body of the dense layers' feed-forward kernel, run on any buffers: at a tile's first step the sum starts with the
first block of hidden columns; at its second and last step the other block is added, and the layer's input plus the sum
is handed out. -/
module

public import proofs.«01_k».proof.Defs
public import proofs.«01_k».proof.Proof.Gen.Kernel3Ideal.Launch
public import proofs.«01_k».proof.Proof.Gen.Kernel3Ideal.Skeleton
public import Idealize.ShloMosaic.Lib.Claim
public import Idealize.ShloMosaic.Lib.Pipeline.Value
public import Idealize.ShloMosaic.Lib.VecWindow

@[expose] public section

set_option maxRecDepth 16384

noncomputable section

namespace Cert.Kernel3Ideal.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]
local notation "𝕄" => MT nD τ sig Unit (Elt F) ℕ (UR sig nD τ) ℕ

theorem zero2 : (![0, 0] : Fin 2 → ℕ) = fun _ => 0 := by decide
theorem zero3 : (![0, 0, 0] : Fin 3 → ℕ) = fun _ => 0 := by decide

section
variable (c : Dev nD) (i : grid0.Coords)
  (arg2 : Memref sig .tc .smem S16 .i32) (harg2 : arg2.IsWhole) (arg3 : Memref sig .tc .smem S1 .i32) (harg3 : arg3.IsWhole)
  (arg4 : Memref sig .tc .vmem S1024x1024 .bf16) (harg4 : arg4.IsWhole) (arg5 : Memref sig .tc .vmem S1x1024x1408 .bf16) (harg5 : arg5.IsWhole)
  (arg6 : Memref sig .tc .vmem S1x1024x1408 .bf16) (harg6 : arg6.IsWhole) (arg7 : Memref sig .tc .vmem S1x1408x1024 .bf16) (harg7 : arg7.IsWhole)
  (arg8 : Memref sig .tc .vmem S1024x1024 .f32) (harg8 : arg8.IsWhole) (arg9 : Memref sig .tc .vmem S1024x1024 .f32) (harg9 : arg9.IsWhole)
  (arg10 : Memref sig .tc .vmem S1024x1024 .f32) (harg10 : arg10.IsWhole)
  (ft : Buf (Elt F) (arg3.view.loc (c : Thread nD τ)))
  (x : Vec F S1024x1024 .bf16) (wg wu : Vec F S1x1024x1408 .bf16) (wd : Vec F S1x1408x1024 .bf16) (y : Vec F S1024x1024 .f32)

/-- The number of tiles, as the body reads it from its table. -/
abbrev count (arg3 : Memref sig .tc .smem S1 .i32) (ft : Buf (Elt F) (arg3.view.loc (c : Thread nD τ))) : BitVec 32 :=
  arg3.view.readAt (Elt F) (Rect.unit (s := S1) ![0] S1.size inb_S1_S1_0).toLoadRect ft (Shape.Idx.first (numel1_S1.symm ▸ Nat.one_pos))

/-- Is this the tile's first step? -/
abbrev firstStep (i : grid0.Coords) : BitVec 1 :=
  Scalar.cmpi .ne (Scalar.extui (Scalar.cmpi .eq (BitVec.ofNat 32 (i 1).val) 0#32) : BitVec 32) 0#32

/-- The buffers the body works on: the table of the number of tiles, the tile's rows, the three blocks of weights, the
    layer's input, the block of results and the sum so far. -/
def held (d a : Vec F S1024x1024 .f32) : sProp 𝕄 :=
  iprop((arg3.view.loc (c : Thread nD τ) ↦{fullShare.right} ft)
    ∗ owns (c : Thread nD τ) arg4 fullShare x ∗ owns (c : Thread nD τ) arg5 fullShare wg ∗ owns (c : Thread nD τ) arg6 fullShare wu
    ∗ owns (c : Thread nD τ) arg7 fullShare wd ∗ owns (c : Thread nD τ) arg8 fullShare y ∗ owns (c : Thread nD τ) arg9 fullShare d
    ∗ owns (c : Thread nD τ) arg10 fullShare a)

set_option maxHeartbeats 1000000 in
/-- A tile's first step: the sum is the first block's part. -/
theorem run_first (h1 : ¬ k0_cond1 i (count c arg3 ft) = 1#1) (h2 : k0_cond2 i (count c arg3 ft) = 1#1) (h3 : firstStep i = 1#1) (h4 : ¬ k0_cond4 i = 1#1)
    (d a : Vec F S1024x1024 .f32) (E : Set ℕ) (K : PUnit → sProp 𝕄) :
    iprop(held c arg3 arg4 arg5 arg6 arg7 arg8 arg9 arg10 ft x wg wu wd y d a
        ∗ (held c arg3 arg4 arg5 arg6 arg7 arg8 arg9 arg10 ft x wg wu wd y d (k0_pay3 x wg wu (k0_pay2 (F := F)) wd) -∗ K ⟨⟩))
      ⊢ wp frame (wpE (defs₀ (F := F)) Variants.none c none) E
        (cc0_ffn_residual i arg2 harg2 arg3 harg3 arg4 harg4 arg5 harg5 arg6 harg6 arg7 harg7 arg8 harg8 arg9 harg9 arg10 harg10) K := by
  simp only [cc0_ffn_residual_eq_skeleton]; unfold cc0_ffn_residual_skel
  unfold held owns
  iintro ⟨⟨Ht, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg4.eq_unread hf0; obtain rfl := harg5.eq_unread hf1; obtain rfl := harg6.eq_unread hf2
  obtain rfl := harg7.eq_unread hf3; obtain rfl := harg8.eq_unread hf4; obtain rfl := harg9.eq_unread hf5; obtain rfl := harg10.eq_unread hf6
  have e4 : arg4.view.readAt (Elt F) (Rect.unit (s := S1024x1024) ![0, 0] S1024x1024.size inb_S1024x1024_S1024x1024_0_0).toLoadRect (harg4.unread x) = x := by
    rw [View.readAt_full, harg4.read_unread]
  have e5 : arg5.view.readAt (Elt F) (Rect.unit (s := S1x1024x1408) ![0, 0, 0] S1x1024x1408.size inb_S1x1024x1408_S1x1024x1408_0_0_0).toLoadRect (harg5.unread wg) = wg := by
    rw [View.readAt_full, harg5.read_unread]
  have e6 : arg6.view.readAt (Elt F) (Rect.unit (s := S1x1024x1408) ![0, 0, 0] S1x1024x1408.size inb_S1x1024x1408_S1x1024x1408_0_0_0).toLoadRect (harg6.unread wu) = wu := by
    rw [View.readAt_full, harg6.read_unread]
  have e7 : arg7.view.readAt (Elt F) (Rect.unit (s := S1x1408x1024) ![0, 0, 0] S1x1408x1024.size inb_S1x1408x1024_S1x1408x1024_0_0_0).toLoadRect (harg7.unread wd) = wd := by
    rw [View.readAt_full, harg7.read_unread]
  have e8 : arg8.view.readAt (Elt F) (Rect.unit (s := S1024x1024) ![0, 0] S1024x1024.size inb_S1024x1024_S1024x1024_0_0).toLoadRect (harg8.unread y) = y := by
    rw [View.readAt_full, harg8.read_unread]
  have e10 : arg10.view.readAt (Elt F) (Rect.unit (s := S1024x1024) ![0, 0] S1024x1024.size inb_S1024x1024_S1024x1024_0_0).toLoadRect (harg10.unread a) = a := by
    rw [View.readAt_full, harg10.read_unread]
  have w10 : ∀ f w L, arg10.view.readAt (Elt F) (Rect.unit (s := S1024x1024) ![0, 0] S1024x1024.size inb_S1024x1024_S1024x1024_0_0).toLoadRect
      (arg10.view.writes (Elt F) f (⟨Rect.unit (s := S1024x1024) ![0, 0] S1024x1024.size inb_S1024x1024_S1024x1024_0_0, w⟩ :: L)) = w :=
    fun f w L => View.readAt_writes_full _ _ _ _ _ _
  sl_exec
  sl_step
  iapply Hk
  isplitl [Ht]; · iexact Ht
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  iexists _; isplitr; swap; · iexact H6
  ipureintro; sl_unfold_words
  refine (View.read_writes_full _ _ _ _ _).trans ?_
  simp only [View.readCov, e4, e5, e6, e7, e8, e10, w10]

set_option maxHeartbeats 1000000 in
/-- A tile's last step: the last block's part is added, and the layer's input plus the sum handed out. -/
theorem run_last (h1 : ¬ k0_cond1 i (count c arg3 ft) = 1#1) (h2 : k0_cond2 i (count c arg3 ft) = 1#1) (h3 : ¬ firstStep i = 1#1) (h4 : k0_cond4 i = 1#1)
    (d a : Vec F S1024x1024 .f32) (E : Set ℕ) (K : PUnit → sProp 𝕄) :
    iprop(held c arg3 arg4 arg5 arg6 arg7 arg8 arg9 arg10 ft x wg wu wd y d a
        ∗ (held c arg3 arg4 arg5 arg6 arg7 arg8 arg9 arg10 ft x wg wu wd y (k0_pay4 y (k0_pay3 x wg wu a wd)) (k0_pay3 x wg wu a wd) -∗ K ⟨⟩))
      ⊢ wp frame (wpE (defs₀ (F := F)) Variants.none c none) E
        (cc0_ffn_residual i arg2 harg2 arg3 harg3 arg4 harg4 arg5 harg5 arg6 harg6 arg7 harg7 arg8 harg8 arg9 harg9 arg10 harg10) K := by
  simp only [cc0_ffn_residual_eq_skeleton]; unfold cc0_ffn_residual_skel
  unfold held owns
  iintro ⟨⟨Ht, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg4.eq_unread hf0; obtain rfl := harg5.eq_unread hf1; obtain rfl := harg6.eq_unread hf2
  obtain rfl := harg7.eq_unread hf3; obtain rfl := harg8.eq_unread hf4; obtain rfl := harg9.eq_unread hf5; obtain rfl := harg10.eq_unread hf6
  have e4 : arg4.view.readAt (Elt F) (Rect.unit (s := S1024x1024) ![0, 0] S1024x1024.size inb_S1024x1024_S1024x1024_0_0).toLoadRect (harg4.unread x) = x := by
    rw [View.readAt_full, harg4.read_unread]
  have e5 : arg5.view.readAt (Elt F) (Rect.unit (s := S1x1024x1408) ![0, 0, 0] S1x1024x1408.size inb_S1x1024x1408_S1x1024x1408_0_0_0).toLoadRect (harg5.unread wg) = wg := by
    rw [View.readAt_full, harg5.read_unread]
  have e6 : arg6.view.readAt (Elt F) (Rect.unit (s := S1x1024x1408) ![0, 0, 0] S1x1024x1408.size inb_S1x1024x1408_S1x1024x1408_0_0_0).toLoadRect (harg6.unread wu) = wu := by
    rw [View.readAt_full, harg6.read_unread]
  have e7 : arg7.view.readAt (Elt F) (Rect.unit (s := S1x1408x1024) ![0, 0, 0] S1x1408x1024.size inb_S1x1408x1024_S1x1408x1024_0_0_0).toLoadRect (harg7.unread wd) = wd := by
    rw [View.readAt_full, harg7.read_unread]
  have e8 : arg8.view.readAt (Elt F) (Rect.unit (s := S1024x1024) ![0, 0] S1024x1024.size inb_S1024x1024_S1024x1024_0_0).toLoadRect (harg8.unread y) = y := by
    rw [View.readAt_full, harg8.read_unread]
  have e10 : arg10.view.readAt (Elt F) (Rect.unit (s := S1024x1024) ![0, 0] S1024x1024.size inb_S1024x1024_S1024x1024_0_0).toLoadRect (harg10.unread a) = a := by
    rw [View.readAt_full, harg10.read_unread]
  have w10 : ∀ f w L, arg10.view.readAt (Elt F) (Rect.unit (s := S1024x1024) ![0, 0] S1024x1024.size inb_S1024x1024_S1024x1024_0_0).toLoadRect
      (arg10.view.writes (Elt F) f (⟨Rect.unit (s := S1024x1024) ![0, 0] S1024x1024.size inb_S1024x1024_S1024x1024_0_0, w⟩ :: L)) = w :=
    fun f w L => View.readAt_writes_full _ _ _ _ _ _
  sl_exec
  sl_step
  iapply Hk
  isplitl [Ht]; · iexact Ht
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; sl_unfold_words
    refine (View.read_writes_full _ _ _ _ _).trans ?_
    simp only [View.readCov, e4, e5, e6, e7, e8, e10, w10]
  iexists _; isplitr; swap; · iexact H6
  ipureintro; sl_unfold_words
  refine (View.read_writes_full _ _ _ _ _).trans ?_
  simp only [View.readCov, e4, e5, e6, e7, e8, e10, w10]

end

end Cert.Kernel3Ideal.Dense

end
-- ==== Proof.DenseTables.lean ====
/- The dense layers' feed-forward call: its two tables name one expert for all sixteen tiles and put every tile in use,
so every block it fetches lies in its array; each tile has two steps, one per block of hidden columns. -/
module

public import proofs.«01_k».proof.Proof.DenseBody

@[expose] public section

set_option maxRecDepth 16384

noncomputable section

namespace Cert.Kernel3Ideal.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]
local notation "𝕄" => MT nD τ sig Unit (Elt F) ℕ (UR sig nD τ) ℕ

variable (m : (ℓ : Loc nD τ sig) → Buf (Elt F) ℓ)

/-! ## The memory when the call is entered -/

/-- Each buffer as the call finds it: the launch memory with the tables, the rows and the weights prepared. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The two tables -/

/-- What the tables hold: each tile's expert, and the number of tiles in use. -/
def tbl : pre0.Contents (Elt F) := fun k => V m (0 : Dev nD) (pre0.ref k)

theorem V_tbl (c : Dev nD) (k : Fin 2) : V m c (pre0.ref k) = tbl m k := by
  obtain rfl : c = 0 := Subsingleton.elim _ _; rfl

theorem tbl_experts : tbl m 0 = fun _ => (0#32 : BitVec 32) := rfl

theorem tbl_count : tbl m 1 = fun _ => (16#32 : BitVec 32) := rfl

/-- The body reads sixteen as the number of tiles. -/
theorem count_eq (c : Dev nD) : count c (Memref.whole main_v1) (tbl m 1) = 16#32 := rfl

theorem at_count (h1 : S1.numel = 1) : (tbl m).at 1 (Rect.unit (s := S1) ![0] S1.size inb_S1_S1_0) h1 = 16#32 := rfl

theorem at_expert (i : grid0.Coords) (h1 : S1.numel = 1) :
    (tbl m).at 0 (Rect.unit (s := S16) (k0_off1 i) S1.size (k0_off1_inb i)) h1 = 0#32 := rfl

theorem atD_count : (tbl m).atD 1 ![0] = 16#32 := by
  unfold Pipeline.Prefetch.Contents.atD
  rw [dif_pos (by decide)]
  rfl

/-! ## When the steps do what -/

theorem cond1_not (i : grid0.Coords) : ¬ k0_cond1 i 16#32 = 1#1 := by
  have h : ∀ (T : Fin 16) (j : Fin 2), ¬ Scalar.cmpi .ne (Scalar.extui (Scalar.andi (Scalar.cmpi .sge (BitVec.ofNat 32 T.val) 16#32)
      (Scalar.cmpi .eq (BitVec.ofNat 32 j.val) 1#32)) : BitVec 32) 0#32 = 1#1 := by decide
  exact h (i 0) (i 1)

theorem cond2_holds (i : grid0.Coords) : k0_cond2 i 16#32 = 1#1 := by
  have h : ∀ T : Fin 16, Scalar.cmpi .ne (Scalar.extui (Scalar.cmpi .slt (BitVec.ofNat 32 T.val) 16#32) : BitVec 32) 0#32 = 1#1 := by decide
  exact h (i 0)

theorem cond4_iff (i : grid0.Coords) : k0_cond4 i = 1#1 ↔ (i 1).val = 1 := by
  have h : ∀ j : Fin 2, Scalar.cmpi .ne (Scalar.extui (Scalar.cmpi .eq (BitVec.ofNat 32 j.val) 1#32) : BitVec 32) 0#32 = 1#1 ↔ j.val = 1 := by decide
  exact h (i 1)

theorem first_iff (i : grid0.Coords) : firstStep i = 1#1 ↔ (i 1).val = 0 := by
  have h : ∀ j : Fin 2, Scalar.cmpi .ne (Scalar.extui (Scalar.cmpi .eq (BitVec.ofNat 32 j.val) 0#32) : BitVec 32) 0#32 = 1#1 ↔ j.val = 0 := by decide
  exact h (i 1)

/-! ## The blocks' places -/

theorem tile_word (i : grid0.Coords) : (Scalar.minsi (BitVec.ofNat 32 (i 0).val) (Scalar.subi 16#32 1#32)).toNat = (i 0).val := by
  have h : ∀ T : Fin 16, (Scalar.minsi (BitVec.ofNat 32 T.val) (Scalar.subi 16#32 1#32)).toNat = T.val := by decide
  exact h (i 0)

theorem column_word (i : grid0.Coords) :
    (Scalar.select (Scalar.cmpi .slt (BitVec.ofNat 32 (i 0).val) 16#32) (BitVec.ofNat 32 (i 1).val) 1#32).toNat = (i 1).val := by
  have h : ∀ (T : Fin 16) (j : Fin 2), (Scalar.select (Scalar.cmpi .slt (BitVec.ofNat 32 T.val) 16#32) (BitVec.ofNat 32 j.val) 1#32).toNat = j.val := by decide
  exact h (i 0) (i 1)

theorem rows_index (i : grid0.Coords) : cc0_transform_0 inb_S1_S1_0 numel1_S1 (tbl m) i = ![(i 0).val, 0] := by
  unfold cc0_transform_0
  rw [at_count]
  dsimp only
  rw [tile_word i]
  rfl

theorem gate_index (i : grid0.Coords) : cc0_transform_1 k0_off1_inb numel1_S1 inb_S1_S1_0 (tbl m) i = ![0, 0, (i 1).val] := by
  unfold cc0_transform_1
  rw [at_count]
  dsimp only
  rw [column_word i]
  rfl

theorem up_index (i : grid0.Coords) : cc0_transform_2 k0_off1_inb numel1_S1 inb_S1_S1_0 (tbl m) i = ![0, 0, (i 1).val] := by
  unfold cc0_transform_2
  rw [at_count]
  dsimp only
  rw [column_word i]
  rfl

theorem down_index (i : grid0.Coords) : cc0_transform_3 k0_off1_inb numel1_S1 inb_S1_S1_0 (tbl m) i = ![0, (i 1).val, 0] := by
  unfold cc0_transform_3
  rw [at_count]
  dsimp only
  rw [column_word i]
  rfl

theorem input_index (i : grid0.Coords) : cc0_transform_4 inb_S1_S1_0 numel1_S1 (tbl m) i = ![(i 0).val, 0] := by
  unfold cc0_transform_4
  rw [at_count]
  dsimp only
  rw [tile_word i]
  rfl

theorem packed_tile (T : ℕ) : S16384x1024.WholeWordsAt 2 (fun a => ![T, 0] a * S1024x1024.size a) S1024x1024.size (fun _ => 1) :=
  .inl (.inr ⟨by decide, rfl, .inl ⟨Dvd.dvd.mul_left (by decide : 2 ∣ 1024) _, by decide⟩⟩)

theorem packed_cols (j : ℕ) : S1x1024x2816.WholeWordsAt 2 (fun a => ![0, 0, j] a * S1x1024x1408.size a) S1x1024x1408.size (fun _ => 1) :=
  .inl (.inr ⟨by decide, rfl, .inl ⟨Dvd.intro_left _ rfl, by decide⟩⟩)

theorem packed_rows (j : ℕ) : S1x2816x1024.WholeWordsAt 2 (fun a => ![0, j, 0] a * S1x1408x1024.size a) S1x1408x1024.size (fun _ => 1) :=
  .inl (.inr ⟨by decide, rfl, .inl ⟨Dvd.dvd.mul_left (by decide : 2 ∣ 1408) _, by decide⟩⟩)

/-- Every block the call fetches lies in its array. -/
theorem ok : ok0 (F := F) (tbl m) := by
  have hr : ∀ i : grid0.Coords, ∀ a, (![(i 0).val, 0] a + 1) * S1024x1024.size a ≤ S16384x1024.size a := fun i a => by
    have : (i 0).val < 16 := (i 0).isLt
    match a with
    | ⟨0, _⟩ => show ((i 0).val + 1) * 1024 ≤ 16384; omega
    | ⟨1, _⟩ => show (0 + 1) * 1024 ≤ 1024; omega
  have ha : ∀ i : grid0.Coords, ∀ a, (![0, 0, (i 1).val] a + 1) * S1x1024x1408.size a ≤ S1x1024x2816.size a := fun i a => by
    have : (i 1).val < 2 := (i 1).isLt
    match a with
    | ⟨0, _⟩ => show (0 + 1) * 1 ≤ 1; omega
    | ⟨1, _⟩ => show (0 + 1) * 1024 ≤ 1024; omega
    | ⟨2, _⟩ => show ((i 1).val + 1) * 1408 ≤ 2816; omega
  have hb : ∀ i : grid0.Coords, ∀ a, (![0, (i 1).val, 0] a + 1) * S1x1408x1024.size a ≤ S1x2816x1024.size a := fun i a => by
    have : (i 1).val < 2 := (i 1).isLt
    match a with
    | ⟨0, _⟩ => show (0 + 1) * 1 ≤ 1; omega
    | ⟨1, _⟩ => show ((i 1).val + 1) * 1408 ≤ 2816; omega
    | ⟨2, _⟩ => show (0 + 1) * 1024 ≤ 1024; omega
  refine ⟨fun i => ?_, fun i => ?_, fun i => ?_, fun i => ?_, fun i => ?_⟩
  · rw [rows_index m i]; exact ⟨hr i, .inr (packed_tile _)⟩
  · rw [gate_index m i]; exact ⟨ha i, .inr (packed_cols _)⟩
  · rw [up_index m i]; exact ⟨ha i, .inr (packed_cols _)⟩
  · rw [down_index m i]; exact ⟨hb i, .inr (packed_rows _)⟩
  · rw [input_index m i]; exact ⟨hr i, .inl rfl⟩

abbrev adm : (pcfg0 (F := F)).Adm := ⟨tbl m, ok m⟩

abbrev cfgM : Cfg sig Λ₀ := cfg0 (adm m)

/-! ## The grid: two steps to a tile -/

theorem coords_tile (t : Fin grid0.N) : (grid0.coords t 0).val = t.val / 2 := by
  revert t; decide +kernel
theorem coords_step (t : Fin grid0.N) : (grid0.coords t 1).val = t.val % 2 := by
  revert t; decide +kernel

/-- The output block is written back at a tile's last step. -/
theorem flush_iff (t : Fin (cfgM m).N) : ((cfgM m).win 5).flush t = true ↔ t.val % 2 = 1 :=
  (by decide +kernel : ∀ t : Fin grid0.N, Pipeline.Window.flushOf grid0 true cc0_transform_5 t = true ↔ t.val % 2 = 1) t

/-! ## The blocks -/

/-- The block of window `w`'s array that grid point `t` works on. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

theorem found0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Cert.Kernel3Ideal.Dense

end
-- ==== Proof.DenseLaunch.lean ====
/- The launch of the dense layers' feed-forward call: at each grid point the sum so far is the sum over the blocks of
hidden columns met, so the run leaves in each tile's block of results the layer's input plus the whole sum, and every
argument as it was. -/
module

public import proofs.«01_k».proof.Proof.DenseTables

@[expose] public section

set_option maxRecDepth 16384

noncomputable section

namespace Cert.Kernel3Ideal.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## What the body leaves -/

/-- The grid point of step `k` of tile `T`. -/
def pt (T k : ℕ) : Fin grid0.N := ⟨(2 * T + k) % 32, by rw [N_0]; omega⟩

theorem pt_eq (t : Fin grid0.N) : pt (t.val / 2) (t.val % 2) = t := by
  have := lt_of_lt_of_eq t.isLt N_0
  apply Fin.ext; unfold pt; dsimp only; omega

/-- The sum over the first `k` blocks of hidden columns of a tile. -/
def part (c : Dev nD) (T : ℕ) : ℕ → Vec F S1024x1024 .f32
  | 0 => k0_pay2
  | k + 1 => k0_pay3 (iblk m c 0 (pt T k)) (iblk m c 1 (pt T k)) (iblk m c 2 (pt T k)) (part c T k) (iblk m c 3 (pt T k))

/-- What the run leaves in a tile's block of results. -/
def result (c : Dev nD) (T : ℕ) : Vec F S1024x1024 .f32 := k0_pay4 (iblk m c 4 (pt T 1)) (part m c T 2)

/-- What is known of the buffer kept between grid points, before point `n`: inside a tile it holds the sum so far. -/
def Kept (c : Dev nD) (n : ℕ) (a : Vec F S1024x1024 .f32) : Prop := n % 2 ≠ 0 → a = part m c (n / 2) 1

abbrev acc : Memref sig .tc .vmem S1024x1024 .f32 := Memref.whole cc0_scratch0
abbrev tabE : Memref sig .tc .smem S16 .i32 := Memref.whole main_v0
abbrev tabN : Memref sig .tc .smem S1 .i32 := Memref.whole main_v1

/-- The body's halves of the two tables. -/
def tables (c : Dev nD) : sProp 𝕄 :=
  iprop((tabE.view.loc (c : Thread nD τ) ↦{fullShare.right} (tbl m 0)) ∗ (tabN.view.loc (c : Thread nD τ) ↦{fullShare.right} (tbl m 1)))

theorem PhiT_eq (c : Dev nD) : (Pipeline.ΦT pre0 (tbl m) c : sProp 𝕄) = tables m c := by
  unfold Pipeline.ΦT Pipeline.prefHeld
  rw [show (Finset.univ : Finset (Fin 2)) = insert (0 : Fin 2) {(1 : Fin 2)} from by decide, bigSep_insert (by decide), bigSep_singleton]
  rfl

theorem PhiA_eq (c : Dev nD) :
    (Pipeline.ΦA spec0 c : sProp 𝕄) = iprop((∃ d, owns (c : Thread nD τ) acc fullShare d) ∗ (∃ r, prngReg c r)) := by
  unfold Pipeline.ΦA; rw [scopedRest0_eq]; simp only [acc, owns_whole]; try rfl

/-- What holds between the grid points. -/
def between (c : Dev nD) (n : ℕ) : sProp 𝕄 :=
  iprop(∃ a, ⌜Kept m c n a⌝ ∗ owns (c : Thread nD τ) acc fullShare a ∗ (∃ r, prngReg c r) ∗ tables m c)

/-- The contents the proof follows. -/
def data (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => result m c (t.val / 2)
  Φ t := between m c t.val
  q _ := fullShare
  owed _ := 0

theorem data_A (c : Dev nD) (w : Fin (cfgM m).W) : (data m 0 c).A w = V m c (Pipeline.arrRef spec0 w) := by
  dsimp only [data]

theorem left0 (c : Dev nD) (t : Fin (cfgM m).N) : (data m 0 c).after 0 t = iblk m c 0 t := rfl
theorem left1 (c : Dev nD) (t : Fin (cfgM m).N) : (data m 0 c).after 1 t = iblk m c 1 t := rfl
theorem left2 (c : Dev nD) (t : Fin (cfgM m).N) : (data m 0 c).after 2 t = iblk m c 2 t := rfl
theorem left3 (c : Dev nD) (t : Fin (cfgM m).N) : (data m 0 c).after 3 t = iblk m c 3 t := rfl
theorem left4 (c : Dev nD) (t : Fin (cfgM m).N) : (data m 0 c).after 4 t = iblk m c 4 t := rfl
theorem left5 (c : Dev nD) (t : Fin (cfgM m).N) : (data m 0 c).after 5 t = result m c (t.val / 2) := rfl

theorem found0 (c : Dev nD) (t : Fin (cfgM m).N) (d) : (data m 0 c).before 0 t d = iblk m c 0 t :=
  found0_of m (data m 0 c) (data_A m c 0) (left0 m c) t d
theorem found1 (c : Dev nD) (t : Fin (cfgM m).N) (d) : (data m 0 c).before 1 t d = iblk m c 1 t :=
  found1_of m (data m 0 c) (data_A m c 1) (left1 m c) t d
theorem found2 (c : Dev nD) (t : Fin (cfgM m).N) (d) : (data m 0 c).before 2 t d = iblk m c 2 t :=
  found2_of m (data m 0 c) (data_A m c 2) (left2 m c) t d
theorem found3 (c : Dev nD) (t : Fin (cfgM m).N) (d) : (data m 0 c).before 3 t d = iblk m c 3 t :=
  found3_of m (data m 0 c) (data_A m c 3) (left3 m c) t d
theorem found4 (c : Dev nD) (t : Fin (cfgM m).N) (d) : (data m 0 c).before 4 t d = iblk m c 4 t :=
  found4_of m (data m 0 c) (data_A m c 4) (left4 m c) t d

/-! ## One grid point -/

abbrev st0 (t : Fin (cfgM m).N) : Memref sig .tc .vmem S1024x1024 .bf16 := spec0_0.stage ((cfgM m).slots t 0)
abbrev st1 (t : Fin (cfgM m).N) : Memref sig .tc .vmem S1x1024x1408 .bf16 := spec0_1.stage ((cfgM m).slots t 1)
abbrev st2 (t : Fin (cfgM m).N) : Memref sig .tc .vmem S1x1024x1408 .bf16 := spec0_2.stage ((cfgM m).slots t 2)
abbrev st3 (t : Fin (cfgM m).N) : Memref sig .tc .vmem S1x1408x1024 .bf16 := spec0_3.stage ((cfgM m).slots t 3)
abbrev st4 (t : Fin (cfgM m).N) : Memref sig .tc .vmem S1024x1024 .f32 := spec0_4.stage ((cfgM m).slots t 4)
abbrev st5 (t : Fin (cfgM m).N) : Memref sig .tc .vmem S1024x1024 .f32 := spec0_5.stage ((cfgM m).slots t 5)

/-- The body as the grid point calls it. -/
abbrev bodyAt (t : Fin (cfgM m).N) : Prog (TpuEff nD τ sig (Elt F) Λ₀ .tc) PUnit :=
  cc0_ffn_residual (grid0.coords t) tabE (Memref.isWhole_whole _) tabN (Memref.isWhole_whole _)
    (st0 m t) (hstage0_0 (((cfgM m).slots t 0).cast nbuf0_0)) (st1 m t) (hstage0_1 (((cfgM m).slots t 1).cast nbuf0_1))
    (st2 m t) (hstage0_2 (((cfgM m).slots t 2).cast nbuf0_2)) (st3 m t) (hstage0_3 (((cfgM m).slots t 3).cast nbuf0_3))
    (st4 m t) (hstage0_4 (((cfgM m).slots t 4).cast nbuf0_4)) (st5 m t) (hstage0_5 (((cfgM m).slots t 5).cast nbuf0_5))
    acc (Memref.isWhole_whole _)

theorem idle_of (x y z : BitVec 1) (Q : Prop) [Decidable Q] (h1 : ¬ x = 1#1) (h2 : y = 1#1) (h4 : z = 1#1 ↔ Q) :
    (!(x == 1#1) && !(y == 1#1 && z == 1#1)) = decide (¬ Q) := by
  rw [Bool.eq_iff_iff]
  simp only [Bool.and_eq_true, Bool.not_eq_true', beq_eq_false_iff_ne, Bool.and_eq_false_iff, ne_eq, decide_eq_true_eq, h1, h2, h4]
  tauto

theorem cfg_idle : (cfgM m).idle = idle0 (tbl m) := rfl

/-- The body leaves the block of results alone except at a tile's last step. -/
theorem idle_eq (t : Fin grid0.N) : (cfgM m).idle 5 (grid0.coords t) = decide (¬ t.val % 2 = 1) := by
  have h4 := cond4_iff (grid0.coords t)
  rw [coords_step] at h4
  rw [cfg_idle]
  exact idle_of _ _ _ _ (cond1_not (grid0.coords t)) (cond2_holds (grid0.coords t)) h4

/-- What the body starts from at a point, window by window. -/
def startOf (c : Dev nD) (t : Fin (cfgM m).N) : sProp 𝕄 :=
  iprop((data m 0 c).Φ t.castSucc ∗ (data m 0 c).owesAt () t.castSucc
    ∗ (∃ d, owns (c : Thread nD τ) (st0 m t) fullShare ((data m 0 c).before 0 t d))
    ∗ (∃ d, owns (c : Thread nD τ) (st1 m t) fullShare ((data m 0 c).before 1 t d))
    ∗ (∃ d, owns (c : Thread nD τ) (st2 m t) fullShare ((data m 0 c).before 2 t d))
    ∗ (∃ d, owns (c : Thread nD τ) (st3 m t) fullShare ((data m 0 c).before 3 t d))
    ∗ (∃ d, owns (c : Thread nD τ) (st4 m t) fullShare ((data m 0 c).before 4 t d))
    ∗ (∃ d, owns (c : Thread nD τ) (st5 m t) fullShare ((data m 0 c).before 5 t d)))

/-- What it ends with. -/
def endOf (c : Dev nD) (t : Fin (cfgM m).N) : sProp 𝕄 :=
  iprop((data m 0 c).Φ t.succ ∗ (data m 0 c).owesAt () t.succ
    ∗ owns (c : Thread nD τ) (st0 m t) fullShare ((data m 0 c).after 0 t)
    ∗ owns (c : Thread nD τ) (st1 m t) fullShare ((data m 0 c).after 1 t)
    ∗ owns (c : Thread nD τ) (st2 m t) fullShare ((data m 0 c).after 2 t)
    ∗ owns (c : Thread nD τ) (st3 m t) fullShare ((data m 0 c).after 3 t)
    ∗ owns (c : Thread nD τ) (st4 m t) fullShare ((data m 0 c).after 4 t)
    ∗ (data m 0 c).leavesExact 5 t)

theorem leaves_last (c : Dev nD) (t : Fin (cfgM m).N) (h : t.val % 2 = 1) :
    (data m 0 c).leavesExact 5 t = owns (c : Thread nD τ) (st5 m t) fullShare (result m c (t.val / 2)) := by
  have hi : (cfgM m).idle 5 ((cfgM m).grid.coords t) = false := (idle_eq m t).trans (by simp [h])
  unfold Dat.leavesExact; rw [hi, left5]; try rfl

theorem leaves_early (c : Dev nD) (t : Fin (cfgM m).N) (h : t.val % 2 ≠ 1) :
    (data m 0 c).leavesExact 5 t = iprop(∃ d, owns (c : Thread nD τ) (st5 m t) fullShare ((data m 0 c).before 5 t d)) :=
  (data m 0 c).leavesExact_idle 5 t ((idle_eq m t).trans (by simp [h]))
    (by rw [Bool.eq_false_iff]; exact fun hf => h ((flush_iff m t).mp hf))

/-- The body's step, whichever case it is: from contents `d`, `a` it comes to `d'`, `a'`. -/
def Steps (c : Dev nD) (t : Fin (cfgM m).N) (d a d' a' : Vec F S1024x1024 .f32) : Prop :=
  ∀ (K : PUnit → sProp 𝕄),
    iprop(held c tabN (st0 m t) (st1 m t) (st2 m t) (st3 m t) (st4 m t) (st5 m t) acc (tbl m 1)
        (iblk m c 0 t) (iblk m c 1 t) (iblk m c 2 t) (iblk m c 3 t) (iblk m c 4 t) d a
      ∗ (held c tabN (st0 m t) (st1 m t) (st2 m t) (st3 m t) (st4 m t) (st5 m t) acc (tbl m 1)
        (iblk m c 0 t) (iblk m c 1 t) (iblk m c 2 t) (iblk m c 3 t) (iblk m c 4 t) d' a' -∗ K ⟨⟩))
      ⊢ wp frame (wpE (defs₀ (F := F)) Variants.none c none) Set.univ (bodyAt m t) K

/-- From any contents kept as they should be, the body comes to contents kept as they should be, with the block of
    results as the tile's result at the last step and as it was before it. -/
theorem steps (c : Dev nD) (t : Fin (cfgM m).N) (d a : Vec F S1024x1024 .f32) (h : Kept m c t.val a) :
    ∃ d' a', Kept m c (t.val + 1) a' ∧ (t.val % 2 = 1 → d' = result m c (t.val / 2)) ∧ (t.val % 2 ≠ 1 → d' = d) ∧ Steps m c t d a d' a' := by
  have h1 := cond1_not (grid0.coords t)
  have h2 := cond2_holds (grid0.coords t)
  have h3 := first_iff (grid0.coords t)
  have h4 := cond4_iff (grid0.coords t)
  rw [coords_step] at h3 h4
  rw [← count_eq m c] at h1 h2
  have ep := pt_eq t
  by_cases hl : t.val % 2 = 1
  · obtain rfl := h (by omega)
    rw [hl] at ep
    refine ⟨result m c (t.val / 2), part m c (t.val / 2) 2, fun hn => by omega, fun _ => rfl, fun h => absurd hl h, fun K => ?_⟩
    have key := run_last c (grid0.coords t) tabE (Memref.isWhole_whole _) tabN (Memref.isWhole_whole _)
      (st0 m t) (hstage0_0 (((cfgM m).slots t 0).cast nbuf0_0)) (st1 m t) (hstage0_1 (((cfgM m).slots t 1).cast nbuf0_1))
      (st2 m t) (hstage0_2 (((cfgM m).slots t 2).cast nbuf0_2)) (st3 m t) (hstage0_3 (((cfgM m).slots t 3).cast nbuf0_3))
      (st4 m t) (hstage0_4 (((cfgM m).slots t 4).cast nbuf0_4)) (st5 m t) (hstage0_5 (((cfgM m).slots t 5).cast nbuf0_5))
      acc (Memref.isWhole_whole _)
      (tbl m 1) (iblk m c 0 t) (iblk m c 1 t) (iblk m c 2 t) (iblk m c 3 t) (iblk m c 4 t)
      h1 h2 (fun h => by have := h3.mp h; omega) (h4.mpr hl) d (part m c (t.val / 2) 1) Set.univ K
    have e : k0_pay3 (iblk m c 0 t) (iblk m c 1 t) (iblk m c 2 t) (part m c (t.val / 2) 1) (iblk m c 3 t) = part m c (t.val / 2) 2 := by
      conv_rhs => unfold part
      rw [ep]
    have e' : k0_pay4 (iblk m c 4 t) (part m c (t.val / 2) 2) = result m c (t.val / 2) := by
      unfold result; rw [ep]
    rw [e, e'] at key
    exact key
  · have hf : t.val % 2 = 0 := by omega
    rw [hf] at ep
    refine ⟨d, k0_pay3 (iblk m c 0 t) (iblk m c 1 t) (iblk m c 2 t) k0_pay2 (iblk m c 3 t), ?_, fun h => absurd h hl, fun _ => rfl, fun K => ?_⟩
    · intro _
      have e1 : (t.val + 1) / 2 = t.val / 2 := by omega
      rw [e1]
      conv_rhs => unfold part part
      rw [ep]
    · exact run_first c (grid0.coords t) tabE (Memref.isWhole_whole _) tabN (Memref.isWhole_whole _)
        (st0 m t) (hstage0_0 (((cfgM m).slots t 0).cast nbuf0_0)) (st1 m t) (hstage0_1 (((cfgM m).slots t 1).cast nbuf0_1))
        (st2 m t) (hstage0_2 (((cfgM m).slots t 2).cast nbuf0_2)) (st3 m t) (hstage0_3 (((cfgM m).slots t 3).cast nbuf0_3))
        (st4 m t) (hstage0_4 (((cfgM m).slots t 4).cast nbuf0_4)) (st5 m t) (hstage0_5 (((cfgM m).slots t 5).cast nbuf0_5))
        acc (Memref.isWhole_whole _)
        (tbl m 1) (iblk m c 0 t) (iblk m c 1 t) (iblk m c 2 t) (iblk m c 3 t) (iblk m c 4 t)
        h1 h2 (h3.mpr hf) (fun h => hl (h4.mp h)) d a Set.univ K

set_option maxHeartbeats 800000 in
theorem point_sound (c : Dev nD) (t : Fin (cfgM m).N) :
    startOf m c t ⊢ wp frame (wpE (defs₀ (F := F)) Variants.none c none) Set.univ (bodyAt m t) (fun _ => endOf m c t) := by
  unfold startOf endOf
  simp only [found0, found1, found2, found3, found4]
  rw [show (data m 0 c).Φ t.succ = between m c (t.val + 1) from rfl,
    show (data m 0 c).Φ t.castSucc = between m c t.val from rfl,
    show (data m 0 c).owesAt () t.succ = (data m 0 c).owesAt () t.castSucc from rfl,
    left0, left1, left2, left3, left4]
  unfold between tables
  iintro ⟨⟨%a, %hk, Ha, Hg, HtE, HtN⟩, Ho, ⟨%d0, H0⟩, ⟨%d1, H1⟩, ⟨%d2, H2⟩, ⟨%d3, H3⟩, ⟨%d4, H4⟩, ⟨%d5, H5⟩⟩
  obtain ⟨d', a', hk', hd, hd', hs⟩ := steps m c t ((data m 0 c).before 5 t d5) a hk
  iapply (hs _)
  unfold held
  isplitl [HtN H0 H1 H2 H3 H4 H5 Ha]
  · isplitl [HtN]; · iexact HtN
    isplitl [H0]; · iexact H0
    isplitl [H1]; · iexact H1
    isplitl [H2]; · iexact H2
    isplitl [H3]; · iexact H3
    isplitl [H4]; · iexact H4
    isplitl [H5]; · iexact H5
    iexact Ha
  iintro ⟨HtN, H0, H1, H2, H3, H4, H5, Ha⟩
  isplitl [HtE HtN Ha Hg]
  · iexists a'
    isplitr; · ipureintro; exact hk'
    isplitl [Ha]; · iexact Ha
    isplitl [Hg]; · iexact Hg
    isplitl [HtE]; · iexact HtE
    iexact HtN
  isplitl [Ho]; · iexact Ho
  isplitl [H0]; · iexact H0
  isplitl [H1]; · iexact H1
  isplitl [H2]; · iexact H2
  isplitl [H3]; · iexact H3
  isplitl [H4]; · iexact H4
  by_cases hl : t.val % 2 = 1
  · rw [leaves_last m c t hl]
    rw [hd hl]
    iexact H5
  · rw [leaves_early m c t hl]
    rw [hd' hl]
    iexists d5
    iexact H5

/-- The table's entry for the body is the body. -/
theorem body_entry (t : Fin (cfgM m).N) :
    defs₀ (F := F) .tc (cfgM m).body ((cfgM m).bodyArgs t ((cfgM m).slots t)) = bodyAt m t := by
  unfold defs₀; rw [Defs.onTc_tc]

theorem every_point (c : Dev nD) : BodyObligation (data (F := F) m 0 c) (defs₀ (F := F)) Variants.none () Set.univ := fun t => by
  rw [bigSep_W0, bigSep_W0, body_entry]
  exact triple_restated (point_sound m c t) rfl .rfl fun _ => .rfl

/-! ## The run -/

theorem Kept_zero (c : Dev nD) (a : Vec F S1024x1024 .f32) : Kept m c 0 a := fun h => absurd rfl h

theorem enter (c : Dev nD) : iprop(Pipeline.ΦA spec0 c ∗ Pipeline.ΦT pre0 (tbl m) c) ⊢ between m c 0 := by
  rw [PhiA_eq, PhiT_eq]
  unfold between
  iintro ⟨⟨⟨%a, Ha⟩, Hg⟩, Ht⟩
  iexists a
  isplitr; · ipureintro; exact Kept_zero m c a
  isplitl [Ha]; · iexact Ha
  isplitl [Hg]; · iexact Hg
  iexact Ht

theorem exit_ (c : Dev nD) (n : ℕ) : between m c n ⊢ (Pipeline.ΦA spec0 c : sProp 𝕄) := by
  rw [PhiA_eq]
  unfold between
  iintro ⟨%a, %hk, Ha, Hg, -⟩
  isplitl [Ha]
  · iexists a; iexact Ha
  iexact Hg

theorem away (b : Ref sig .tc) (h : ∀ w : Fin 6, (spec0 w).arr.view.ref ≠ b) :
    ∀ w : Fin (cfgM m).W, ((cfgM m).spec w).arr.view.ref ≠ b := h

set_option backward.isDefEq.respectTransparency.types false in
/-- The whole program runs, and every semaphore counter ends at zero. -/
theorem launch : θ_run defs (onTc (τ := τ) (main (F := F))) (s₀ m ρ)
    (fun r => (Pipeline.FramePost (Pipeline.pin pcfgs (fun _ => adm m)) (data m) 0 (V m)) r ∧ r.2.sem = fun _ => 0) :=
  Pipeline.θ_run_frameP_track (Q' := _) pcfgs (fun _ => adm m) (data m) (0 : Fin 1) launch0 defs₀ Variants.none m ρ main
    (hbody := fun c => (every_point m c).loose) (hshare := fun c => (data m 0 c).share_full fun _ => rfl)
    (howed := fun _ _ => rfl) (V := V m) (hmain := hmain m Variants.none) (hA := data_A m) (hpf := V_tbl m)
    (hin := enter m) (hout := fun c => exit_ m c _)

theorem launch_post : θ_run defs (onTc (τ := τ) (main (F := F))) (s₀ m ρ)
    (Pipeline.FramePost (Pipeline.pin pcfgs (fun _ => adm m)) (data m) 0 (V m)) :=
  (θ_run defs _ _).mono (fun _ h => h.1) (launch m ρ)

/-- After the run the result buffer holds the array written block by block, and the arguments are as launched. -/
theorem run_array : θ_run defs (onTc (τ := τ) (main (F := F))) ⟨m, fun _ => 0, ρ⟩ fun r => ∀ c : Dev nD,
      r.2.mem ((c.tc : Thread nD τ).loc main_v11) = (data m 0 c).arrAt 5 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1 5,
      ((h c).2 main_arg0 (Pipeline.mem_restRefs_of main_arg0 (by decide) (away m main_arg0 (by decide)))).trans (V_main_arg0 m c),
      ((h c).2 main_arg1 (Pipeline.mem_restRefs_of main_arg1 (by decide) (away m main_arg1 (by decide)))).trans (V_main_arg1 m c),
      ((h c).2 main_arg2 (Pipeline.mem_restRefs_of main_arg2 (by decide) (away m main_arg2 (by decide)))).trans (V_main_arg2 m c),
      ((h c).2 main_arg3 (Pipeline.mem_restRefs_of main_arg3 (by decide) (away m main_arg3 (by decide)))).trans (V_main_arg3 m c),
      ((h c).2 main_arg4 (Pipeline.mem_restRefs_of main_arg4 (by decide) (away m main_arg4 (by decide)))).trans (V_main_arg4 m c)⟩)
    (launch_post m ρ)

/-- The arguments end unchanged and the counters at zero. -/
theorem frame_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun r h c => (h c).2) (run_array m ρ)) ((θ_run defs _ _).mono (fun _ h => h.2) (launch m ρ))

/-! ## The output array, block by block -/

/-- Distinct tiles write distinct blocks, each at its last step. -/
theorem index_inj : ∀ t t' : Fin grid0.N, t.val % 2 = 1 → t'.val % 2 = 1 → cc0_transform_5 (grid0.coords t) = cc0_transform_5 (grid0.coords t') → t = t' := by
  intro t t' h h' he
  have e0 : ∀ s : Fin grid0.N, cc0_transform_5 (grid0.coords s) 0 = s.val / 2 := by decide +kernel
  have := congrFun he 0
  rw [e0, e0] at this
  apply Fin.ext; omega

theorem block_apart : ∀ t t' : Fin (cfgM m).N, ((cfgM m).win 5).flush t = true → ((cfgM m).win 5).flush t' = true → t ≠ t' →
    Disjoint (((cfgM m).win 5).blk t).view.set (((cfgM m).win 5).blk t').view.set :=
  fun t t' hf hf' hne => ((cfgM m).win 5).disjoint_blk fun h =>
    hne (index_inj t t' ((flush_iff m t).mp hf) ((flush_iff m t').mp hf') h)

/-- The final array's block at a tile's last step is the tile's result. -/
theorem block_of (c : Dev nD) (t : Fin (cfgM m).N) (hf : ((cfgM m).win 5).flush t = true) :
    (((cfgM m).win 5).blk t).view.read (Elt F) ((data m 0 c).arrAt 5 (cfgM m).N)
      = ((cfgM m).win 5).cut (grid0.coords t) (result m c (t.val / 2)) := by
  rw [(data m 0 c).read_blk_arrAt_eq_flushed 5 (block_apart m) (cfgM m).N t t.isLt hf]
  show ((cfgM m).win 5).cut (grid0.coords t) ((data m 0 c).after 5 t) = _
  rw [left5]

end Cert.Kernel3Ideal.Dense

end
-- ==== Proof.DenseRef.lean ====
/- The reference of the dense layers' feed-forward call, element by element. -/
module

public import proofs.«01_k».proof.Proof.Gen.Reference3Ideal.Read
public import proofs.«01_k».proof.Proof.RoutedRef

@[expose] public section

set_option maxRecDepth 16384

noncomputable section

namespace Cert.Reference3Ideal.Dense

open Idealize.ShloMosaic Idealize.ShloMosaic.Pointwise
open Cert.Reference3Ideal Cert.Reference3Ideal.Gen Cert.Reference3Ideal.Read Cert.Feed

variable (h : (⟨S4x4096x1024, .f32⟩ : BufTy).Contents (Elt Ideal)) (wg wu : (⟨S1024x2816, .f32⟩ : BufTy).Contents (Elt Ideal))
  (wd : (⟨S2816x1024, .f32⟩ : BufTy).Contents (Elt Ideal)) (x : (⟨S4x4096x1024, .f32⟩ : BufTy).Contents (Elt Ideal))

theorem gate_apply (b : Fin 4) (s : Fin 4096) (f : Fin 2816) :
    val_main_v0 h wg (ix3 b s f) = ∑ k : Fin 1024, (h (ix3 b s k) : EReal) * wg (ix2 k f) := by
  rw [val_main_v0_apply]
  refine Finset.sum_congr rfl fun k _ => ?_
  have e1 : lidx_main_v0 (ix3 b s f) k = ix3 b s k := by
    funext a; apply Fin.ext; match a with | ⟨0, _⟩ => rfl | ⟨1, _⟩ => rfl | ⟨2, _⟩ => rfl
  have e2 : ridx_main_v0 (ix3 b s f) k = ix2 k f := by
    funext a; apply Fin.ext; match a with | ⟨0, _⟩ => rfl | ⟨1, _⟩ => rfl
  rw [e1, e2]

theorem up_apply (b : Fin 4) (s : Fin 4096) (f : Fin 2816) :
    val_main_v2 h wu (ix3 b s f) = ∑ k : Fin 1024, (h (ix3 b s k) : EReal) * wu (ix2 k f) := by
  rw [val_main_v2_apply]
  refine Finset.sum_congr rfl fun k _ => ?_
  have e1 : lidx_main_v2 (ix3 b s f) k = ix3 b s k := by
    funext a; apply Fin.ext; match a with | ⟨0, _⟩ => rfl | ⟨1, _⟩ => rfl | ⟨2, _⟩ => rfl
  have e2 : ridx_main_v2 (ix3 b s f) k = ix2 k f := by
    funext a; apply Fin.ext; match a with | ⟨0, _⟩ => rfl | ⟨1, _⟩ => rfl
  rw [e1, e2]

theorem hidden_apply (b : Fin 4) (s : Fin 4096) (f : Fin 2816) :
    val_main_v3 h wg wu (ix3 b s f) = Cert.Feed.hidden (fun k => h (ix3 b s k)) (fun k => wg (ix2 k f)) (fun k => wu (ix2 k f)) := by
  simp only [val_main_v3_apply, val_main_v1_apply, val_main_call0_v5_apply, val_main_call0_v4_apply, val_main_call0_v3_apply,
    val_main_call0_v2_apply, val_main_call0_v1_apply, val_main_call0_v0_apply, val_main_call0_cst_apply, val_main_call0_cst_0_apply]
  rw [gate_apply, up_apply]
  unfold Cert.Feed.hidden
  refine congrArg (fun a : EReal => (_ * a) * _) ?_
  show Ideal.div (Ideal.ofBits .f32 0x3F800000#32) (Ideal.ofBits .f32 0x3F800000#32 + Ideal.exp (-_)) = _
  rw [one_bits]
  rfl

/-- The reference's result: the layer's input plus the SwiGLU of the normed row. -/
theorem result_apply (r : Fin 16384) (n : Fin 1024) :
    val_main_v6 h wg wu wd x (ix2 r n)
      = (x (ix3 ⟨r.val / 4096, by omega⟩ ⟨r.val % 4096, by omega⟩ n) : EReal)
        + ∑ f : Fin 2816, Cert.Feed.hidden (fun k => h (ix3 ⟨r.val / 4096, by omega⟩ ⟨r.val % 4096, by omega⟩ k)) (fun k => wg (ix2 k f))
            (fun k => wu (ix2 k f)) * (wd (ix2 f n) : EReal) := by
  have e0 : idx_main_v6 (ix2 r n) = ix3 ⟨r.val / 4096, by omega⟩ ⟨r.val % 4096, by omega⟩ n := by
    have hr := r.isLt
    have hn := n.isLt
    funext a; apply Fin.ext
    match a with
    | ⟨0, _⟩ => show (r.val * 1024 + n.val) / 4194304 = r.val / 4096; omega
    | ⟨1, _⟩ => show (r.val * 1024 + n.val) / 1024 % 4096 = r.val % 4096; omega
    | ⟨2, _⟩ => show (r.val * 1024 + n.val) % 1024 = n.val; omega
  rw [val_main_v6_apply, e0, val_main_v5_apply, val_main_v4_apply]
  refine congrArg (fun a : EReal => _ + a) (Finset.sum_congr rfl fun f _ => ?_)
  have e1 : lidx_main_v4 (ix3 ⟨r.val / 4096, by omega⟩ ⟨r.val % 4096, by omega⟩ n) f = ix3 ⟨r.val / 4096, by omega⟩ ⟨r.val % 4096, by omega⟩ f := by
    funext a; apply Fin.ext; match a with | ⟨0, _⟩ => rfl | ⟨1, _⟩ => rfl | ⟨2, _⟩ => rfl
  have e2 : ridx_main_v4 (ix3 ⟨r.val / 4096, by omega⟩ ⟨r.val % 4096, by omega⟩ n) f = ix2 f n := by
    funext a; apply Fin.ext; match a with | ⟨0, _⟩ => rfl | ⟨1, _⟩ => rfl
  rw [e1, e2, hidden_apply]

end Cert.Reference3Ideal.Dense

end
-- ==== Proof.DenseValue.lean ====
/- The dense layers' feed-forward call leaves what its reference leaves: a tile's sum over two blocks of hidden columns
is the sum over all the columns. -/
module

public import proofs.«01_k».proof.Proof.DenseLaunch
public import proofs.«01_k».proof.Proof.DenseRef
public import Idealize.ShloMosaic.Lib.Pipeline.ValueKit

@[expose] public section

set_option maxRecDepth 16384

noncomputable section

namespace Cert.Kernel3Ideal.Dense

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Idealize.ShloMosaic.Pointwise
open Cert.Kernel3Ideal Cert.Kernel3Ideal.Gen Cert.Feed

/-! ## The body's operations, element by element -/

theorem start_apply (r n : Fin 1024) : (k0_pay2 (F := Ideal)) (ix2 r n) = (0 : EReal) := by
  unfold k0_pay2; pointwise

theorem block_apply (xb : Vec Ideal S1024x1024 .bf16) (wg wu : Vec Ideal S1x1024x1408 .bf16) (a : Vec Ideal S1024x1024 .f32)
    (wd : Vec Ideal S1x1408x1024 .bf16) (r n : Fin 1024) :
    (k0_pay3 xb wg wu a wd) (ix2 r n)
      = (a (ix2 r n) : EReal) + ∑ j : Fin 1408, Cert.Feed.hidden (fun k => xb (ix2 r k)) (fun k => wg (ix3 0 k j)) (fun k => wu (ix3 0 k j)) * (wd (ix3 0 j n) : EReal) := by
  unfold k0_pay3 Cert.Feed.hidden
  pointwise

theorem finish_apply (y a : Vec Ideal S1024x1024 .f32) (r n : Fin 1024) :
    (k0_pay4 y a) (ix2 r n) = (y (ix2 r n) : EReal) + a (ix2 r n) := by
  unfold k0_pay4; pointwise

/-! ## The arrays the call finds -/

variable (m : (ℓ : Loc nD τ sig) → Buf (Elt Ideal) ℓ) (c : Dev nD)

theorem flat_apply (v : (⟨S4x4096x1024, .f32⟩ : BufTy).Contents (Elt Ideal)) (r : Fin 16384) (k : Fin 1024) :
    (shapeCast S16384x1024 v shapeCasts_S4x4096x1024_S16384x1024) (ix2 r k) = v (ix3 ⟨r.val / 4096, by omega⟩ ⟨r.val % 4096, by omega⟩ k) :=
  shapeCast_apply v shapeCasts_S4x4096x1024_S16384x1024 (ix2 r k) _ (by
    rewrite [Shape.rowMajor_val_three, Shape.rowMajor_val_two]
    show (r.val / 4096 * 4096 + r.val % 4096) * 1024 + k.val = r.val * 1024 + k.val
    omega)

theorem rows_array (r : Fin 16384) (k : Fin 1024) :
    (V m c main_v3 (ix2 r k) : EReal) = m ((c.tc : Thread nD τ).loc main_arg0) (ix3 ⟨r.val / 4096, by omega⟩ ⟨r.val % 4096, by omega⟩ k) :=
  flat_apply (m ((c.tc : Thread nD τ).loc main_arg0)) r k

theorem input_array (r : Fin 16384) (n : Fin 1024) :
    (V m c main_v10 (ix2 r n) : EReal) = m ((c.tc : Thread nD τ).loc main_arg4) (ix3 ⟨r.val / 4096, by omega⟩ ⟨r.val % 4096, by omega⟩ n) :=
  flat_apply (m ((c.tc : Thread nD τ).loc main_arg4)) r n

theorem gate_array (k : Fin 1024) (f : Fin 2816) : (V m c main_v5 (ix3 0 k f) : EReal) = m ((c.tc : Thread nD τ).loc main_arg1) (ix2 k f) :=
  broadcastInDim_apply _ bcast_S1024x2816_S1x1024x2816_1_2 (m ((c.tc : Thread nD τ).loc main_arg1)) (ix3 0 k f) (ix2 k f)
    (fun a => by match a with | ⟨0, _⟩ => rfl | ⟨1, _⟩ => rfl)

theorem up_array (k : Fin 1024) (f : Fin 2816) : (V m c main_v7 (ix3 0 k f) : EReal) = m ((c.tc : Thread nD τ).loc main_arg2) (ix2 k f) :=
  broadcastInDim_apply _ bcast_S1024x2816_S1x1024x2816_1_2 (m ((c.tc : Thread nD τ).loc main_arg2)) (ix3 0 k f) (ix2 k f)
    (fun a => by match a with | ⟨0, _⟩ => rfl | ⟨1, _⟩ => rfl)

theorem down_array (f : Fin 2816) (n : Fin 1024) : (V m c main_v9 (ix3 0 f n) : EReal) = m ((c.tc : Thread nD τ).loc main_arg3) (ix2 f n) :=
  broadcastInDim_apply _ bcast_S2816x1024_S1x2816x1024_1_2 (m ((c.tc : Thread nD τ).loc main_arg3)) (ix3 0 f n) (ix2 f n)
    (fun a => by match a with | ⟨0, _⟩ => rfl | ⟨1, _⟩ => rfl)

/-! ## The blocks -/

theorem pt_val (T : Fin 16) (k : Fin 2) : (pt T.val k.val).val = 2 * T.val + k.val := by
  unfold pt; dsimp only; omega

theorem pt_tile (T : Fin 16) (k : Fin 2) : (grid0.coords (pt T.val k.val) 0).val = T.val := by
  rw [coords_tile, pt_val T k]; omega

theorem pt_step (T : Fin 16) (k : Fin 2) : (grid0.coords (pt T.val k.val) 1).val = k.val := by
  rw [coords_step, pt_val T k]; omega

theorem index_rows (T : Fin 16) (k : Fin 2) : ((cfgM m).win 0).index (pt T.val k.val) = ![T.val, 0] := by
  refine (rows_index m (grid0.coords (pt T.val k.val))).trans ?_
  rw [pt_tile T k]

theorem index_gate (T : Fin 16) (k : Fin 2) : ((cfgM m).win 1).index (pt T.val k.val) = ![0, 0, k.val] := by
  refine (gate_index m (grid0.coords (pt T.val k.val))).trans ?_
  rw [pt_step T k]

theorem index_up (T : Fin 16) (k : Fin 2) : ((cfgM m).win 2).index (pt T.val k.val) = ![0, 0, k.val] := by
  refine (up_index m (grid0.coords (pt T.val k.val))).trans ?_
  rw [pt_step T k]

theorem index_down (T : Fin 16) (k : Fin 2) : ((cfgM m).win 3).index (pt T.val k.val) = ![0, k.val, 0] := by
  refine (down_index m (grid0.coords (pt T.val k.val))).trans ?_
  rw [pt_step T k]

theorem index_input (T : Fin 16) (k : Fin 2) : ((cfgM m).win 4).index (pt T.val k.val) = ![T.val, 0] := by
  refine (input_index m (grid0.coords (pt T.val k.val))).trans ?_
  rw [pt_tile T k]

theorem rows_block (T : Fin 16) (k : Fin 2) (r d : Fin 1024) :
    iblk m c 0 (pt T.val k.val) (ix2 r d) = V m c main_v3 (ix2 ⟨T.val * 1024 + r.val, by omega⟩ d) := by
  blk_ext [iblk, index_rows m T k]

theorem gate_block (T : Fin 16) (k : Fin 2) (d : Fin 1024) (j : Fin 1408) :
    iblk m c 1 (pt T.val k.val) (ix3 0 d j) = V m c main_v5 (ix3 0 d ⟨k.val * 1408 + j.val, by omega⟩) := by
  blk_ext [iblk, index_gate m T k]

theorem up_block (T : Fin 16) (k : Fin 2) (d : Fin 1024) (j : Fin 1408) :
    iblk m c 2 (pt T.val k.val) (ix3 0 d j) = V m c main_v7 (ix3 0 d ⟨k.val * 1408 + j.val, by omega⟩) := by
  blk_ext [iblk, index_up m T k]

theorem down_block (T : Fin 16) (k : Fin 2) (j : Fin 1408) (n : Fin 1024) :
    iblk m c 3 (pt T.val k.val) (ix3 0 j n) = V m c main_v9 (ix3 0 ⟨k.val * 1408 + j.val, by omega⟩ n) := by
  blk_ext [iblk, index_down m T k]

theorem input_block (T : Fin 16) (k : Fin 2) (r n : Fin 1024) :
    iblk m c 4 (pt T.val k.val) (ix2 r n) = V m c main_v10 (ix2 ⟨T.val * 1024 + r.val, by omega⟩ n) := by
  blk_ext [iblk, index_input m T k]

/-! ## A tile's result -/

/-- A sum over all hidden columns, by blocks of them. -/
theorem sum_blocks (H : Fin 2816 → EReal) :
    ∑ f : Fin 2816, H f = ∑ k : Fin 2, ∑ j : Fin 1408, H ⟨k.val * 1408 + j.val, by omega⟩ := by
  rw [← Equiv.sum_comp (finProdFinEquiv : Fin 2 × Fin 1408 ≃ Fin 2816) H, Fintype.sum_prod_type]
  refine Finset.sum_congr rfl fun k _ => Finset.sum_congr rfl fun j _ => congrArg H (Fin.ext ?_)
  show j.val + 1408 * k.val = k.val * 1408 + j.val
  omega

/-- One hidden column's share of a result. -/
def share (T : Fin 16) (r n : Fin 1024) (f : Fin 2816) : EReal :=
  Cert.Feed.hidden (fun k => m ((c.tc : Thread nD τ).loc main_arg0) (ix3 ⟨(T.val * 1024 + r.val) / 4096, by omega⟩ ⟨(T.val * 1024 + r.val) % 4096, by omega⟩ k))
    (fun k => m ((c.tc : Thread nD τ).loc main_arg1) (ix2 k f)) (fun k => m ((c.tc : Thread nD τ).loc main_arg2) (ix2 k f))
  * (m ((c.tc : Thread nD τ).loc main_arg3) (ix2 f n) : EReal)

theorem part_step (T : Fin 16) (k : Fin 2) (r n : Fin 1024) :
    part m c T.val (k.val + 1) (ix2 r n)
      = (part m c T.val k.val (ix2 r n) : EReal) + ∑ j : Fin 1408, share m c T r n ⟨k.val * 1408 + j.val, by omega⟩ := by
  conv_lhs => unfold part
  refine (block_apply _ _ _ _ _ r n).trans (congrArg (fun a : EReal => _ + a) (Finset.sum_congr rfl fun j _ => ?_))
  have hx : (fun d => (iblk m c 0 (pt T.val k.val) (ix2 r d) : EReal)) = fun d => m ((c.tc : Thread nD τ).loc main_arg0) (ix3 ⟨(T.val * 1024 + r.val) / 4096, by omega⟩ ⟨(T.val * 1024 + r.val) % 4096, by omega⟩ d) :=
    funext fun d => (rows_block m c T k r d).trans (rows_array m c _ d)
  have hg : (fun d => (iblk m c 1 (pt T.val k.val) (ix3 0 d j) : EReal)) = fun d => m ((c.tc : Thread nD τ).loc main_arg1) (ix2 d ⟨k.val * 1408 + j.val, by omega⟩) :=
    funext fun d => (gate_block m c T k d j).trans (gate_array m c d _)
  have hw : (fun d => (iblk m c 2 (pt T.val k.val) (ix3 0 d j) : EReal)) = fun d => m ((c.tc : Thread nD τ).loc main_arg2) (ix2 d ⟨k.val * 1408 + j.val, by omega⟩) :=
    funext fun d => (up_block m c T k d j).trans (up_array m c d _)
  have hd : (iblk m c 3 (pt T.val k.val) (ix3 0 j n) : EReal) = m ((c.tc : Thread nD τ).loc main_arg3) (ix2 ⟨k.val * 1408 + j.val, by omega⟩ n) :=
    (down_block m c T k j n).trans (down_array m c _ n)
  unfold share
  rw [← hx, ← hg, ← hw, ← hd]

theorem part_all (T : Fin 16) (r n : Fin 1024) : part m c T.val 2 (ix2 r n) = ∑ f : Fin 2816, share m c T r n f := by
  rw [sum_blocks, Fin.sum_univ_two]
  have h1 := part_step m c T 1 r n
  have h0 := part_step m c T 0 r n
  have hs : part m c T.val 0 (ix2 r n) = (0 : EReal) := by unfold part; exact start_apply r n
  refine h1.trans ?_
  refine congrArg (fun a : EReal => a + _) (h0.trans ?_)
  refine (congrArg (fun a : EReal => a + _) hs).trans (zero_add (M := EReal) _)

/-- What the reference computes from the call's arguments. -/
def wanted (m : (ℓ : Loc nD τ sig) → Buf (Elt Ideal) ℓ) (c : Dev nD) : S16384x1024.Idx → EReal :=
  Cert.Reference3Ideal.Read.val_main_v6 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

theorem result_point (T : Fin 16) (r n : Fin 1024) :
    result m c T.val (ix2 r n) = wanted m c (ix2 ⟨T.val * 1024 + r.val, by omega⟩ n) := by
  have key := Cert.Reference3Ideal.Dense.result_apply (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    ⟨T.val * 1024 + r.val, by omega⟩ n
  refine Eq.trans ?_ key.symm
  unfold result
  refine (finish_apply _ _ r n).trans ?_
  have hy := (input_block m c T 1 r n).trans (input_array m c _ n)
  have ha := part_all m c T r n
  exact congrArg₂ (fun a b : EReal => a + b) hy ha

theorem index_out (t : Fin (cfgM m).N) : ((cfgM m).win 5).index t = ![t.val / 2, 0] :=
  (by decide +kernel : ∀ t : Fin grid0.N, cc0_transform_5 (grid0.coords t) = ![t.val / 2, 0]) t

/-- The sixteen blocks written, each at its tile's last step, cover the results. -/
theorem covers : ((cfgM m).win 5).Covers := by
  refine ⟨fun a => ?_, fun β => ?_⟩
  · match a with
    | ⟨0, _⟩ => show 0 < 1024; omega
    | ⟨1, _⟩ => show 0 < 1024; omega
  · have n0 : ((cfgM m).win 5).nblk (0 : Fin 2) = 16 := by show (16384 + 1024 - 1) / 1024 = 16; rfl
    have n1 : ((cfgM m).win 5).nblk (1 : Fin 2) = 1 := by show (1024 + 1024 - 1) / 1024 = 1; rfl
    obtain ⟨b, hb0⟩ : ∃ b : Fin 16, b.val = (β (0 : Fin 2)).val := ⟨⟨_, lt_of_lt_of_eq (β (0 : Fin 2)).isLt n0⟩, rfl⟩
    obtain ⟨b', hb1⟩ : ∃ b' : Fin 1, b'.val = (β (1 : Fin 2)).val := ⟨⟨_, lt_of_lt_of_eq (β (1 : Fin 2)).isLt n1⟩, rfl⟩
    have hv : (pt b.val 1).val = 2 * b.val + 1 := by unfold pt; dsimp only; omega
    refine ⟨pt b.val 1, (flush_iff m _).2 (by rw [hv]; omega), fun a => ⟨?_, .inl ?_⟩⟩
    · rw [index_out]
      match a with
      | ⟨0, _⟩ =>
        refine Eq.trans (b := b.val) ?_ hb0
        show (pt b.val 1).val / 2 = b.val; rw [hv]; omega
      | ⟨1, _⟩ =>
        refine Eq.trans (b := b'.val) ?_ hb1
        show 0 = b'.val; omega
    · rfl

/-- The run leaves in the result buffer what the reference computes. -/
theorem array_eq : (data m 0 c).arrAt 5 (cfgM m).N = wanted m c := by
  refine (data m 0 c).arrAt_eq_of_covers 5 _ (covers m) fun t hf y => ?_
  blk_simp
  rw [left5]
  obtain ⟨r, n, rfl⟩ : ∃ (r n : Fin 1024), y = ix2 r n :=
    ⟨y (0 : Fin 2), y (1 : Fin 2), funext fun a => match a with | ⟨0, _⟩ => rfl | ⟨1, _⟩ => rfl⟩
  have ht : t.val < 32 := lt_of_lt_of_eq t.isLt N_0
  refine (result_point m c ⟨t.val / 2, by omega⟩ r n).trans (congrArg (wanted m c) ?_)
  funext a
  refine Fin.ext ?_
  match a with
  | ⟨0, _⟩ =>
    blk_simp [index_out m t]
  | ⟨1, _⟩ =>
    blk_simp [index_out m t]

end Cert.Kernel3Ideal.Dense

end
-- ==== Proof.Project.lean ====
/- The mathematics of the input projection, on one row of the layer's input: its root-mean-square norm, one column of its
product with the weights, the GELU, the norm of the gates, and the masked sum that mixes the rows of one chunk. -/
module

public import Idealize.ShloMosaic.Lib.Pointwise

@[expose] public section

noncomputable section

namespace Cert.Project

open Idealize.ShloMosaic

/-- A row over its root mean square, times the gains; `n` is the word of the row's length. -/
def normed {N : ℕ} (n : BitVec 32) (x g : Fin N → EReal) (k : Fin N) : EReal :=
  x k * Ideal.rsqrt (Ideal.div (∑ i : Fin N, x i * x i) (Ideal.ofBits .f32 n) + Ideal.ofBits .f32 0x358637BD#32) * g k

/-- One column of the normed row's product with the weights. -/
def column (x g w : Fin 1024 → EReal) : EReal := ∑ k : Fin 1024, normed 0x44800000#32 x g k * w k

/-- GELU, by its tanh form. -/
def gelu (t : EReal) : EReal :=
  t * (Ideal.ofBits .f32 0x3F000000#32 * (Ideal.ofBits .f32 0x3F800000#32
    + Ideal.tanh (Ideal.ofBits .f32 0x3F4C422A#32 * (t + Ideal.ofBits .f32 0x3D372713#32 * (t * (t * t))))))

/-- The gates of a row: 512 columns through the GELU, normed. -/
def gates (x g : Fin 1024 → EReal) (w : Fin 512 → Fin 1024 → EReal) (gains : Fin 512 → EReal) (j : Fin 512) : EReal :=
  normed 0x44000000#32 (fun i => gelu (column x g (w i))) gains j

/-- A row's mix of the rows of its chunk up to itself, with the bias. -/
def mix (i : Fin 128) (weights : Fin 128 → EReal) (bias : EReal) (v : Fin 128 → EReal) : EReal :=
  (∑ j : Fin 128, (if j.val ≤ i.val then weights j else 0) * v j) + bias

end Cert.Project

end
-- ==== Proof.PromptBody.lean ====
/- The operations of the prompt's input projection, element by element. -/
module

public import proofs.«01_k».proof.Proof.Gen.Kernel4Ideal.Value
public import proofs.«01_k».proof.Proof.Project
public import Idealize.ShloMosaic.Lib.Pipeline.ValueKit
public import Idealize.ShloMosaic.Lib.WordCmp

@[expose] public section

set_option maxRecDepth 16384

noncomputable section

namespace Cert.Kernel4Ideal.Prompt

open Idealize.ShloMosaic Idealize.ShloMosaic.TcCoe Idealize.ShloMosaic.Tactic
open Idealize.ShloMosaic.Pointwise
open Cert.Kernel4Ideal Cert.Kernel4Ideal.Gen Cert.Project

section
variable (x : Vec Ideal S512x1024 .f32) (g : Vec Ideal S1x1024 .f32) (w : Vec Ideal S1024x512 .bf16) (r n : Fin 512)

theorem normed_apply (k : Fin 1024) :
    (k0_pay4 x g) (ix2 r k) = normed 0x44800000#32 (fun k => (x (ix2 r k) : EReal)) (fun k => g (ix2 0 k)) k := by
  unfold k0_pay4 normed; pointwise

theorem q_apply : (k0_pay5 x g w) (ix2 r n)
    = column (fun k => (x (ix2 r k) : EReal)) (fun k => g (ix2 0 k)) (fun k => w (ix2 k n)) * Ideal.ofBits .f32 0x3E38AA3B#32 := by
  have h := normed_apply x g r
  unfold k0_pay5 column
  generalize k0_pay4 x g = y at h ⊢
  pointwise [h]

theorem k_apply : (k0_pay6 x g w) (ix2 r n)
    = column (fun k => (x (ix2 r k) : EReal)) (fun k => g (ix2 0 k)) (fun k => w (ix2 k n)) := by
  have h := normed_apply x g r
  unfold k0_pay6 column
  generalize k0_pay4 x g = y at h ⊢
  pointwise [h]

theorem v_apply : (k0_pay7 x g w) (ix2 r n)
    = column (fun k => (x (ix2 r k) : EReal)) (fun k => g (ix2 0 k)) (fun k => w (ix2 k n)) := by
  have h := normed_apply x g r
  unfold k0_pay7 column
  generalize k0_pay4 x g = y at h ⊢
  pointwise [h]

theorem u_apply : (k0_pay8 x g w) (ix2 r n)
    = column (fun k => (x (ix2 r k) : EReal)) (fun k => g (ix2 0 k)) (fun k => w (ix2 k n)) := by
  have h := normed_apply x g r
  unfold k0_pay8 column
  generalize k0_pay4 x g = y at h ⊢
  pointwise [h]

theorem gelu_apply : (k0_pay11 (k0_pay8 x g w) (k0_pay9 x g w) (k0_pay10 (F := Ideal))) (ix2 r n)
    = gelu (column (fun k => (x (ix2 r k) : EReal)) (fun k => g (ix2 0 k)) (fun k => w (ix2 k n))) := by
  rw [← u_apply]
  unfold k0_pay11 k0_pay9 k0_pay10 gelu
  generalize k0_pay8 x g w = y
  pointwise

theorem gates_apply (gains : Vec Ideal S1x512 .f32) : (k0_pay12 (k0_pay4 x g) w gains) (ix2 r n)
    = gates (fun k => (x (ix2 r k) : EReal)) (fun k => g (ix2 0 k)) (fun i k => w (ix2 k i)) (fun i => gains (ix2 0 i)) n := by
  have h := normed_apply x g r
  unfold k0_pay12 gates column normed gelu
  unfold normed at h
  generalize k0_pay4 x g = y at h ⊢
  pointwise [h]

end

/-! ## The mix, tile by tile -/

/-- A weight above the diagonal counts as zero. -/
theorem masked_term (i j : Fin 128) (w v : EReal) :
    Scalar.select (IntOp.cmpi CmpIPredicate.sle (BitVec.ofNat 32 j.val) (BitVec.ofNat 32 i.val)) (w * v) (0 : EReal)
      = (if j.val ≤ i.val then w else 0) * v := by
  rw [WordCmp.cmpi_sle_ofNat (w := 32) (by have := j.isLt; omega) (by have := i.isLt; omega)]
  by_cases h : j.val ≤ i.val
  · simp [Scalar.select, h]
  · simp [Scalar.select, h]

/-- One result of the mix, from the whole block's columns. -/
def mixed (U V : Vec Ideal S512x512 .f32) (x4 : Vec Ideal S4x128x128 .f32) (x5 : Vec Ideal S128x4 .f32) (r n : Fin 512) : EReal :=
  U (ix2 r n) * mix ⟨r.val % 128, by omega⟩ (fun j => x4 (ix3 ⟨n.val / 128, by omega⟩ ⟨r.val % 128, by omega⟩ j))
    (x5 (ix2 ⟨r.val % 128, by omega⟩ ⟨n.val / 128, by omega⟩)) (fun j => V (ix2 ⟨r.val / 128 * 128 + j.val, by omega⟩ n))

theorem mixed_tile (U V : Vec Ideal S512x512 .f32) (x4 : Vec Ideal S4x128x128 .f32) (x5 : Vec Ideal S128x4 .f32) (r n : Fin 512) (a b : Fin 4)
    (i e : Fin 128) (hr : r.val = 128 * a.val + i.val) (hn : n.val = 128 * b.val + e.val) :
    mixed U V x4 x5 r n = U (ix2 ⟨128 * a.val + i.val, by omega⟩ ⟨128 * b.val + e.val, by omega⟩)
      * mix i (fun j => x4 (ix3 b i j)) (x5 (ix2 i b)) (fun j => V (ix2 ⟨128 * a.val + j.val, by omega⟩ ⟨128 * b.val + e.val, by omega⟩)) := by
  have h1 : r = ⟨128 * a.val + i.val, by omega⟩ := Fin.ext hr
  have h2 : n = ⟨128 * b.val + e.val, by omega⟩ := Fin.ext hn
  have h3 : (⟨r.val % 128, by omega⟩ : Fin 128) = i := Fin.ext (by show r.val % 128 = i.val; omega)
  have h4 : (⟨n.val / 128, by omega⟩ : Fin 4) = b := Fin.ext (by show n.val / 128 = b.val; omega)
  have h5 : ∀ j : Fin 128, (⟨r.val / 128 * 128 + j.val, by omega⟩ : Fin 512) = ⟨128 * a.val + j.val, by omega⟩ :=
    fun j => Fin.ext (by show r.val / 128 * 128 + j.val = 128 * a.val + j.val; omega)
  unfold mixed
  simp only [h3, h4, h5]
  rw [← h1, ← h2]

set_option maxHeartbeats 2000000 in
theorem mixed_apply (x0 : Vec Ideal S512x1024 .f32) (x1 : Vec Ideal S1x1024 .f32) (x2 : Vec Ideal S1024x2560 .bf16) (x3 : Vec Ideal S1x512 .f32)
    (x4 : Vec Ideal S4x128x128 .f32) (x5 : Vec Ideal S128x4 .f32) (r n : Fin 512) :
    out0_11 x0 x1 x2 x3 x4 x5 (ix2 r n) = mixed (k0_pay43 x0 x1 x2 x3 x4 x5) (k0_pay44 x0 x1 x2 x3 x4 x5) x4 x5 r n := by
  unfold out0_11 k0_pay55 k0_pay54 k0_pay53 k0_pay52 k0_pay51 k0_pay50 k0_pay49 k0_pay48 k0_pay47 k0_pay46 k0_pay45
  generalize k0_pay43 x0 x1 x2 x3 x4 x5 = U
  generalize k0_pay44 x0 x1 x2 x3 x4 x5 = V
  canon_tiles x h
  all_goals
    obtain ⟨i, e, rfl⟩ : ∃ (i e : Fin 128), x = ix2 i e :=
      ⟨x (0 : Fin 2), x (1 : Fin 2), funext fun a => match a with | ⟨0, _⟩ => rfl | ⟨1, _⟩ => rfl⟩
  · refine Eq.trans ?_ (mixed_tile U V x4 x5 r n 3 3 i e (Eq.trans (b := 384 + i.val) h0 (by show 384 + i.val = 128 * 3 + i.val; omega)) (Eq.trans (b := 384 + e.val) h1 (by show 384 + e.val = 128 * 3 + e.val; omega))).symm
    open_payloads
    unfold mix
    pointwise
    simp only [masked_term]
  · refine Eq.trans ?_ (mixed_tile U V x4 x5 r n 2 3 i e (Eq.trans (b := 256 + i.val) h0 (by show 256 + i.val = 128 * 2 + i.val; omega)) (Eq.trans (b := 384 + e.val) h1 (by show 384 + e.val = 128 * 3 + e.val; omega))).symm
    open_payloads
    unfold mix
    pointwise
    simp only [masked_term]
  · refine Eq.trans ?_ (mixed_tile U V x4 x5 r n 1 3 i e (Eq.trans (b := 128 + i.val) h0 (by show 128 + i.val = 128 * 1 + i.val; omega)) (Eq.trans (b := 384 + e.val) h1 (by show 384 + e.val = 128 * 3 + e.val; omega))).symm
    open_payloads
    unfold mix
    pointwise
    simp only [masked_term]
  · refine Eq.trans ?_ (mixed_tile U V x4 x5 r n 0 3 i e (Eq.trans (b := i.val) h0 (by show i.val = 128 * 0 + i.val; omega)) (Eq.trans (b := 384 + e.val) h1 (by show 384 + e.val = 128 * 3 + e.val; omega))).symm
    open_payloads
    unfold mix
    pointwise
    simp only [masked_term]
  · refine Eq.trans ?_ (mixed_tile U V x4 x5 r n 3 2 i e (Eq.trans (b := 384 + i.val) h0 (by show 384 + i.val = 128 * 3 + i.val; omega)) (Eq.trans (b := 256 + e.val) h1 (by show 256 + e.val = 128 * 2 + e.val; omega))).symm
    open_payloads
    unfold mix
    pointwise
    simp only [masked_term]
  · refine Eq.trans ?_ (mixed_tile U V x4 x5 r n 2 2 i e (Eq.trans (b := 256 + i.val) h0 (by show 256 + i.val = 128 * 2 + i.val; omega)) (Eq.trans (b := 256 + e.val) h1 (by show 256 + e.val = 128 * 2 + e.val; omega))).symm
    open_payloads
    unfold mix
    pointwise
    simp only [masked_term]
  · refine Eq.trans ?_ (mixed_tile U V x4 x5 r n 1 2 i e (Eq.trans (b := 128 + i.val) h0 (by show 128 + i.val = 128 * 1 + i.val; omega)) (Eq.trans (b := 256 + e.val) h1 (by show 256 + e.val = 128 * 2 + e.val; omega))).symm
    open_payloads
    unfold mix
    pointwise
    simp only [masked_term]
  · refine Eq.trans ?_ (mixed_tile U V x4 x5 r n 0 2 i e (Eq.trans (b := i.val) h0 (by show i.val = 128 * 0 + i.val; omega)) (Eq.trans (b := 256 + e.val) h1 (by show 256 + e.val = 128 * 2 + e.val; omega))).symm
    open_payloads
    unfold mix
    pointwise
    simp only [masked_term]
  · refine Eq.trans ?_ (mixed_tile U V x4 x5 r n 3 1 i e (Eq.trans (b := 384 + i.val) h0 (by show 384 + i.val = 128 * 3 + i.val; omega)) (Eq.trans (b := 128 + e.val) h1 (by show 128 + e.val = 128 * 1 + e.val; omega))).symm
    open_payloads
    unfold mix
    pointwise
    simp only [masked_term]
  · refine Eq.trans ?_ (mixed_tile U V x4 x5 r n 2 1 i e (Eq.trans (b := 256 + i.val) h0 (by show 256 + i.val = 128 * 2 + i.val; omega)) (Eq.trans (b := 128 + e.val) h1 (by show 128 + e.val = 128 * 1 + e.val; omega))).symm
    open_payloads
    unfold mix
    pointwise
    simp only [masked_term]
  · refine Eq.trans ?_ (mixed_tile U V x4 x5 r n 1 1 i e (Eq.trans (b := 128 + i.val) h0 (by show 128 + i.val = 128 * 1 + i.val; omega)) (Eq.trans (b := 128 + e.val) h1 (by show 128 + e.val = 128 * 1 + e.val; omega))).symm
    open_payloads
    unfold mix
    pointwise
    simp only [masked_term]
  · refine Eq.trans ?_ (mixed_tile U V x4 x5 r n 0 1 i e (Eq.trans (b := i.val) h0 (by show i.val = 128 * 0 + i.val; omega)) (Eq.trans (b := 128 + e.val) h1 (by show 128 + e.val = 128 * 1 + e.val; omega))).symm
    open_payloads
    unfold mix
    pointwise
    simp only [masked_term]
  · refine Eq.trans ?_ (mixed_tile U V x4 x5 r n 3 0 i e (Eq.trans (b := 384 + i.val) h0 (by show 384 + i.val = 128 * 3 + i.val; omega)) (Eq.trans (b := e.val) h1 (by show e.val = 128 * 0 + e.val; omega))).symm
    open_payloads
    unfold mix
    pointwise
    simp only [masked_term]
  · refine Eq.trans ?_ (mixed_tile U V x4 x5 r n 2 0 i e (Eq.trans (b := 256 + i.val) h0 (by show 256 + i.val = 128 * 2 + i.val; omega)) (Eq.trans (b := e.val) h1 (by show e.val = 128 * 0 + e.val; omega))).symm
    open_payloads
    unfold mix
    pointwise
    simp only [masked_term]
  · refine Eq.trans ?_ (mixed_tile U V x4 x5 r n 1 0 i e (Eq.trans (b := 128 + i.val) h0 (by show 128 + i.val = 128 * 1 + i.val; omega)) (Eq.trans (b := e.val) h1 (by show e.val = 128 * 0 + e.val; omega))).symm
    open_payloads
    unfold mix
    pointwise
    simp only [masked_term]
  · refine Eq.trans ?_ (mixed_tile U V x4 x5 r n 0 0 i e (Eq.trans (b := i.val) h0 (by show i.val = 128 * 0 + i.val; omega)) (Eq.trans (b := e.val) h1 (by show e.val = 128 * 0 + e.val; omega))).symm
    open_payloads
    unfold mix
    pointwise
    simp only [masked_term]

end Cert.Kernel4Ideal.Prompt

end
-- ==== Proof.PromptRef.lean ====
/- The stated program of the prompt's input projection, read at an index: its normalized rows, the columns of the product,
the gating function of the last two groups of columns, the normalized gates and the mixing over the rows of a chunk. -/
module

public import proofs.«01_k».proof.Proof.Gen.Reference4Ideal.Read
public import proofs.«01_k».proof.Proof.Project
public import Idealize.ShloMosaic.Lib.Pipeline.ValueKit
public import Idealize.ShloMosaic.Lib.WordCmp

@[expose] public section

set_option maxRecDepth 16384

noncomputable section

namespace Cert.Reference4Ideal.Prompt

open Idealize.ShloMosaic Idealize.ShloMosaic.TcCoe Idealize.ShloMosaic.Tactic
open Idealize.SL Idealize.SL.RA Idealize.SL.BI Idealize.SL.Sem
open Idealize.ShloMosaic.Pointwise
open Cert.Reference4Ideal Cert.Reference4Ideal.Gen Cert.Reference4Ideal.Read Cert.Project

set_option maxHeartbeats 1600000

section
variable (x : Vec Ideal S4x4096x1024 .f32) (g : Vec Ideal S1024 .f32) (w : Vec Ideal S1024x2560 .f32)
  (gains : Vec Ideal S512 .f32) (weights : Vec Ideal S4x128x128 .f32) (biases : Vec Ideal S4x128 .f32)

/-- Column `J` of the projection of row `s` of sequence `b`. -/
def entry (b : Fin 4) (s : Fin 4096) (J : Fin 2560) : EReal :=
  column (fun k : Fin 1024 => x (ix3 b s k)) (fun k : Fin 1024 => g (ix1 k))
    (fun k : Fin 1024 => w (ix2 k J))

/-- Column `j` of the normalized gates of row `s` of sequence `b`. -/
def gate (b : Fin 4) (s : Fin 4096) (j : Fin 512) : EReal :=
  gates (fun k : Fin 1024 => x (ix3 b s k)) (fun k : Fin 1024 => g (ix1 k))
    (fun (n : Fin 512) (k : Fin 1024) => w (ix2 k ⟨2048 + n.val, by omega⟩))
    (fun n : Fin 512 => gains (ix1 n)) j

theorem normed_apply (b : Fin 4) (s : Fin 4096) (k : Fin 1024) :
    val_main_v12 (F := Ideal) x g (ix3 b s k)
      = normed 0x44800000#32 (fun k : Fin 1024 => x (ix3 b s k)) (fun k => g (ix1 k)) k := by
  unfold val_main_v12 val_main_v11 val_main_v10 val_main_v9 val_main_v8 val_main_v7 val_main_v6
    val_main_v5 val_main_v4 val_main_v3 val_main_v2 val_main_v1 val_main_v0 val_main_cst
    val_main_cst_0 val_main_cst_1 normed
  pointwise

theorem entry_apply (b : Fin 4) (s : Fin 4096) (J : Fin 2560) :
    val_main_v13 (F := Ideal) x g w (ix3 b s J) = entry x g w b s J := by
  have h := normed_apply x g
  unfold val_main_v13 entry column
  generalize val_main_v12 (F := Ideal) x g = y at h ⊢
  pointwise [h]

theorem q_apply (b : Fin 4) (s : Fin 4096) (j : Fin 512) :
    val_main_v14 (F := Ideal) x g w (ix3 b s j) = entry x g w b s ⟨j.val, by omega⟩ := by
  have h := entry_apply x g w
  unfold val_main_v14
  generalize val_main_v13 (F := Ideal) x g w = y at h ⊢
  pointwise [h]

theorem k_apply (b : Fin 4) (s : Fin 4096) (j : Fin 512) :
    val_main_v15 (F := Ideal) x g w (ix3 b s j) = entry x g w b s ⟨512 + j.val, by omega⟩ := by
  have h := entry_apply x g w
  unfold val_main_v15
  generalize val_main_v13 (F := Ideal) x g w = y at h ⊢
  pointwise [h]

theorem v_apply (b : Fin 4) (s : Fin 4096) (j : Fin 512) :
    val_main_v16 (F := Ideal) x g w (ix3 b s j) = entry x g w b s ⟨1024 + j.val, by omega⟩ := by
  have h := entry_apply x g w
  unfold val_main_v16
  generalize val_main_v13 (F := Ideal) x g w = y at h ⊢
  pointwise [h]

theorem left_apply (b : Fin 4) (s : Fin 4096) (j : Fin 512) :
    val_main_v17 (F := Ideal) x g w (ix3 b s j) = entry x g w b s ⟨1536 + j.val, by omega⟩ := by
  have h := entry_apply x g w
  unfold val_main_v17
  generalize val_main_v13 (F := Ideal) x g w = y at h ⊢
  pointwise [h]

theorem right_apply (b : Fin 4) (s : Fin 4096) (j : Fin 512) :
    val_main_v18 (F := Ideal) x g w (ix3 b s j) = entry x g w b s ⟨2048 + j.val, by omega⟩ := by
  have h := entry_apply x g w
  unfold val_main_v18
  generalize val_main_v13 (F := Ideal) x g w = y at h ⊢
  pointwise [h]

theorem left_gelu_apply (b : Fin 4) (s : Fin 4096) (j : Fin 512) :
    val_main_v31 (F := Ideal) x g w (ix3 b s j)
      = gelu (entry x g w b s ⟨1536 + j.val, by omega⟩) := by
  have h := left_apply x g w b s j
  unfold val_main_v31 val_main_v30 val_main_v29 val_main_v28 val_main_v27 val_main_v26
    val_main_v25 val_main_v24 val_main_v23 val_main_v22 val_main_v21 val_main_v20 val_main_v19
    val_main_cst_2 val_main_cst_3 val_main_cst_4 val_main_cst_5
  generalize val_main_v17 (F := Ideal) x g w = y at h ⊢
  rw [← h]
  unfold gelu
  rw [mul_comm (y (ix3 b s j)) (y (ix3 b s j) * y (ix3 b s j))]
  pointwise

theorem right_gelu_apply (b : Fin 4) (s : Fin 4096) (j : Fin 512) :
    val_main_v44 (F := Ideal) x g w (ix3 b s j)
      = gelu (entry x g w b s ⟨2048 + j.val, by omega⟩) := by
  have h := right_apply x g w b s j
  unfold val_main_v44 val_main_v43 val_main_v42 val_main_v41 val_main_v40 val_main_v39
    val_main_v38 val_main_v37 val_main_v36 val_main_v35 val_main_v34 val_main_v33 val_main_v32
    val_main_cst_6 val_main_cst_7 val_main_cst_8 val_main_cst_9
  generalize val_main_v18 (F := Ideal) x g w = y at h ⊢
  rw [← h]
  unfold gelu
  rw [mul_comm (y (ix3 b s j)) (y (ix3 b s j) * y (ix3 b s j))]
  pointwise

theorem gate_apply (b : Fin 4) (s : Fin 4096) (j : Fin 512) :
    val_main_v57 (F := Ideal) x g w gains (ix3 b s j) = gate x g w gains b s j := by
  have h := right_gelu_apply x g w
  unfold val_main_v57 val_main_v56 val_main_v55 val_main_v54 val_main_v53 val_main_v52
    val_main_v51 val_main_v50 val_main_v49 val_main_v48 val_main_v47 val_main_v46 val_main_v45
    val_main_cst_10 val_main_cst_11 val_main_cst_12 gate gates normed
  unfold entry at h
  generalize val_main_v44 (F := Ideal) x g w = y at h ⊢
  pointwise [h]

theorem mask_apply (a : Fin 4) (i j : Fin 128) :
    val_main_v62 (F := Ideal) weights (ix3 a i j) = (if j.val ≤ i.val then (weights (ix3 a i j) : EReal) else 0) := by
  unfold val_main_v62 val_main_call1_v1 val_main_call1_v0 val_main_v61 val_main_v60 val_main_v59 val_main_c val_main_cst_13
    val_main_call0_v5 val_main_call0_v4 val_main_call0_v3 val_main_call0_v2 val_main_call0_v1 val_main_call0_v0
    val_main_call0_c val_main_call0_c_0
  pointwise
  have hz : IntOp.addi (BitVec.ofNat 32 i.val) 0#32 = BitVec.ofNat 32 i.val := BitVec.add_zero _
  rw [hz, WordCmp.cmpi_sge_ofNat (w := 32) (by have := i.isLt; omega) (by have := j.isLt; omega)]
  by_cases h : j.val ≤ i.val
  · simp [Scalar.select, h]
  · simp [Scalar.select, h]

/-- Row `s` of sequence `b`: column `j` of the left half times the mix of its chunk's gates. -/
def product (b : Fin 4) (s : Fin 4096) (j : Fin 512) : EReal :=
  gelu (entry x g w b s ⟨1536 + j.val, by omega⟩)
    * mix ⟨s.val % 128, by omega⟩ (fun i => weights (ix3 ⟨j.val / 128, by omega⟩ ⟨s.val % 128, by omega⟩ i))
        (biases (ix2 ⟨j.val / 128, by omega⟩ ⟨s.val % 128, by omega⟩))
        (fun i => gate x g w gains b ⟨s.val / 128 * 128 + i.val, by omega⟩ j)

theorem chunk_apply (b : Fin 4) (C : Fin 32) (i : Fin 128) (a : Fin 4) (e : Fin 128) :
    val_main_v58 (F := Ideal) x g w gains (ix5 b C i a e) = gate x g w gains b ⟨C.val * 128 + i.val, by omega⟩ ⟨a.val * 128 + e.val, by omega⟩ := by
  refine Eq.trans ?_ (gate_apply x g w gains b _ _)
  unfold val_main_v58
  generalize val_main_v57 (F := Ideal) x g w gains = y
  exact shapeCast_apply y shapeCasts_S4x4096x512_S4x32x128x4x128 (ix5 b C i a e) _ (by
    rewrite [Shape.rowMajor_val_three, Shape.rowMajor_val_five]
    show (b.val * 4096 + (C.val * 128 + i.val)) * 512 + (a.val * 128 + e.val) = (((b.val * 32 + C.val) * 128 + i.val) * 4 + a.val) * 128 + e.val
    omega)

theorem sums_apply (b : Fin 4) (C : Fin 32) (i : Fin 128) (a : Fin 4) (e : Fin 128) :
    val_main_v68 (F := Ideal) x g w gains weights biases (ix5 b C i a e)
      = mix i (fun j => weights (ix3 a i j)) (biases (ix2 a i))
          (fun j => gate x g w gains b ⟨C.val * 128 + j.val, by omega⟩ ⟨a.val * 128 + e.val, by omega⟩) := by
  have hm := mask_apply weights
  have hc := chunk_apply x g w gains
  unfold val_main_v68 val_main_v67 val_main_v66 val_main_v65 val_main_v64 val_main_v63 mix
  generalize val_main_v62 (F := Ideal) weights = y1 at hm ⊢
  generalize val_main_v58 (F := Ideal) x g w gains = y2 at hc ⊢
  refine Eq.trans (b := (∑ j : Fin 128, (y2 (ix5 b C j a e) : EReal) * y1 (ix3 a i j)) + biases (ix2 a i)) ?_ ?_
  · pointwise
  · refine congrArg (fun t : EReal => t + biases (ix2 a i)) (Finset.sum_congr rfl fun j _ => ?_)
    rw [hm, hc, mul_comm]

theorem product_apply (b : Fin 4) (s : Fin 4096) (j : Fin 512) :
    val_main_v70 (F := Ideal) x g w gains weights biases (ix3 b s j) = product x g w gains weights biases b s j := by
  have hs : val_main_v69 (F := Ideal) x g w gains weights biases (ix3 b s j)
      = val_main_v68 (F := Ideal) x g w gains weights biases (ix5 b ⟨s.val / 128, by omega⟩ ⟨s.val % 128, by omega⟩ ⟨j.val / 128, by omega⟩ ⟨j.val % 128, by omega⟩) := by
    unfold val_main_v69
    generalize val_main_v68 (F := Ideal) x g w gains weights biases = y
    exact shapeCast_apply y shapeCasts_S4x32x128x4x128_S4x4096x512 (ix3 b s j) _ (by
      rewrite [Shape.rowMajor_val_three, Shape.rowMajor_val_five]
      show (((b.val * 32 + s.val / 128) * 128 + s.val % 128) * 4 + j.val / 128) * 128 + j.val % 128 = (b.val * 4096 + s.val) * 512 + j.val
      omega)
  have hj : (⟨j.val / 128 * 128 + j.val % 128, by omega⟩ : Fin 512) = j := Fin.ext (by show j.val / 128 * 128 + j.val % 128 = j.val; omega)
  have hl := left_gelu_apply x g w b s j
  have hr := hs.trans (sums_apply x g w gains weights biases b ⟨s.val / 128, by omega⟩ ⟨s.val % 128, by omega⟩ ⟨j.val / 128, by omega⟩ ⟨j.val % 128, by omega⟩)
  simp only [hj] at hr
  unfold val_main_v70 product
  exact congrArg₂ (fun a b : EReal => a * b) hl hr

/-! ## The results, by flat rows and by blocks of 512 rows -/

theorem flat_apply (v : (⟨S4x4096x512, .f32⟩ : BufTy).Contents (Elt Ideal)) (r : Fin 16384) (j : Fin 512) :
    (shapeCast S16384x512 v shapeCasts_S4x4096x512_S16384x512) (ix2 r j) = v (ix3 ⟨r.val / 4096, by omega⟩ ⟨r.val % 4096, by omega⟩ j) :=
  shapeCast_apply v shapeCasts_S4x4096x512_S16384x512 (ix2 r j) _ (by
    rewrite [Shape.rowMajor_val_three, Shape.rowMajor_val_two]
    show (r.val / 4096 * 4096 + r.val % 4096) * 512 + j.val = r.val * 512 + j.val
    omega)

theorem blocks_apply (v : (⟨S4x4096x512, .f32⟩ : BufTy).Contents (Elt Ideal)) (t : Fin 32) (r j : Fin 512) :
    (shapeCast S32x512x512 v shapeCasts_S4x4096x512_S32x512x512) (ix3 t r j)
      = v (ix3 ⟨(t.val * 512 + r.val) / 4096, by omega⟩ ⟨(t.val * 512 + r.val) % 4096, by omega⟩ j) :=
  shapeCast_apply v shapeCasts_S4x4096x512_S32x512x512 (ix3 t r j) _ (by
    rewrite [Shape.rowMajor_val_three, Shape.rowMajor_val_three]
    show ((t.val * 512 + r.val) / 4096 * 4096 + (t.val * 512 + r.val) % 4096) * 512 + j.val = (t.val * 512 + r.val) * 512 + j.val
    omega)

theorem swapped_apply (v : (⟨S32x512x512, .f32⟩ : BufTy).Contents (Elt Ideal)) (t : Fin 32) (j r : Fin 512) :
    (transpose S32x512x512 [0, 2, 1] v transposes_S32x512x512_S32x512x512_0_2_1) (ix3 t j r) = v (ix3 t r j) := by
  pointwise

theorem q_result (t : Fin 32) (j r : Fin 512) :
    val_main_v79 (F := Ideal) x g w (ix3 t j r)
      = entry x g w ⟨(t.val * 512 + r.val) / 4096, by omega⟩ ⟨(t.val * 512 + r.val) % 4096, by omega⟩ ⟨j.val, by omega⟩ * Ideal.ofBits .f32 0x3E38AA3B#32 := by
  have h0 : val_main_v79 (F := Ideal) x g w (ix3 t j r)
      = val_main_v73 (F := Ideal) x g w (ix3 ⟨(t.val * 512 + r.val) / 4096, by omega⟩ ⟨(t.val * 512 + r.val) % 4096, by omega⟩ j) :=
    (swapped_apply _ t j r).trans (blocks_apply (val_main_v73 (F := Ideal) x g w) t r j)
  refine h0.trans ?_
  refine Eq.trans ?_ (congrArg (fun a : EReal => a * Ideal.ofBits .f32 0x3E38AA3B#32) (q_apply x g w _ _ j))
  unfold val_main_v73 val_main_v72 val_main_cst_14
  generalize val_main_v14 (F := Ideal) x g w = y
  pointwise

theorem k_flat (r : Fin 16384) (j : Fin 512) :
    val_main_v76 (F := Ideal) x g w (ix2 r j) = entry x g w ⟨r.val / 4096, by omega⟩ ⟨r.val % 4096, by omega⟩ ⟨512 + j.val, by omega⟩ :=
  (flat_apply _ r j).trans (k_apply x g w _ _ j)

theorem k_cast (r : Fin 16384) (j : Fin 512) :
    val_main_v80 (F := Ideal) x g w (ix2 r j) = entry x g w ⟨r.val / 4096, by omega⟩ ⟨r.val % 4096, by omega⟩ ⟨512 + j.val, by omega⟩ :=
  k_flat x g w r j

theorem v_flat (r : Fin 16384) (j : Fin 512) :
    val_main_v81 (F := Ideal) x g w (ix2 r j) = entry x g w ⟨r.val / 4096, by omega⟩ ⟨r.val % 4096, by omega⟩ ⟨1024 + j.val, by omega⟩ :=
  (flat_apply _ r j).trans (v_apply x g w _ _ j)

theorem v_swapped (t : Fin 32) (j r : Fin 512) :
    val_main_v82 (F := Ideal) x g w (ix3 t j r)
      = entry x g w ⟨(t.val * 512 + r.val) / 4096, by omega⟩ ⟨(t.val * 512 + r.val) % 4096, by omega⟩ ⟨1024 + j.val, by omega⟩ :=
  (swapped_apply _ t j r).trans ((blocks_apply _ t r j).trans (v_apply x g w _ _ j))

theorem s_result (r : Fin 16384) (j : Fin 512) :
    val_main_v71 (F := Ideal) x g w gains weights biases (ix2 r j)
      = product x g w gains weights biases ⟨r.val / 4096, by omega⟩ ⟨r.val % 4096, by omega⟩ j :=
  (flat_apply _ r j).trans (product_apply x g w gains weights biases _ _ j)

end

end Cert.Reference4Ideal.Prompt

end
-- ==== Proof.PromptValue.lean ====
/- The prompt's input projection leaves what its reference leaves: thirty-two blocks of 512 rows, each with its queries,
keys, values and gated products. -/
module

public import proofs.«01_k».proof.Proof.PromptBody
public import proofs.«01_k».proof.Proof.PromptRef
public import Idealize.ShloMosaic.Lib.Pipeline.ValueKit

@[expose] public section

set_option maxRecDepth 16384

noncomputable section

namespace Cert.Kernel4Ideal.Prompt

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Idealize.ShloMosaic.Pointwise
open Cert.Kernel4Ideal Cert.Kernel4Ideal.Gen Cert.Project

/-! ## A block's results, from the blocks loaded -/

section
variable (x0 : Vec Ideal S512x1024 .f32) (x1 : Vec Ideal S1x1024 .f32) (x2 : Vec Ideal S1024x2560 .bf16) (x3 : Vec Ideal S1x512 .f32)
  (x4 : Vec Ideal S4x128x128 .f32) (x5 : Vec Ideal S128x4 .f32) (r n : Fin 512)

/-- Column `J` of the projection of the block's row `r`. -/
def cell (J : Fin 2560) : EReal :=
  column (fun k : Fin 1024 => (x0 (ix2 r k) : EReal)) (fun k => x1 (ix2 0 k)) (fun k => x2 (ix2 k J))

theorem ld_rows : View.ld x0 r0_0 = x0 := View.ld_unit_zero (funext fun a => by match a with | ⟨0, _⟩ => rfl | ⟨1, _⟩ => rfl) _ _
theorem ld_gain : View.ld x1 r0_1 = x1 := View.ld_unit_zero (funext fun a => by match a with | ⟨0, _⟩ => rfl | ⟨1, _⟩ => rfl) _ _
theorem ld_gate_gain : View.ld x3 r0_7 = x3 := View.ld_unit_zero (funext fun a => by match a with | ⟨0, _⟩ => rfl | ⟨1, _⟩ => rfl) _ _

theorem ld_q (k : Fin 1024) : View.ld x2 r0_2 (ix2 k n) = x2 (ix2 k ⟨n.val, by omega⟩) :=
  View.ld_unit_apply_of _ _ _ _ _ _ (fun a => by match a with | ⟨0, _⟩ => exact (Nat.zero_add _).symm | ⟨1, _⟩ => exact (Nat.zero_add _).symm)
theorem ld_k (k : Fin 1024) : View.ld x2 r0_3 (ix2 k n) = x2 (ix2 k ⟨512 + n.val, by omega⟩) :=
  View.ld_unit_apply_of _ _ _ _ _ _ (fun a => by match a with | ⟨0, _⟩ => exact (Nat.zero_add _).symm | ⟨1, _⟩ => rfl)
theorem ld_v (k : Fin 1024) : View.ld x2 r0_4 (ix2 k n) = x2 (ix2 k ⟨1024 + n.val, by omega⟩) :=
  View.ld_unit_apply_of _ _ _ _ _ _ (fun a => by match a with | ⟨0, _⟩ => exact (Nat.zero_add _).symm | ⟨1, _⟩ => rfl)
theorem ld_left (k : Fin 1024) : View.ld x2 r0_5 (ix2 k n) = x2 (ix2 k ⟨1536 + n.val, by omega⟩) :=
  View.ld_unit_apply_of _ _ _ _ _ _ (fun a => by match a with | ⟨0, _⟩ => exact (Nat.zero_add _).symm | ⟨1, _⟩ => rfl)
theorem ld_right (k : Fin 1024) : View.ld x2 r0_6 (ix2 k n) = x2 (ix2 k ⟨2048 + n.val, by omega⟩) :=
  View.ld_unit_apply_of _ _ _ _ _ _ (fun a => by match a with | ⟨0, _⟩ => exact (Nat.zero_add _).symm | ⟨1, _⟩ => rfl)

theorem keys_cell : (k0_pay41 x0 x1 x2 x3 x4 x5 (ix2 r n) : EReal) = cell x0 x1 x2 r ⟨512 + n.val, by omega⟩ := by
  unfold k0_pay41 cell
  rw [k_apply, ld_rows, ld_gain]
  exact congrArg (column _ _) (funext fun k => ld_k x2 n k)

theorem values_cell : (k0_pay42 x0 x1 x2 x3 x4 x5 (ix2 r n) : EReal) = cell x0 x1 x2 r ⟨1024 + n.val, by omega⟩ := by
  unfold k0_pay42 cell
  rw [v_apply, ld_rows, ld_gain]
  exact congrArg (column _ _) (funext fun k => ld_v x2 n k)

theorem left_cell : (k0_pay43 x0 x1 x2 x3 x4 x5 (ix2 r n) : EReal) = gelu (cell x0 x1 x2 r ⟨1536 + n.val, by omega⟩) := by
  unfold k0_pay43 cell
  rw [gelu_apply, ld_rows, ld_gain]
  exact congrArg (fun w => gelu (column _ _ w)) (funext fun k => ld_left x2 n k)

theorem right_cell : (k0_pay44 x0 x1 x2 x3 x4 x5 (ix2 r n) : EReal)
    = gates (fun k : Fin 1024 => (x0 (ix2 r k) : EReal)) (fun k => x1 (ix2 0 k)) (fun i k => x2 (ix2 k ⟨2048 + i.val, by omega⟩)) (fun i => x3 (ix2 0 i)) n := by
  unfold k0_pay44
  rw [gates_apply, ld_rows, ld_gain, ld_gate_gain]
  exact congrArg (fun w => gates _ _ w _ n) (funext fun i => funext fun k => ld_right x2 i k)

theorem whole3 : (![0, 0, 0] : Fin 3 → ℕ) = fun _ => 0 := funext fun a => by match a with | ⟨0, _⟩ => rfl | ⟨1, _⟩ => rfl | ⟨2, _⟩ => rfl
theorem whole2 : (![0, 0] : Fin 2 → ℕ) = fun _ => 0 := funext fun a => by match a with | ⟨0, _⟩ => rfl | ⟨1, _⟩ => rfl

theorem turned_apply (y : FVec Ideal S512x512 .f32) : (k0_pay15 y (ix3 0 n r) : EReal) = y (ix2 r n) := by
  unfold k0_pay15; pointwise

theorem turned_apply' (y : FVec Ideal S512x512 .f32) : (k0_pay13 y (ix3 0 n r) : EReal) = y (ix2 r n) := by
  unfold k0_pay13; pointwise

theorem out_q : (out0_6 x0 x1 x2 x3 x4 x5 (ix3 0 n r) : EReal) = cell x0 x1 x2 r ⟨n.val, by omega⟩ * Ideal.ofBits .f32 0x3E38AA3B#32 := by
  unfold out0_6
  rw [View.canon_cons_unit_zero whole3, turned_apply', q_apply, ld_rows, ld_gain]
  unfold cell
  exact congrArg (fun w => column _ _ w * Ideal.ofBits .f32 0x3E38AA3B#32) (funext fun k => ld_q x2 n k)

theorem out_k : (out0_7 x0 x1 x2 x3 x4 x5 (ix2 r n) : EReal) = cell x0 x1 x2 r ⟨512 + n.val, by omega⟩ := by
  unfold out0_7
  rw [View.canon_cons_unit_zero whole2, keys_cell]

theorem out_k_cast : (out0_8 x0 x1 x2 x3 x4 x5 (ix2 r n) : EReal) = cell x0 x1 x2 r ⟨512 + n.val, by omega⟩ := by
  unfold out0_8
  rw [View.canon_cons_unit_zero whole2]
  exact keys_cell x0 x1 x2 x3 x4 x5 r n

theorem out_v : (out0_9 x0 x1 x2 x3 x4 x5 (ix2 r n) : EReal) = cell x0 x1 x2 r ⟨1024 + n.val, by omega⟩ := by
  unfold out0_9
  rw [View.canon_cons_unit_zero whole2, values_cell]

theorem out_v_turned : (out0_10 x0 x1 x2 x3 x4 x5 (ix3 0 n r) : EReal) = cell x0 x1 x2 r ⟨1024 + n.val, by omega⟩ := by
  unfold out0_10
  rw [View.canon_cons_unit_zero whole3, turned_apply, values_cell]

end

/-! ## The arrays the call finds, and its blocks -/

variable (m : (ℓ : Loc nD τ sig) → Buf (Elt Ideal) ℓ) (c : Dev nD)

theorem flat_apply (v : (⟨S4x4096x1024, .f32⟩ : BufTy).Contents (Elt Ideal)) (r : Fin 16384) (k : Fin 1024) :
    (shapeCast S16384x1024 v shapeCasts_S4x4096x1024_S16384x1024) (ix2 r k) = v (ix3 ⟨r.val / 4096, by omega⟩ ⟨r.val % 4096, by omega⟩ k) :=
  shapeCast_apply v shapeCasts_S4x4096x1024_S16384x1024 (ix2 r k) _ (by
    rewrite [Shape.rowMajor_val_three, Shape.rowMajor_val_two]
    show (r.val / 4096 * 4096 + r.val % 4096) * 1024 + k.val = r.val * 1024 + k.val
    omega)

theorem gain_apply (v : (⟨S1024, .f32⟩ : BufTy).Contents (Elt Ideal)) (k : Fin 1024) :
    (shapeCast S1x1024 v shapeCasts_S1024_S1x1024) (ix2 0 k) = v (ix1 k) := by pointwise

theorem gate_gain_apply (v : (⟨S512, .f32⟩ : BufTy).Contents (Elt Ideal)) (k : Fin 512) :
    (shapeCast S1x512 v shapeCasts_S512_S1x512) (ix2 0 k) = v (ix1 k) := by pointwise

theorem bias_apply (v : (⟨S4x128, .f32⟩ : BufTy).Contents (Elt Ideal)) (i : Fin 128) (a : Fin 4) :
    (transpose S128x4 [1, 0] v transposes_S4x128_S128x4_1_0) (ix2 i a) = v (ix2 a i) := by pointwise

theorem rows_array (r : Fin 16384) (k : Fin 1024) :
    (V m c main_v0 (ix2 r k) : EReal) = m ((c.tc : Thread nD τ).loc main_arg0) (ix3 ⟨r.val / 4096, by omega⟩ ⟨r.val % 4096, by omega⟩ k) :=
  flat_apply (m ((c.tc : Thread nD τ).loc main_arg0)) r k

theorem gain_array (k : Fin 1024) : (V m c main_v1 (ix2 0 k) : EReal) = m ((c.tc : Thread nD τ).loc main_arg1) (ix1 k) :=
  gain_apply (m ((c.tc : Thread nD τ).loc main_arg1)) k

theorem weight_array (k : Fin 1024) (J : Fin 2560) : (V m c main_v2 (ix2 k J) : EReal) = m ((c.tc : Thread nD τ).loc main_arg2) (ix2 k J) := rfl

theorem gate_gain_array (k : Fin 512) : (V m c main_v3 (ix2 0 k) : EReal) = m ((c.tc : Thread nD τ).loc main_arg3) (ix1 k) :=
  gate_gain_apply (m ((c.tc : Thread nD τ).loc main_arg3)) k

theorem mix_array (a : Fin 4) (i j : Fin 128) : (V m c main_arg4 (ix3 a i j) : EReal) = m ((c.tc : Thread nD τ).loc main_arg4) (ix3 a i j) := rfl

theorem bias_array (i : Fin 128) (a : Fin 4) : (V m c main_v4 (ix2 i a) : EReal) = m ((c.tc : Thread nD τ).loc main_arg5) (ix2 a i) :=
  bias_apply (m ((c.tc : Thread nD τ).loc main_arg5)) i a

/-- A block's point of the grid. -/
def pt (T : Fin 32) : Fin cfg0.N := ⟨T.val, T.isLt⟩

theorem index_rows (t : Fin grid0.N) : win0_0.index t = ![t.val, 0] :=
  (by decide +kernel : ∀ t : Fin grid0.N, cc0_transform_0 (grid0.coords t) = ![t.val, 0]) t
theorem index_gain (t : Fin grid0.N) : win0_1.index t = ![0, 0] :=
  (by decide +kernel : ∀ t : Fin grid0.N, cc0_transform_1 (grid0.coords t) = ![0, 0]) t
theorem index_weight (t : Fin grid0.N) : win0_2.index t = ![0, 0] :=
  (by decide +kernel : ∀ t : Fin grid0.N, cc0_transform_2 (grid0.coords t) = ![0, 0]) t
theorem index_gate_gain (t : Fin grid0.N) : win0_3.index t = ![0, 0] :=
  (by decide +kernel : ∀ t : Fin grid0.N, cc0_transform_3 (grid0.coords t) = ![0, 0]) t
theorem index_mix (t : Fin grid0.N) : win0_4.index t = ![0, 0, 0] :=
  (by decide +kernel : ∀ t : Fin grid0.N, cc0_transform_4 (grid0.coords t) = ![0, 0, 0]) t
theorem index_bias (t : Fin grid0.N) : win0_5.index t = ![0, 0] :=
  (by decide +kernel : ∀ t : Fin grid0.N, cc0_transform_5 (grid0.coords t) = ![0, 0]) t
theorem index6 (t : Fin grid0.N) : win0_6.index t = ![t.val, 0, 0] :=
  (by decide +kernel : ∀ t : Fin grid0.N, cc0_transform_6 (grid0.coords t) = ![t.val, 0, 0]) t
theorem index7 (t : Fin grid0.N) : win0_7.index t = ![t.val, 0] :=
  (by decide +kernel : ∀ t : Fin grid0.N, cc0_transform_7 (grid0.coords t) = ![t.val, 0]) t
theorem index8 (t : Fin grid0.N) : win0_8.index t = ![t.val, 0] :=
  (by decide +kernel : ∀ t : Fin grid0.N, cc0_transform_8 (grid0.coords t) = ![t.val, 0]) t
theorem index9 (t : Fin grid0.N) : win0_9.index t = ![t.val, 0] :=
  (by decide +kernel : ∀ t : Fin grid0.N, cc0_transform_9 (grid0.coords t) = ![t.val, 0]) t
theorem index10 (t : Fin grid0.N) : win0_10.index t = ![t.val, 0, 0] :=
  (by decide +kernel : ∀ t : Fin grid0.N, cc0_transform_10 (grid0.coords t) = ![t.val, 0, 0]) t
theorem index11 (t : Fin grid0.N) : win0_11.index t = ![t.val, 0] :=
  (by decide +kernel : ∀ t : Fin grid0.N, cc0_transform_11 (grid0.coords t) = ![t.val, 0]) t

theorem rows_block (T : Fin 32) (r : Fin 512) (k : Fin 1024) :
    iblk m c 0 (pt T) (ix2 r k) = V m c main_v0 (ix2 ⟨T.val * 512 + r.val, by omega⟩ k) := by
  blk_ext [iblk, index_rows, pt]

theorem gain_block (T : Fin 32) (k : Fin 1024) : iblk m c 1 (pt T) (ix2 0 k) = V m c main_v1 (ix2 0 k) := by
  blk_ext [iblk, index_gain, pt]

theorem weight_block (T : Fin 32) (k : Fin 1024) (J : Fin 2560) : iblk m c 2 (pt T) (ix2 k J) = V m c main_v2 (ix2 k J) := by
  blk_ext [iblk, index_weight, pt]

theorem gate_gain_block (T : Fin 32) (k : Fin 512) : iblk m c 3 (pt T) (ix2 0 k) = V m c main_v3 (ix2 0 k) := by
  blk_ext [iblk, index_gate_gain, pt]

theorem mix_block (T : Fin 32) (a : Fin 4) (i j : Fin 128) : iblk m c 4 (pt T) (ix3 a i j) = V m c main_arg4 (ix3 a i j) := by
  blk_ext [iblk, index_mix, pt]

theorem bias_block (T : Fin 32) (i : Fin 128) (a : Fin 4) : iblk m c 5 (pt T) (ix2 i a) = V m c main_v4 (ix2 i a) := by
  blk_ext [iblk, index_bias, pt]

/-! ## The results -/

/-- Column `J` of the projection of the row `r` of block `T`, from the call's arguments. -/
theorem cell_point (T : Fin 32) (r : Fin 512) (J : Fin 2560) :
    cell (iblk m c 0 (pt T)) (iblk m c 1 (pt T)) (iblk m c 2 (pt T)) r J
      = Cert.Reference4Ideal.Prompt.entry (m ((c.tc : Thread nD τ).loc main_arg0)) (m ((c.tc : Thread nD τ).loc main_arg1)) (m ((c.tc : Thread nD τ).loc main_arg2))
          ⟨(T.val * 512 + r.val) / 4096, by omega⟩ ⟨(T.val * 512 + r.val) % 4096, by omega⟩ J := by
  have hx : (fun k : Fin 1024 => (iblk m c 0 (pt T) (ix2 r k) : EReal)) = fun k => m ((c.tc : Thread nD τ).loc main_arg0) (ix3 ⟨(T.val * 512 + r.val) / 4096, by omega⟩ ⟨(T.val * 512 + r.val) % 4096, by omega⟩ k) :=
    funext fun k => (rows_block m c T r k).trans (rows_array m c _ k)
  have hg : (fun k : Fin 1024 => (iblk m c 1 (pt T) (ix2 0 k) : EReal)) = fun k => m ((c.tc : Thread nD τ).loc main_arg1) (ix1 k) :=
    funext fun k => (gain_block m c T k).trans (gain_array m c k)
  have hw : (fun k : Fin 1024 => (iblk m c 2 (pt T) (ix2 k J) : EReal)) = fun k => m ((c.tc : Thread nD τ).loc main_arg2) (ix2 k J) :=
    funext fun k => (weight_block m c T k J).trans (weight_array m c k J)
  unfold cell Cert.Reference4Ideal.Prompt.entry
  rw [← hx, ← hg, ← hw]

/-- Column `n` of the gates of the row `r` of block `T`, from the call's arguments. -/
theorem gate_point (T : Fin 32) (r n : Fin 512) :
    (k0_pay44 (iblk m c 0 (pt T)) (iblk m c 1 (pt T)) (iblk m c 2 (pt T)) (iblk m c 3 (pt T)) (iblk m c 4 (pt T)) (iblk m c 5 (pt T)) (ix2 r n) : EReal)
      = Cert.Reference4Ideal.Prompt.gate (m ((c.tc : Thread nD τ).loc main_arg0)) (m ((c.tc : Thread nD τ).loc main_arg1)) (m ((c.tc : Thread nD τ).loc main_arg2)) (m ((c.tc : Thread nD τ).loc main_arg3))
          ⟨(T.val * 512 + r.val) / 4096, by omega⟩ ⟨(T.val * 512 + r.val) % 4096, by omega⟩ n := by
  refine (right_cell _ _ _ _ _ _ r n).trans ?_
  have hx : (fun k : Fin 1024 => (iblk m c 0 (pt T) (ix2 r k) : EReal)) = fun k => m ((c.tc : Thread nD τ).loc main_arg0) (ix3 ⟨(T.val * 512 + r.val) / 4096, by omega⟩ ⟨(T.val * 512 + r.val) % 4096, by omega⟩ k) :=
    funext fun k => (rows_block m c T r k).trans (rows_array m c _ k)
  have hg : (fun k : Fin 1024 => (iblk m c 1 (pt T) (ix2 0 k) : EReal)) = fun k => m ((c.tc : Thread nD τ).loc main_arg1) (ix1 k) :=
    funext fun k => (gain_block m c T k).trans (gain_array m c k)
  have hw : (fun (i : Fin 512) (k : Fin 1024) => (iblk m c 2 (pt T) (ix2 k ⟨2048 + i.val, by omega⟩) : EReal)) = fun i k => m ((c.tc : Thread nD τ).loc main_arg2) (ix2 k ⟨2048 + i.val, by omega⟩) :=
    funext fun i => funext fun k => (weight_block m c T k _).trans (weight_array m c k _)
  have ho : (fun k : Fin 512 => (iblk m c 3 (pt T) (ix2 0 k) : EReal)) = fun k => m ((c.tc : Thread nD τ).loc main_arg3) (ix1 k) :=
    funext fun k => (gate_gain_block m c T k).trans (gate_gain_array m c k)
  unfold Cert.Reference4Ideal.Prompt.gate
  rw [← hx, ← hg, ← hw, ← ho]

/-- One gated product of block `T`. -/
theorem product_point (T : Fin 32) (r n : Fin 512) :
    (out0_11 (iblk m c 0 (pt T)) (iblk m c 1 (pt T)) (iblk m c 2 (pt T)) (iblk m c 3 (pt T)) (iblk m c 4 (pt T)) (iblk m c 5 (pt T)) (ix2 r n) : EReal)
      = Cert.Reference4Ideal.Prompt.product (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
          ⟨(T.val * 512 + r.val) / 4096, by omega⟩ ⟨(T.val * 512 + r.val) % 4096, by omega⟩ n := by
  refine (mixed_apply _ _ _ _ _ _ r n).trans ?_
  unfold mixed Cert.Reference4Ideal.Prompt.product
  have hi : (⟨(T.val * 512 + r.val) % 4096 % 128, by omega⟩ : Fin 128) = ⟨r.val % 128, by omega⟩ :=
    Fin.ext (by show (T.val * 512 + r.val) % 4096 % 128 = r.val % 128; omega)
  have hu := (left_cell (iblk m c 0 (pt T)) (iblk m c 1 (pt T)) (iblk m c 2 (pt T)) (iblk m c 3 (pt T)) (iblk m c 4 (pt T)) (iblk m c 5 (pt T)) r n).trans
    (congrArg gelu (cell_point m c T r _))
  have hw : (fun j : Fin 128 => (iblk m c 4 (pt T) (ix3 ⟨n.val / 128, by omega⟩ ⟨r.val % 128, by omega⟩ j) : EReal))
      = fun j => m ((c.tc : Thread nD τ).loc main_arg4) (ix3 ⟨n.val / 128, by omega⟩ ⟨r.val % 128, by omega⟩ j) :=
    funext fun j => (mix_block m c T _ _ j).trans (mix_array m c _ _ j)
  have hb : (iblk m c 5 (pt T) (ix2 ⟨r.val % 128, by omega⟩ ⟨n.val / 128, by omega⟩) : EReal) = m ((c.tc : Thread nD τ).loc main_arg5) (ix2 ⟨n.val / 128, by omega⟩ ⟨r.val % 128, by omega⟩) :=
    (bias_block m c T _ _).trans (bias_array m c _ _)
  have hv : (fun j : Fin 128 => (k0_pay44 (iblk m c 0 (pt T)) (iblk m c 1 (pt T)) (iblk m c 2 (pt T)) (iblk m c 3 (pt T)) (iblk m c 4 (pt T)) (iblk m c 5 (pt T)) (ix2 ⟨r.val / 128 * 128 + j.val, by omega⟩ n) : EReal))
      = fun j => Cert.Reference4Ideal.Prompt.gate (m ((c.tc : Thread nD τ).loc main_arg0)) (m ((c.tc : Thread nD τ).loc main_arg1)) (m ((c.tc : Thread nD τ).loc main_arg2)) (m ((c.tc : Thread nD τ).loc main_arg3))
          ⟨(T.val * 512 + r.val) / 4096, by omega⟩ ⟨(T.val * 512 + r.val) % 4096 / 128 * 128 + j.val, by omega⟩ n := by
    funext j
    refine (gate_point m c T ⟨r.val / 128 * 128 + j.val, by omega⟩ n).trans ?_
    have h1 : (⟨(T.val * 512 + (r.val / 128 * 128 + j.val)) / 4096, by omega⟩ : Fin 4) = ⟨(T.val * 512 + r.val) / 4096, by omega⟩ :=
      Fin.ext (by show (T.val * 512 + (r.val / 128 * 128 + j.val)) / 4096 = (T.val * 512 + r.val) / 4096; omega)
    have h2 : (⟨(T.val * 512 + (r.val / 128 * 128 + j.val)) % 4096, by omega⟩ : Fin 4096) = ⟨(T.val * 512 + r.val) % 4096 / 128 * 128 + j.val, by omega⟩ :=
      Fin.ext (by show (T.val * 512 + (r.val / 128 * 128 + j.val)) % 4096 = (T.val * 512 + r.val) % 4096 / 128 * 128 + j.val; omega)
    exact congrArg₂ (fun a b => Cert.Reference4Ideal.Prompt.gate (m ((c.tc : Thread nD τ).loc main_arg0)) (m ((c.tc : Thread nD τ).loc main_arg1)) (m ((c.tc : Thread nD τ).loc main_arg2)) (m ((c.tc : Thread nD τ).loc main_arg3)) a b n) h1 h2
  rw [hu]
  simp only [hi]
  rw [← hw, ← hv, ← hb]

/-- The queries the reference computes from the call's arguments. -/
def wantedQ : S32x512x512.Idx → EReal :=
  Cert.Reference4Ideal.Read.val_main_v79 (F := Ideal) (m ((c.tc : Thread nD τ).loc main_arg0)) (m ((c.tc : Thread nD τ).loc main_arg1)) (m ((c.tc : Thread nD τ).loc main_arg2))
/-- Its keys. -/
def wantedK : S16384x512.Idx → EReal :=
  Cert.Reference4Ideal.Read.val_main_v76 (F := Ideal) (m ((c.tc : Thread nD τ).loc main_arg0)) (m ((c.tc : Thread nD τ).loc main_arg1)) (m ((c.tc : Thread nD τ).loc main_arg2))
/-- Its keys, cast. -/
def wantedKB : S16384x512.Idx → EReal :=
  Cert.Reference4Ideal.Read.val_main_v80 (F := Ideal) (m ((c.tc : Thread nD τ).loc main_arg0)) (m ((c.tc : Thread nD τ).loc main_arg1)) (m ((c.tc : Thread nD τ).loc main_arg2))
/-- Its values. -/
def wantedV : S16384x512.Idx → EReal :=
  Cert.Reference4Ideal.Read.val_main_v81 (F := Ideal) (m ((c.tc : Thread nD τ).loc main_arg0)) (m ((c.tc : Thread nD τ).loc main_arg1)) (m ((c.tc : Thread nD τ).loc main_arg2))
/-- Its values, each block with rows and columns exchanged. -/
def wantedVT : S32x512x512.Idx → EReal :=
  Cert.Reference4Ideal.Read.val_main_v82 (F := Ideal) (m ((c.tc : Thread nD τ).loc main_arg0)) (m ((c.tc : Thread nD τ).loc main_arg1)) (m ((c.tc : Thread nD τ).loc main_arg2))
/-- Its gated products. -/
def wantedS : S16384x512.Idx → EReal :=
  Cert.Reference4Ideal.Read.val_main_v71 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem q_array : (dats m 0 c).arrAt 6 cfg0.N = wantedQ m c := by
  refine (dats m 0 c).arrAt_eq_of_covers 6 _ (by decide +kernel) fun t hf y => ?_
  obtain ⟨T, rfl⟩ : ∃ T : Fin 32, t = pt T := ⟨⟨t.val, t.isLt⟩, rfl⟩
  blk_simp
  rw [after0_6]
  obtain ⟨i, n, r, rfl⟩ : ∃ (i : Fin 1) (n r : Fin 512), y = ix3 i n r :=
    ⟨y (0 : Fin 3), y (1 : Fin 3), y (2 : Fin 3), funext fun a => match a with | ⟨0, _⟩ => rfl | ⟨1, _⟩ => rfl | ⟨2, _⟩ => rfl⟩
  obtain rfl : i = 0 := Subsingleton.elim _ _
  refine (((out_q (iblk m c 0 (pt T)) (iblk m c 1 (pt T)) (iblk m c 2 (pt T)) (iblk m c 3 (pt T)) (iblk m c 4 (pt T)) (iblk m c 5 (pt T)) r n).trans (congrArg (fun a : EReal => a * Ideal.ofBits .f32 0x3E38AA3B#32) (cell_point m c T r _))).trans
    (Cert.Reference4Ideal.Prompt.q_result _ _ _ T n r).symm).trans (congrArg (wantedQ m c) ?_)
  funext a
  refine Fin.ext ?_
  match a with
  | ⟨0, _⟩ =>
    blk_simp [index6]
    rfl
  | ⟨1, _⟩ =>
    blk_simp [index6]
  | ⟨2, _⟩ =>
    blk_simp [index6]

theorem k_array : (dats m 0 c).arrAt 7 cfg0.N = wantedK m c := by
  refine (dats m 0 c).arrAt_eq_of_covers 7 _ (by decide +kernel) fun t hf y => ?_
  obtain ⟨T, rfl⟩ : ∃ T : Fin 32, t = pt T := ⟨⟨t.val, t.isLt⟩, rfl⟩
  blk_simp
  rw [after0_7]
  obtain ⟨r, n, rfl⟩ : ∃ (r n : Fin 512), y = ix2 r n :=
    ⟨y (0 : Fin 2), y (1 : Fin 2), funext fun a => match a with | ⟨0, _⟩ => rfl | ⟨1, _⟩ => rfl⟩
  refine (((out_k (iblk m c 0 (pt T)) (iblk m c 1 (pt T)) (iblk m c 2 (pt T)) (iblk m c 3 (pt T)) (iblk m c 4 (pt T)) (iblk m c 5 (pt T)) r n).trans (cell_point m c T r _)).trans
    (Cert.Reference4Ideal.Prompt.k_flat _ _ _ ⟨T.val * 512 + r.val, by omega⟩ n).symm).trans (congrArg (wantedK m c) ?_)
  funext a
  refine Fin.ext ?_
  match a with
  | ⟨0, _⟩ =>
    blk_simp [index7]
    rfl
  | ⟨1, _⟩ =>
    blk_simp [index7]

theorem k_cast_array : (dats m 0 c).arrAt 8 cfg0.N = wantedKB m c := by
  refine (dats m 0 c).arrAt_eq_of_covers 8 _ (by decide +kernel) fun t hf y => ?_
  obtain ⟨T, rfl⟩ : ∃ T : Fin 32, t = pt T := ⟨⟨t.val, t.isLt⟩, rfl⟩
  blk_simp
  rw [after0_8]
  obtain ⟨r, n, rfl⟩ : ∃ (r n : Fin 512), y = ix2 r n :=
    ⟨y (0 : Fin 2), y (1 : Fin 2), funext fun a => match a with | ⟨0, _⟩ => rfl | ⟨1, _⟩ => rfl⟩
  refine (((out_k_cast (iblk m c 0 (pt T)) (iblk m c 1 (pt T)) (iblk m c 2 (pt T)) (iblk m c 3 (pt T)) (iblk m c 4 (pt T)) (iblk m c 5 (pt T)) r n).trans (cell_point m c T r _)).trans
    (Cert.Reference4Ideal.Prompt.k_cast _ _ _ ⟨T.val * 512 + r.val, by omega⟩ n).symm).trans (congrArg (wantedKB m c) ?_)
  funext a
  refine Fin.ext ?_
  match a with
  | ⟨0, _⟩ =>
    blk_simp [index8]
    rfl
  | ⟨1, _⟩ =>
    blk_simp [index8]

theorem v_array : (dats m 0 c).arrAt 9 cfg0.N = wantedV m c := by
  refine (dats m 0 c).arrAt_eq_of_covers 9 _ (by decide +kernel) fun t hf y => ?_
  obtain ⟨T, rfl⟩ : ∃ T : Fin 32, t = pt T := ⟨⟨t.val, t.isLt⟩, rfl⟩
  blk_simp
  rw [after0_9]
  obtain ⟨r, n, rfl⟩ : ∃ (r n : Fin 512), y = ix2 r n :=
    ⟨y (0 : Fin 2), y (1 : Fin 2), funext fun a => match a with | ⟨0, _⟩ => rfl | ⟨1, _⟩ => rfl⟩
  refine (((out_v (iblk m c 0 (pt T)) (iblk m c 1 (pt T)) (iblk m c 2 (pt T)) (iblk m c 3 (pt T)) (iblk m c 4 (pt T)) (iblk m c 5 (pt T)) r n).trans (cell_point m c T r _)).trans
    (Cert.Reference4Ideal.Prompt.v_flat _ _ _ ⟨T.val * 512 + r.val, by omega⟩ n).symm).trans (congrArg (wantedV m c) ?_)
  funext a
  refine Fin.ext ?_
  match a with
  | ⟨0, _⟩ =>
    blk_simp [index9]
    rfl
  | ⟨1, _⟩ =>
    blk_simp [index9]

theorem v_turned_array : (dats m 0 c).arrAt 10 cfg0.N = wantedVT m c := by
  refine (dats m 0 c).arrAt_eq_of_covers 10 _ (by decide +kernel) fun t hf y => ?_
  obtain ⟨T, rfl⟩ : ∃ T : Fin 32, t = pt T := ⟨⟨t.val, t.isLt⟩, rfl⟩
  blk_simp
  rw [after0_10]
  obtain ⟨i, n, r, rfl⟩ : ∃ (i : Fin 1) (n r : Fin 512), y = ix3 i n r :=
    ⟨y (0 : Fin 3), y (1 : Fin 3), y (2 : Fin 3), funext fun a => match a with | ⟨0, _⟩ => rfl | ⟨1, _⟩ => rfl | ⟨2, _⟩ => rfl⟩
  obtain rfl : i = 0 := Subsingleton.elim _ _
  refine (((out_v_turned (iblk m c 0 (pt T)) (iblk m c 1 (pt T)) (iblk m c 2 (pt T)) (iblk m c 3 (pt T)) (iblk m c 4 (pt T)) (iblk m c 5 (pt T)) r n).trans (cell_point m c T r _)).trans
    (Cert.Reference4Ideal.Prompt.v_swapped _ _ _ T n r).symm).trans (congrArg (wantedVT m c) ?_)
  funext a
  refine Fin.ext ?_
  match a with
  | ⟨0, _⟩ =>
    blk_simp [index10]
    rfl
  | ⟨1, _⟩ =>
    blk_simp [index10]
  | ⟨2, _⟩ =>
    blk_simp [index10]

theorem s_array : (dats m 0 c).arrAt 11 cfg0.N = wantedS m c := by
  refine (dats m 0 c).arrAt_eq_of_covers 11 _ (by decide +kernel) fun t hf y => ?_
  obtain ⟨T, rfl⟩ : ∃ T : Fin 32, t = pt T := ⟨⟨t.val, t.isLt⟩, rfl⟩
  blk_simp
  rw [after0_11]
  obtain ⟨r, n, rfl⟩ : ∃ (r n : Fin 512), y = ix2 r n :=
    ⟨y (0 : Fin 2), y (1 : Fin 2), funext fun a => match a with | ⟨0, _⟩ => rfl | ⟨1, _⟩ => rfl⟩
  refine ((product_point m c T r n).trans (Cert.Reference4Ideal.Prompt.s_result _ _ _ _ _ _ ⟨T.val * 512 + r.val, by omega⟩ n).symm).trans (congrArg (wantedS m c) ?_)
  funext a
  refine Fin.ext ?_
  match a with
  | ⟨0, _⟩ =>
    blk_simp [index11]
    rfl
  | ⟨1, _⟩ =>
    blk_simp [index11]

end Cert.Kernel4Ideal.Prompt

end
-- ==== Proof.SampleRef.lean ====
/- The stated program of the sample's input projection, read at an index: its normalized rows, the columns of the product,
the gating function of the last two groups of columns, the normalized gates and the gated product. -/
module

public import proofs.«01_k».proof.Proof.Gen.Reference5Ideal.Read
public import proofs.«01_k».proof.Proof.Project
public import Idealize.ShloMosaic.Lib.Pipeline.ValueKit
public import Idealize.ShloMosaic.Lib.WordCmp

@[expose] public section

set_option maxRecDepth 16384

noncomputable section

namespace Cert.Reference5Ideal.Sample

open Idealize.ShloMosaic Idealize.ShloMosaic.TcCoe Idealize.ShloMosaic.Tactic
open Idealize.SL Idealize.SL.RA Idealize.SL.BI Idealize.SL.Sem
open Idealize.ShloMosaic.Pointwise
open Cert.Reference5Ideal Cert.Reference5Ideal.Gen Cert.Reference5Ideal.Read Cert.Project

set_option maxHeartbeats 1600000

section
variable (x : Vec Ideal S32x1x1024 .f32) (g : Vec Ideal S1024 .f32) (w : Vec Ideal S1024x2560 .f32)
  (gains : Vec Ideal S512 .f32) (weights : Vec Ideal S4x128x128 .f32) (biases : Vec Ideal S4x128 .f32)

/-- Column `J` of the projection of row `s` of sequence `b`. -/
def entry (b : Fin 32) (s : Fin 1) (J : Fin 2560) : EReal :=
  column (fun k : Fin 1024 => x (ix3 b s k)) (fun k : Fin 1024 => g (ix1 k))
    (fun k : Fin 1024 => w (ix2 k J))

/-- Column `j` of the normalized gates of row `s` of sequence `b`. -/
def gate (b : Fin 32) (s : Fin 1) (j : Fin 512) : EReal :=
  gates (fun k : Fin 1024 => x (ix3 b s k)) (fun k : Fin 1024 => g (ix1 k))
    (fun (n : Fin 512) (k : Fin 1024) => w (ix2 k ⟨2048 + n.val, by omega⟩))
    (fun n : Fin 512 => gains (ix1 n)) j

theorem normed_apply (b : Fin 32) (s : Fin 1) (k : Fin 1024) :
    val_main_v12 (F := Ideal) x g (ix3 b s k)
      = normed 0x44800000#32 (fun k : Fin 1024 => x (ix3 b s k)) (fun k => g (ix1 k)) k := by
  obtain rfl : s = 0 := Subsingleton.elim _ _
  unfold val_main_v12 val_main_v11 val_main_v10 val_main_v9 val_main_v8 val_main_v7 val_main_v6
    val_main_v5 val_main_v4 val_main_v3 val_main_v2 val_main_v1 val_main_v0 val_main_cst
    val_main_cst_0 val_main_cst_1 normed
  pointwise

theorem entry_apply (b : Fin 32) (s : Fin 1) (J : Fin 2560) :
    val_main_v13 (F := Ideal) x g w (ix3 b s J) = entry x g w b s J := by
  obtain rfl : s = 0 := Subsingleton.elim _ _
  have h := normed_apply x g
  unfold val_main_v13 entry column
  generalize val_main_v12 (F := Ideal) x g = y at h ⊢
  pointwise [h]

theorem q_apply (b : Fin 32) (s : Fin 1) (j : Fin 512) :
    val_main_v14 (F := Ideal) x g w (ix3 b s j) = entry x g w b s ⟨j.val, by omega⟩ := by
  obtain rfl : s = 0 := Subsingleton.elim _ _
  have h := entry_apply x g w
  unfold val_main_v14
  generalize val_main_v13 (F := Ideal) x g w = y at h ⊢
  pointwise [h]

theorem k_apply (b : Fin 32) (s : Fin 1) (j : Fin 512) :
    val_main_v15 (F := Ideal) x g w (ix3 b s j) = entry x g w b s ⟨512 + j.val, by omega⟩ := by
  obtain rfl : s = 0 := Subsingleton.elim _ _
  have h := entry_apply x g w
  unfold val_main_v15
  generalize val_main_v13 (F := Ideal) x g w = y at h ⊢
  pointwise [h]

theorem v_apply (b : Fin 32) (s : Fin 1) (j : Fin 512) :
    val_main_v16 (F := Ideal) x g w (ix3 b s j) = entry x g w b s ⟨1024 + j.val, by omega⟩ := by
  obtain rfl : s = 0 := Subsingleton.elim _ _
  have h := entry_apply x g w
  unfold val_main_v16
  generalize val_main_v13 (F := Ideal) x g w = y at h ⊢
  pointwise [h]

theorem left_apply (b : Fin 32) (s : Fin 1) (j : Fin 512) :
    val_main_v17 (F := Ideal) x g w (ix3 b s j) = entry x g w b s ⟨1536 + j.val, by omega⟩ := by
  obtain rfl : s = 0 := Subsingleton.elim _ _
  have h := entry_apply x g w
  unfold val_main_v17
  generalize val_main_v13 (F := Ideal) x g w = y at h ⊢
  pointwise [h]

theorem right_apply (b : Fin 32) (s : Fin 1) (j : Fin 512) :
    val_main_v18 (F := Ideal) x g w (ix3 b s j) = entry x g w b s ⟨2048 + j.val, by omega⟩ := by
  obtain rfl : s = 0 := Subsingleton.elim _ _
  have h := entry_apply x g w
  unfold val_main_v18
  generalize val_main_v13 (F := Ideal) x g w = y at h ⊢
  pointwise [h]

theorem left_gelu_apply (b : Fin 32) (s : Fin 1) (j : Fin 512) :
    val_main_v31 (F := Ideal) x g w (ix3 b s j)
      = gelu (entry x g w b s ⟨1536 + j.val, by omega⟩) := by
  obtain rfl : s = 0 := Subsingleton.elim _ _
  have h := left_apply x g w b 0 j
  unfold val_main_v31 val_main_v30 val_main_v29 val_main_v28 val_main_v27 val_main_v26
    val_main_v25 val_main_v24 val_main_v23 val_main_v22 val_main_v21 val_main_v20 val_main_v19
    val_main_cst_2 val_main_cst_3 val_main_cst_4 val_main_cst_5
  generalize val_main_v17 (F := Ideal) x g w = y at h ⊢
  rw [← h]
  unfold gelu
  rw [mul_comm (y (ix3 b 0 j)) (y (ix3 b 0 j) * y (ix3 b 0 j))]
  pointwise

theorem right_gelu_apply (b : Fin 32) (s : Fin 1) (j : Fin 512) :
    val_main_v44 (F := Ideal) x g w (ix3 b s j)
      = gelu (entry x g w b s ⟨2048 + j.val, by omega⟩) := by
  obtain rfl : s = 0 := Subsingleton.elim _ _
  have h := right_apply x g w b 0 j
  unfold val_main_v44 val_main_v43 val_main_v42 val_main_v41 val_main_v40 val_main_v39
    val_main_v38 val_main_v37 val_main_v36 val_main_v35 val_main_v34 val_main_v33 val_main_v32
    val_main_cst_6 val_main_cst_7 val_main_cst_8 val_main_cst_9
  generalize val_main_v18 (F := Ideal) x g w = y at h ⊢
  rw [← h]
  unfold gelu
  rw [mul_comm (y (ix3 b 0 j)) (y (ix3 b 0 j) * y (ix3 b 0 j))]
  pointwise

theorem gate_apply (b : Fin 32) (s : Fin 1) (j : Fin 512) :
    val_main_v57 (F := Ideal) x g w gains (ix3 b s j) = gate x g w gains b s j := by
  obtain rfl : s = 0 := Subsingleton.elim _ _
  have h := right_gelu_apply x g w
  unfold val_main_v57 val_main_v56 val_main_v55 val_main_v54 val_main_v53 val_main_v52
    val_main_v51 val_main_v50 val_main_v49 val_main_v48 val_main_v47 val_main_v46 val_main_v45
    val_main_cst_10 val_main_cst_11 val_main_cst_12 gate gates normed
  unfold entry at h
  generalize val_main_v44 (F := Ideal) x g w = y at h ⊢
  pointwise [h]

theorem mask_apply (a : Fin 4) :
    val_main_v63 (F := Ideal) weights (ix3 a 0 0) = (weights (ix3 a 0 0) : EReal) := by
  unfold val_main_v63 val_main_call1_v1 val_main_call1_v0 val_main_v62 val_main_v61 val_main_v60 val_main_v59 val_main_c val_main_cst_13
    val_main_call0_v5 val_main_call0_v4 val_main_call0_v3 val_main_call0_v2 val_main_call0_v1 val_main_call0_v0
    val_main_call0_c val_main_call0_c_0
  pointwise
  have hz : IntOp.cmpi CmpIPredicate.sge (IntOp.addi 0#32 0#32) 0#32 = 1#1 := by decide
  rw [hz]
  simp [Scalar.select]

/-- Row `b`: column `j` of the left half times the gate weighed by its head's first weight, with the head's first bias. -/
def product (b : Fin 32) (j : Fin 512) : EReal :=
  gelu (entry x g w b 0 ⟨1536 + j.val, by omega⟩)
    * (gate x g w gains b 0 j * weights (ix3 ⟨j.val / 128, by omega⟩ 0 0) + biases (ix2 ⟨j.val / 128, by omega⟩ 0))

theorem chunk_apply (b : Fin 32) (a : Fin 4) (e : Fin 128) :
    val_main_v58 (F := Ideal) x g w gains (ix5 b 0 0 a e) = gate x g w gains b 0 ⟨a.val * 128 + e.val, by omega⟩ := by
  refine Eq.trans ?_ (gate_apply x g w gains b 0 _)
  unfold val_main_v58
  generalize val_main_v57 (F := Ideal) x g w gains = y
  exact shapeCast_apply y shapeCasts_S32x1x512_S32x1x1x4x128 (ix5 b 0 0 a e) _ (by
    rewrite [Shape.rowMajor_val_three, Shape.rowMajor_val_five]
    show (b.val * 1 + 0) * 512 + (a.val * 128 + e.val) = (((b.val * 1 + 0) * 1 + 0) * 4 + a.val) * 128 + e.val
    omega)

theorem sums_apply (b : Fin 32) (a : Fin 4) (e : Fin 128) :
    val_main_v70 (F := Ideal) x g w gains weights biases (ix5 b 0 0 a e)
      = gate x g w gains b 0 ⟨a.val * 128 + e.val, by omega⟩ * weights (ix3 a 0 0) + biases (ix2 a 0) := by
  have hm := mask_apply weights
  have hc := chunk_apply x g w gains
  unfold val_main_v70 val_main_v69 val_main_v68 val_main_v67 val_main_v66 val_main_v65 val_main_v64
  generalize val_main_v63 (F := Ideal) weights = y1 at hm ⊢
  generalize val_main_v58 (F := Ideal) x g w gains = y2 at hc ⊢
  refine Eq.trans (b := (∑ j : Fin 1, (y2 (ix5 b 0 j a e) : EReal) * y1 (ix3 a 0 j)) + biases (ix2 a 0)) ?_ ?_
  · pointwise
  · rw [Fin.sum_univ_one, hm, hc]

theorem product_apply (b : Fin 32) (j : Fin 512) :
    val_main_v72 (F := Ideal) x g w gains weights biases (ix3 b 0 j) = product x g w gains weights biases b j := by
  have hs : val_main_v71 (F := Ideal) x g w gains weights biases (ix3 b 0 j)
      = val_main_v70 (F := Ideal) x g w gains weights biases (ix5 b 0 0 ⟨j.val / 128, by omega⟩ ⟨j.val % 128, by omega⟩) := by
    unfold val_main_v71
    generalize val_main_v70 (F := Ideal) x g w gains weights biases = y
    exact shapeCast_apply y shapeCasts_S32x1x1x4x128_S32x1x512 (ix3 b 0 j) _ (by
      rewrite [Shape.rowMajor_val_three, Shape.rowMajor_val_five]
      show (((b.val * 1 + 0) * 1 + 0) * 4 + j.val / 128) * 128 + j.val % 128 = (b.val * 1 + 0) * 512 + j.val
      omega)
  have hj : (⟨j.val / 128 * 128 + j.val % 128, by omega⟩ : Fin 512) = j := Fin.ext (by show j.val / 128 * 128 + j.val % 128 = j.val; omega)
  have hl := left_gelu_apply x g w b 0 j
  have hr := hs.trans (sums_apply x g w gains weights biases b ⟨j.val / 128, by omega⟩ ⟨j.val % 128, by omega⟩)
  simp only [hj] at hr
  unfold val_main_v72 product
  exact congrArg₂ (fun a b : EReal => a * b) hl hr

/-! ## The results, a row a sequence -/

theorem flat_apply (v : (⟨S32x1x512, .f32⟩ : BufTy).Contents (Elt Ideal)) (r : Fin 32) (j : Fin 512) :
    (shapeCast S32x512 v shapeCasts_S32x1x512_S32x512) (ix2 r j) = v (ix3 r 0 j) :=
  shapeCast_apply v shapeCasts_S32x1x512_S32x512 (ix2 r j) _ (by
    rewrite [Shape.rowMajor_val_three, Shape.rowMajor_val_two]
    show (r.val * 1 + 0) * 512 + j.val = r.val * 512 + j.val
    omega)

theorem q_result (r : Fin 32) (j : Fin 512) :
    val_main_v75 (F := Ideal) x g w (ix2 r j) = entry x g w r 0 ⟨j.val, by omega⟩ * Ideal.ofBits .f32 0x3E000000#32 := by
  have h0 : val_main_v75 (F := Ideal) x g w (ix2 r j) = val_main_v74 (F := Ideal) x g w (ix3 r 0 j) :=
    flat_apply (val_main_v74 (F := Ideal) x g w) r j
  refine h0.trans ?_
  refine Eq.trans ?_ (congrArg (fun a : EReal => a * Ideal.ofBits .f32 0x3E000000#32) (q_apply x g w r 0 j))
  unfold val_main_v74 val_main_v73 val_main_cst_14
  generalize val_main_v14 (F := Ideal) x g w = y
  pointwise

theorem k_result (r : Fin 32) (j : Fin 512) :
    val_main_v76 (F := Ideal) x g w (ix2 r j) = entry x g w r 0 ⟨512 + j.val, by omega⟩ :=
  (flat_apply _ r j).trans (k_apply x g w r 0 j)

theorem v_result (r : Fin 32) (j : Fin 512) :
    val_main_v77 (F := Ideal) x g w (ix2 r j) = entry x g w r 0 ⟨1024 + j.val, by omega⟩ :=
  (flat_apply _ r j).trans (v_apply x g w r 0 j)

theorem s_result (r : Fin 32) (j : Fin 512) :
    val_main_v78 (F := Ideal) x g w gains weights biases (ix2 r j) = product x g w gains weights biases r j :=
  (flat_apply _ r j).trans (product_apply x g w gains weights biases r j)

theorem gate_result (r : Fin 32) (j : Fin 512) :
    val_main_v79 (F := Ideal) x g w gains (ix2 r j) = gate x g w gains r 0 j :=
  (flat_apply _ r j).trans (gate_apply x g w gains r 0 j)

end

end Cert.Reference5Ideal.Sample

end
-- ==== Proof.SampleValue.lean ====
/- The sample's input projection leaves what its reference leaves: the queries, keys, values, gated products and gates of
thirty-two rows, in one block. -/
module

public import proofs.«01_k».proof.Proof.Gen.Kernel5Ideal.Value
public import proofs.«01_k».proof.Proof.SampleRef
public import Idealize.ShloMosaic.Lib.Pipeline.ValueKit

@[expose] public section

set_option maxRecDepth 16384

noncomputable section

namespace Cert.Kernel5Ideal.Sample

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Idealize.ShloMosaic.Pointwise
open Cert.Kernel5Ideal Cert.Kernel5Ideal.Gen Cert.Project

/-! ## The body's operations, element by element -/

section
variable (x : Vec Ideal S32x1024 .f32) (g : Vec Ideal S1x1024 .f32) (w : Vec Ideal S1024x512 .bf16) (r : Fin 32) (n : Fin 512)

theorem normed_apply (k : Fin 1024) :
    (k0_pay2 x g) (ix2 r k) = normed 0x44800000#32 (fun k => (x (ix2 r k) : EReal)) (fun k => g (ix2 0 k)) k := by
  unfold k0_pay2 normed; pointwise

theorem q_apply : (k0_pay3 x g w) (ix2 r n)
    = column (fun k => (x (ix2 r k) : EReal)) (fun k => g (ix2 0 k)) (fun k => w (ix2 k n)) * Ideal.ofBits .f32 0x3E000000#32 := by
  have h := normed_apply x g r
  unfold k0_pay3 column
  generalize k0_pay2 x g = y at h ⊢
  pointwise [h]

theorem k_apply : (k0_pay4 x g w) (ix2 r n)
    = column (fun k => (x (ix2 r k) : EReal)) (fun k => g (ix2 0 k)) (fun k => w (ix2 k n)) := by
  have h := normed_apply x g r
  unfold k0_pay4 column
  generalize k0_pay2 x g = y at h ⊢
  pointwise [h]

theorem v_apply : (k0_pay5 x g w) (ix2 r n)
    = column (fun k => (x (ix2 r k) : EReal)) (fun k => g (ix2 0 k)) (fun k => w (ix2 k n)) := by
  have h := normed_apply x g r
  unfold k0_pay5 column
  generalize k0_pay2 x g = y at h ⊢
  pointwise [h]

theorem u_apply : (k0_pay6 x g w) (ix2 r n)
    = column (fun k => (x (ix2 r k) : EReal)) (fun k => g (ix2 0 k)) (fun k => w (ix2 k n)) := by
  have h := normed_apply x g r
  unfold k0_pay6 column
  generalize k0_pay2 x g = y at h ⊢
  pointwise [h]

theorem gelu_apply : (k0_pay9 (k0_pay6 x g w) (k0_pay7 x g w) (k0_pay8 (F := Ideal))) (ix2 r n)
    = gelu (column (fun k => (x (ix2 r k) : EReal)) (fun k => g (ix2 0 k)) (fun k => w (ix2 k n))) := by
  rw [← u_apply]
  unfold k0_pay9 k0_pay7 k0_pay8 gelu
  generalize k0_pay6 x g w = y
  pointwise

theorem gates_apply (gains : Vec Ideal S1x512 .f32) : (k0_pay10 (k0_pay2 x g) w gains) (ix2 r n)
    = gates (fun k => (x (ix2 r k) : EReal)) (fun k => g (ix2 0 k)) (fun i k => w (ix2 k i)) (fun i => gains (ix2 0 i)) n := by
  have h := normed_apply x g r
  unfold k0_pay10 gates column normed gelu
  unfold normed at h
  generalize k0_pay2 x g = y at h ⊢
  pointwise [h]

end

/-! ## The mix, tile by tile -/

/-! ## The block's results, from the blocks loaded -/

section
variable (x0 : Vec Ideal S32x1024 .f32) (x1 : Vec Ideal S1x1024 .f32) (x2 : Vec Ideal S1024x2560 .bf16) (x3 : Vec Ideal S1x512 .f32)
  (x4 x5 : Vec Ideal S1x512 .f32) (r : Fin 32) (n : Fin 512)

/-- Column `J` of the projection of the block's row `r`. -/
def cell (J : Fin 2560) : EReal :=
  column (fun k : Fin 1024 => (x0 (ix2 r k) : EReal)) (fun k => x1 (ix2 0 k)) (fun k => x2 (ix2 k J))

theorem ld_rows : View.ld x0 r0_0 = x0 := View.ld_unit_zero (funext fun a => by match a with | ⟨0, _⟩ => rfl | ⟨1, _⟩ => rfl) _ _
theorem ld_gain : View.ld x1 r0_1 = x1 := View.ld_unit_zero (funext fun a => by match a with | ⟨0, _⟩ => rfl | ⟨1, _⟩ => rfl) _ _
theorem ld_gate_gain : View.ld x3 r0_7 = x3 := View.ld_unit_zero (funext fun a => by match a with | ⟨0, _⟩ => rfl | ⟨1, _⟩ => rfl) _ _

theorem ld_q (k : Fin 1024) : View.ld x2 r0_2 (ix2 k n) = x2 (ix2 k ⟨n.val, by omega⟩) :=
  View.ld_unit_apply_of _ _ _ _ _ _ (fun a => by match a with | ⟨0, _⟩ => exact (Nat.zero_add _).symm | ⟨1, _⟩ => exact (Nat.zero_add _).symm)
theorem ld_k (k : Fin 1024) : View.ld x2 r0_3 (ix2 k n) = x2 (ix2 k ⟨512 + n.val, by omega⟩) :=
  View.ld_unit_apply_of _ _ _ _ _ _ (fun a => by match a with | ⟨0, _⟩ => exact (Nat.zero_add _).symm | ⟨1, _⟩ => rfl)
theorem ld_v (k : Fin 1024) : View.ld x2 r0_4 (ix2 k n) = x2 (ix2 k ⟨1024 + n.val, by omega⟩) :=
  View.ld_unit_apply_of _ _ _ _ _ _ (fun a => by match a with | ⟨0, _⟩ => exact (Nat.zero_add _).symm | ⟨1, _⟩ => rfl)
theorem ld_left (k : Fin 1024) : View.ld x2 r0_5 (ix2 k n) = x2 (ix2 k ⟨1536 + n.val, by omega⟩) :=
  View.ld_unit_apply_of _ _ _ _ _ _ (fun a => by match a with | ⟨0, _⟩ => exact (Nat.zero_add _).symm | ⟨1, _⟩ => rfl)
theorem ld_right (k : Fin 1024) : View.ld x2 r0_6 (ix2 k n) = x2 (ix2 k ⟨2048 + n.val, by omega⟩) :=
  View.ld_unit_apply_of _ _ _ _ _ _ (fun a => by match a with | ⟨0, _⟩ => exact (Nat.zero_add _).symm | ⟨1, _⟩ => rfl)

theorem right_cell : (k0_pay11 x0 x1 x2 x3 x4 x5 (ix2 r n) : EReal)
    = gates (fun k : Fin 1024 => (x0 (ix2 r k) : EReal)) (fun k => x1 (ix2 0 k)) (fun i k => x2 (ix2 k ⟨2048 + i.val, by omega⟩)) (fun i => x3 (ix2 0 i)) n := by
  unfold k0_pay11
  rw [gates_apply, ld_rows, ld_gain, ld_gate_gain]
  exact congrArg (fun w => gates _ _ w _ n) (funext fun i => funext fun k => ld_right x2 i k)

theorem whole2 : (![0, 0] : Fin 2 → ℕ) = fun _ => 0 := funext fun a => by match a with | ⟨0, _⟩ => rfl | ⟨1, _⟩ => rfl

theorem out_q : (out0_6 x0 x1 x2 x3 x4 x5 (ix2 r n) : EReal) = cell x0 x1 x2 r ⟨n.val, by omega⟩ * Ideal.ofBits .f32 0x3E000000#32 := by
  unfold out0_6
  rw [View.canon_cons_unit_zero whole2, q_apply, ld_rows, ld_gain]
  unfold cell
  exact congrArg (fun w => column _ _ w * Ideal.ofBits .f32 0x3E000000#32) (funext fun k => ld_q x2 n k)

theorem out_k : (out0_7 x0 x1 x2 x3 x4 x5 (ix2 r n) : EReal) = cell x0 x1 x2 r ⟨512 + n.val, by omega⟩ := by
  unfold out0_7
  rw [View.canon_cons_unit_zero whole2, k_apply, ld_rows, ld_gain]
  unfold cell
  exact congrArg (column _ _) (funext fun k => ld_k x2 n k)

theorem out_v : (out0_8 x0 x1 x2 x3 x4 x5 (ix2 r n) : EReal) = cell x0 x1 x2 r ⟨1024 + n.val, by omega⟩ := by
  unfold out0_8
  rw [View.canon_cons_unit_zero whole2, v_apply, ld_rows, ld_gain]
  unfold cell
  exact congrArg (column _ _) (funext fun k => ld_v x2 n k)

theorem left_cell : (k0_pay9 (k0_pay6 (View.ld x0 r0_0) (View.ld x1 r0_1) (View.ld x2 r0_5)) (k0_pay7 (View.ld x0 r0_0) (View.ld x1 r0_1) (View.ld x2 r0_5)) (k0_pay8 (F := Ideal)) (ix2 r n) : EReal)
    = gelu (cell x0 x1 x2 r ⟨1536 + n.val, by omega⟩) := by
  unfold cell
  rw [gelu_apply, ld_rows, ld_gain]
  exact congrArg (fun w => gelu (column _ _ w)) (funext fun k => ld_left x2 n k)

theorem product_apply (u v : FVec Ideal S32x512 .f32) (w b : Vec Ideal S1x512 .f32) :
    (k0_pay1 u v w b (ix2 r n) : EReal) = u (ix2 r n) * (v (ix2 r n) * w (ix2 0 n) + b (ix2 0 n)) := by
  unfold k0_pay1; pointwise

theorem out_s : (out0_9 x0 x1 x2 x3 x4 x5 (ix2 r n) : EReal)
    = gelu (cell x0 x1 x2 r ⟨1536 + n.val, by omega⟩) * ((k0_pay11 x0 x1 x2 x3 x4 x5 (ix2 r n) : EReal) * x4 (ix2 0 n) + x5 (ix2 0 n)) := by
  unfold out0_9
  rw [View.canon_cons_unit_zero whole2, product_apply, left_cell, ld_gate_gain, ld_gate_gain]

theorem out_gate : (out0_10 x0 x1 x2 x3 x4 x5 (ix2 r n) : EReal) = k0_pay11 x0 x1 x2 x3 x4 x5 (ix2 r n) := by
  unfold out0_10
  rw [View.canon_cons_unit_zero whole2]

end

/-! ## The arrays the call finds, and its blocks -/

variable (m : (ℓ : Loc nD τ sig) → Buf (Elt Ideal) ℓ) (c : Dev nD)

theorem flat_apply (v : (⟨S32x1x1024, .f32⟩ : BufTy).Contents (Elt Ideal)) (r : Fin 32) (k : Fin 1024) :
    (shapeCast S32x1024 v shapeCasts_S32x1x1024_S32x1024) (ix2 r k) = v (ix3 r 0 k) :=
  shapeCast_apply v shapeCasts_S32x1x1024_S32x1024 (ix2 r k) _ (by
    rewrite [Shape.rowMajor_val_three, Shape.rowMajor_val_two]
    show (r.val * 1 + 0) * 1024 + k.val = r.val * 1024 + k.val
    omega)

theorem gain_apply (v : (⟨S1024, .f32⟩ : BufTy).Contents (Elt Ideal)) (k : Fin 1024) :
    (shapeCast S1x1024 v shapeCasts_S1024_S1x1024) (ix2 0 k) = v (ix1 k) := by pointwise

theorem gate_gain_apply (v : (⟨S512, .f32⟩ : BufTy).Contents (Elt Ideal)) (k : Fin 512) :
    (shapeCast S1x512 v shapeCasts_S512_S1x512) (ix2 0 k) = v (ix1 k) := by pointwise

/-- Four numbers, each repeated over the 128 columns of its head. -/
theorem repeated_apply (v : (⟨S4, .f32⟩ : BufTy).Contents (Elt Ideal)) (n : Fin 512) :
    (shapeCast S1x512 (shapeCast S512 (broadcastInDim S4x128 ![0] bcast_S4_S4x128_0 v) shapeCasts_S4x128_S512) shapeCasts_S512_S1x512) (ix2 0 n)
      = v (ix1 ⟨n.val / 128, by omega⟩) := by
  refine (gate_gain_apply _ n).trans ?_
  refine (shapeCast_apply _ shapeCasts_S4x128_S512 (ix1 n) (ix2 ⟨n.val / 128, by omega⟩ ⟨n.val % 128, by omega⟩) (by
    rewrite [Shape.rowMajor_val_two, Shape.rowMajor_val_one]
    show n.val / 128 * 128 + n.val % 128 = n.val
    omega)).trans ?_
  pointwise

theorem first_weight_apply (v : (⟨S4x128x128, .f32⟩ : BufTy).Contents (Elt Ideal)) (a : Fin 4) :
    (shapeCast S4 (extractStridedSlice S4x1x1 ![0, 0, 0] v slices_S4x128x128_S4x1x1_0_0_0) shapeCasts_S4x1x1_S4) (ix1 a) = v (ix3 a 0 0) := by
  refine (shapeCast_apply _ shapeCasts_S4x1x1_S4 (ix1 a) (ix3 a 0 0) (by
    rewrite [Shape.rowMajor_val_three, Shape.rowMajor_val_one]
    show (a.val * 1 + 0) * 1 + 0 = a.val
    omega)).trans ?_
  pointwise

theorem first_bias_apply (v : (⟨S4x128, .f32⟩ : BufTy).Contents (Elt Ideal)) (a : Fin 4) :
    (shapeCast S4 (extractStridedSlice S4x1 ![0, 0] v slices_S4x128_S4x1_0_0) shapeCasts_S4x1_S4) (ix1 a) = v (ix2 a 0) := by
  refine (shapeCast_apply _ shapeCasts_S4x1_S4 (ix1 a) (ix2 a 0) (by
    rewrite [Shape.rowMajor_val_two, Shape.rowMajor_val_one]
    show a.val * 1 + 0 = a.val
    omega)).trans ?_
  pointwise

theorem rows_array (r : Fin 32) (k : Fin 1024) :
    (V m c main_v10 (ix2 r k) : EReal) = m ((c.tc : Thread nD τ).loc main_arg0) (ix3 r 0 k) :=
  flat_apply (m ((c.tc : Thread nD τ).loc main_arg0)) r k

theorem gain_array (k : Fin 1024) : (V m c main_v11 (ix2 0 k) : EReal) = m ((c.tc : Thread nD τ).loc main_arg1) (ix1 k) :=
  gain_apply (m ((c.tc : Thread nD τ).loc main_arg1)) k

theorem weight_array (k : Fin 1024) (J : Fin 2560) : (V m c main_v12 (ix2 k J) : EReal) = m ((c.tc : Thread nD τ).loc main_arg2) (ix2 k J) := rfl

theorem gate_gain_array (k : Fin 512) : (V m c main_v13 (ix2 0 k) : EReal) = m ((c.tc : Thread nD τ).loc main_arg3) (ix1 k) :=
  gate_gain_apply (m ((c.tc : Thread nD τ).loc main_arg3)) k

theorem mix_array (n : Fin 512) : (V m c main_v4 (ix2 0 n) : EReal) = m ((c.tc : Thread nD τ).loc main_arg4) (ix3 ⟨n.val / 128, by omega⟩ 0 0) :=
  (repeated_apply _ n).trans (first_weight_apply (m ((c.tc : Thread nD τ).loc main_arg4)) _)

theorem bias_array (n : Fin 512) : (V m c main_v9 (ix2 0 n) : EReal) = m ((c.tc : Thread nD τ).loc main_arg5) (ix2 ⟨n.val / 128, by omega⟩ 0) :=
  (repeated_apply _ n).trans (first_bias_apply (m ((c.tc : Thread nD τ).loc main_arg5)) _)

theorem index_rows (t : Fin grid0.N) : win0_0.index t = ![0, 0] :=
  (by decide +kernel : ∀ t : Fin grid0.N, cc0_transform_0 (grid0.coords t) = ![0, 0]) t
theorem index_gain (t : Fin grid0.N) : win0_1.index t = ![0, 0] :=
  (by decide +kernel : ∀ t : Fin grid0.N, cc0_transform_1 (grid0.coords t) = ![0, 0]) t
theorem index_weight (t : Fin grid0.N) : win0_2.index t = ![0, 0] :=
  (by decide +kernel : ∀ t : Fin grid0.N, cc0_transform_2 (grid0.coords t) = ![0, 0]) t
theorem index_gate_gain (t : Fin grid0.N) : win0_3.index t = ![0, 0] :=
  (by decide +kernel : ∀ t : Fin grid0.N, cc0_transform_3 (grid0.coords t) = ![0, 0]) t
theorem index_mix (t : Fin grid0.N) : win0_4.index t = ![0, 0] :=
  (by decide +kernel : ∀ t : Fin grid0.N, cc0_transform_4 (grid0.coords t) = ![0, 0]) t
theorem index_bias (t : Fin grid0.N) : win0_5.index t = ![0, 0] :=
  (by decide +kernel : ∀ t : Fin grid0.N, cc0_transform_5 (grid0.coords t) = ![0, 0]) t
theorem index6 (t : Fin grid0.N) : win0_6.index t = ![0, 0] :=
  (by decide +kernel : ∀ t : Fin grid0.N, cc0_transform_6 (grid0.coords t) = ![0, 0]) t
theorem index7 (t : Fin grid0.N) : win0_7.index t = ![0, 0] :=
  (by decide +kernel : ∀ t : Fin grid0.N, cc0_transform_7 (grid0.coords t) = ![0, 0]) t
theorem index8 (t : Fin grid0.N) : win0_8.index t = ![0, 0] :=
  (by decide +kernel : ∀ t : Fin grid0.N, cc0_transform_8 (grid0.coords t) = ![0, 0]) t
theorem index9 (t : Fin grid0.N) : win0_9.index t = ![0, 0] :=
  (by decide +kernel : ∀ t : Fin grid0.N, cc0_transform_9 (grid0.coords t) = ![0, 0]) t
theorem index10 (t : Fin grid0.N) : win0_10.index t = ![0, 0] :=
  (by decide +kernel : ∀ t : Fin grid0.N, cc0_transform_10 (grid0.coords t) = ![0, 0]) t

theorem rows_block (t : Fin cfg0.N) (r : Fin 32) (k : Fin 1024) : iblk m c 0 t (ix2 r k) = V m c main_v10 (ix2 r k) := by
  blk_ext [iblk, index_rows]

theorem gain_block (t : Fin cfg0.N) (k : Fin 1024) : iblk m c 1 t (ix2 0 k) = V m c main_v11 (ix2 0 k) := by
  blk_ext [iblk, index_gain]

theorem weight_block (t : Fin cfg0.N) (k : Fin 1024) (J : Fin 2560) : iblk m c 2 t (ix2 k J) = V m c main_v12 (ix2 k J) := by
  blk_ext [iblk, index_weight]

theorem gate_gain_block (t : Fin cfg0.N) (k : Fin 512) : iblk m c 3 t (ix2 0 k) = V m c main_v13 (ix2 0 k) := by
  blk_ext [iblk, index_gate_gain]

theorem mix_block (t : Fin cfg0.N) (n : Fin 512) : iblk m c 4 t (ix2 0 n) = V m c main_v4 (ix2 0 n) := by
  blk_ext [iblk, index_mix]

theorem bias_block (t : Fin cfg0.N) (n : Fin 512) : iblk m c 5 t (ix2 0 n) = V m c main_v9 (ix2 0 n) := by
  blk_ext [iblk, index_bias]

/-! ## The results -/

/-- Column `J` of the projection of row `r`, from the call's arguments. -/
theorem cell_point (t : Fin cfg0.N) (r : Fin 32) (J : Fin 2560) :
    cell (iblk m c 0 t) (iblk m c 1 t) (iblk m c 2 t) r J = Cert.Reference5Ideal.Sample.entry (m ((c.tc : Thread nD τ).loc main_arg0)) (m ((c.tc : Thread nD τ).loc main_arg1)) (m ((c.tc : Thread nD τ).loc main_arg2)) r 0 J := by
  have hx : (fun k : Fin 1024 => (iblk m c 0 t (ix2 r k) : EReal)) = fun k => m ((c.tc : Thread nD τ).loc main_arg0) (ix3 r 0 k) :=
    funext fun k => (rows_block m c t r k).trans (rows_array m c r k)
  have hg : (fun k : Fin 1024 => (iblk m c 1 t (ix2 0 k) : EReal)) = fun k => m ((c.tc : Thread nD τ).loc main_arg1) (ix1 k) :=
    funext fun k => (gain_block m c t k).trans (gain_array m c k)
  have hw : (fun k : Fin 1024 => (iblk m c 2 t (ix2 k J) : EReal)) = fun k => m ((c.tc : Thread nD τ).loc main_arg2) (ix2 k J) :=
    funext fun k => (weight_block m c t k J).trans (weight_array m c k J)
  unfold cell Cert.Reference5Ideal.Sample.entry
  rw [← hx, ← hg, ← hw]

/-- Column `n` of the gates of row `r`, from the call's arguments. -/
theorem gate_point (t : Fin cfg0.N) (r : Fin 32) (n : Fin 512) :
    (k0_pay11 (iblk m c 0 t) (iblk m c 1 t) (iblk m c 2 t) (iblk m c 3 t) (iblk m c 4 t) (iblk m c 5 t) (ix2 r n) : EReal) = Cert.Reference5Ideal.Sample.gate (m ((c.tc : Thread nD τ).loc main_arg0)) (m ((c.tc : Thread nD τ).loc main_arg1)) (m ((c.tc : Thread nD τ).loc main_arg2)) (m ((c.tc : Thread nD τ).loc main_arg3)) r 0 n := by
  refine (right_cell _ _ _ _ _ _ r n).trans ?_
  have hx : (fun k : Fin 1024 => (iblk m c 0 t (ix2 r k) : EReal)) = fun k => m ((c.tc : Thread nD τ).loc main_arg0) (ix3 r 0 k) :=
    funext fun k => (rows_block m c t r k).trans (rows_array m c r k)
  have hg : (fun k : Fin 1024 => (iblk m c 1 t (ix2 0 k) : EReal)) = fun k => m ((c.tc : Thread nD τ).loc main_arg1) (ix1 k) :=
    funext fun k => (gain_block m c t k).trans (gain_array m c k)
  have hw : (fun (i : Fin 512) (k : Fin 1024) => (iblk m c 2 t (ix2 k ⟨2048 + i.val, by omega⟩) : EReal)) = fun i k => m ((c.tc : Thread nD τ).loc main_arg2) (ix2 k ⟨2048 + i.val, by omega⟩) :=
    funext fun i => funext fun k => (weight_block m c t k _).trans (weight_array m c k _)
  have ho : (fun k : Fin 512 => (iblk m c 3 t (ix2 0 k) : EReal)) = fun k => m ((c.tc : Thread nD τ).loc main_arg3) (ix1 k) :=
    funext fun k => (gate_gain_block m c t k).trans (gate_gain_array m c k)
  unfold Cert.Reference5Ideal.Sample.gate
  rw [← hx, ← hg, ← hw, ← ho]

/-- One gated product. -/
theorem product_point (t : Fin cfg0.N) (r : Fin 32) (n : Fin 512) :
    (out0_9 (iblk m c 0 t) (iblk m c 1 t) (iblk m c 2 t) (iblk m c 3 t) (iblk m c 4 t) (iblk m c 5 t) (ix2 r n) : EReal) = Cert.Reference5Ideal.Sample.product (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) r n := by
  refine (out_s (iblk m c 0 t) (iblk m c 1 t) (iblk m c 2 t) (iblk m c 3 t) (iblk m c 4 t) (iblk m c 5 t) r n).trans ?_
  have hw : (iblk m c 4 t (ix2 0 n) : EReal) = m ((c.tc : Thread nD τ).loc main_arg4) (ix3 ⟨n.val / 128, by omega⟩ 0 0) :=
    (mix_block m c t n).trans (mix_array m c n)
  have hb : (iblk m c 5 t (ix2 0 n) : EReal) = m ((c.tc : Thread nD τ).loc main_arg5) (ix2 ⟨n.val / 128, by omega⟩ 0) :=
    (bias_block m c t n).trans (bias_array m c n)
  unfold Cert.Reference5Ideal.Sample.product
  rw [← hw, ← hb, ← cell_point m c t r, ← gate_point m c t r n]

/-- The queries the reference computes from the call's arguments. -/
def wantedQ : S32x512.Idx → EReal :=
  Cert.Reference5Ideal.Read.val_main_v75 (F := Ideal) (m ((c.tc : Thread nD τ).loc main_arg0)) (m ((c.tc : Thread nD τ).loc main_arg1)) (m ((c.tc : Thread nD τ).loc main_arg2))
/-- Its keys. -/
def wantedK : S32x512.Idx → EReal :=
  Cert.Reference5Ideal.Read.val_main_v76 (F := Ideal) (m ((c.tc : Thread nD τ).loc main_arg0)) (m ((c.tc : Thread nD τ).loc main_arg1)) (m ((c.tc : Thread nD τ).loc main_arg2))
/-- Its values. -/
def wantedV : S32x512.Idx → EReal :=
  Cert.Reference5Ideal.Read.val_main_v77 (F := Ideal) (m ((c.tc : Thread nD τ).loc main_arg0)) (m ((c.tc : Thread nD τ).loc main_arg1)) (m ((c.tc : Thread nD τ).loc main_arg2))
/-- Its gated products. -/
def wantedS : S32x512.Idx → EReal :=
  Cert.Reference5Ideal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
/-- Its gates. -/
def wantedG : S32x512.Idx → EReal :=
  Cert.Reference5Ideal.Read.val_main_v79 (F := Ideal) (m ((c.tc : Thread nD τ).loc main_arg0)) (m ((c.tc : Thread nD τ).loc main_arg1)) (m ((c.tc : Thread nD τ).loc main_arg2)) (m ((c.tc : Thread nD τ).loc main_arg3))

theorem q_array : (dats m 0 c).arrAt 6 cfg0.N = wantedQ m c := by
  refine (dats m 0 c).arrAt_eq_of_covers 6 _ (by decide +kernel) fun t hf y => ?_
  blk_simp
  rw [after0_6]
  obtain ⟨r, n, rfl⟩ : ∃ (r : Fin 32) (n : Fin 512), y = ix2 r n :=
    ⟨y (0 : Fin 2), y (1 : Fin 2), funext fun a => match a with | ⟨0, _⟩ => rfl | ⟨1, _⟩ => rfl⟩
  refine (((out_q (iblk m c 0 t) (iblk m c 1 t) (iblk m c 2 t) (iblk m c 3 t) (iblk m c 4 t) (iblk m c 5 t) r n).trans (congrArg (fun a : EReal => a * Ideal.ofBits .f32 0x3E000000#32) (cell_point m c t r _))).trans
    (Cert.Reference5Ideal.Sample.q_result _ _ _ r n).symm).trans (congrArg (wantedQ m c) ?_)
  funext a
  refine Fin.ext ?_
  match a with
  | ⟨0, _⟩ =>
    blk_simp [index6]
  | ⟨1, _⟩ =>
    blk_simp [index6]

theorem k_array : (dats m 0 c).arrAt 7 cfg0.N = wantedK m c := by
  refine (dats m 0 c).arrAt_eq_of_covers 7 _ (by decide +kernel) fun t hf y => ?_
  blk_simp
  rw [after0_7]
  obtain ⟨r, n, rfl⟩ : ∃ (r : Fin 32) (n : Fin 512), y = ix2 r n :=
    ⟨y (0 : Fin 2), y (1 : Fin 2), funext fun a => match a with | ⟨0, _⟩ => rfl | ⟨1, _⟩ => rfl⟩
  refine (((out_k (iblk m c 0 t) (iblk m c 1 t) (iblk m c 2 t) (iblk m c 3 t) (iblk m c 4 t) (iblk m c 5 t) r n).trans (cell_point m c t r _)).trans
    (Cert.Reference5Ideal.Sample.k_result _ _ _ r n).symm).trans (congrArg (wantedK m c) ?_)
  funext a
  refine Fin.ext ?_
  match a with
  | ⟨0, _⟩ =>
    blk_simp [index7]
  | ⟨1, _⟩ =>
    blk_simp [index7]

theorem v_array : (dats m 0 c).arrAt 8 cfg0.N = wantedV m c := by
  refine (dats m 0 c).arrAt_eq_of_covers 8 _ (by decide +kernel) fun t hf y => ?_
  blk_simp
  rw [after0_8]
  obtain ⟨r, n, rfl⟩ : ∃ (r : Fin 32) (n : Fin 512), y = ix2 r n :=
    ⟨y (0 : Fin 2), y (1 : Fin 2), funext fun a => match a with | ⟨0, _⟩ => rfl | ⟨1, _⟩ => rfl⟩
  refine (((out_v (iblk m c 0 t) (iblk m c 1 t) (iblk m c 2 t) (iblk m c 3 t) (iblk m c 4 t) (iblk m c 5 t) r n).trans (cell_point m c t r _)).trans
    (Cert.Reference5Ideal.Sample.v_result _ _ _ r n).symm).trans (congrArg (wantedV m c) ?_)
  funext a
  refine Fin.ext ?_
  match a with
  | ⟨0, _⟩ =>
    blk_simp [index8]
  | ⟨1, _⟩ =>
    blk_simp [index8]

theorem s_array : (dats m 0 c).arrAt 9 cfg0.N = wantedS m c := by
  refine (dats m 0 c).arrAt_eq_of_covers 9 _ (by decide +kernel) fun t hf y => ?_
  blk_simp
  rw [after0_9]
  obtain ⟨r, n, rfl⟩ : ∃ (r : Fin 32) (n : Fin 512), y = ix2 r n :=
    ⟨y (0 : Fin 2), y (1 : Fin 2), funext fun a => match a with | ⟨0, _⟩ => rfl | ⟨1, _⟩ => rfl⟩
  refine ((product_point m c t r n).trans (Cert.Reference5Ideal.Sample.s_result _ _ _ _ _ _ r n).symm).trans (congrArg (wantedS m c) ?_)
  funext a
  refine Fin.ext ?_
  match a with
  | ⟨0, _⟩ =>
    blk_simp [index9]
  | ⟨1, _⟩ =>
    blk_simp [index9]

theorem gate_array : (dats m 0 c).arrAt 10 cfg0.N = wantedG m c := by
  refine (dats m 0 c).arrAt_eq_of_covers 10 _ (by decide +kernel) fun t hf y => ?_
  blk_simp
  rw [after0_10]
  obtain ⟨r, n, rfl⟩ : ∃ (r : Fin 32) (n : Fin 512), y = ix2 r n :=
    ⟨y (0 : Fin 2), y (1 : Fin 2), funext fun a => match a with | ⟨0, _⟩ => rfl | ⟨1, _⟩ => rfl⟩
  refine (((out_gate (iblk m c 0 t) (iblk m c 1 t) (iblk m c 2 t) (iblk m c 3 t) (iblk m c 4 t) (iblk m c 5 t) r n).trans (gate_point m c t r n)).trans
    (Cert.Reference5Ideal.Sample.gate_result _ _ _ _ r n).symm).trans (congrArg (wantedG m c) ?_)
  funext a
  refine Fin.ext ?_
  match a with
  | ⟨0, _⟩ =>
    blk_simp [index10]
  | ⟨1, _⟩ =>
    blk_simp [index10]

end Cert.Kernel5Ideal.Sample

end
-- ==== Proof.MergeRef.lean ====
/- The stated program of the prompt's output projection, read at an index: the mixers' row through the weights, added to
the layer's input, and the norm of that row. -/
module

public import proofs.«01_k».proof.Proof.Gen.Reference6Ideal.Read
public import proofs.«01_k».proof.Proof.Project
public import Idealize.ShloMosaic.Lib.Pipeline.ValueKit
public import Idealize.ShloMosaic.Lib.WordCmp

@[expose] public section

set_option maxRecDepth 16384

noncomputable section

namespace Cert.Reference6Ideal.Merge

open Idealize.ShloMosaic Idealize.ShloMosaic.TcCoe Idealize.ShloMosaic.Tactic
open Idealize.SL Idealize.SL.RA Idealize.SL.BI Idealize.SL.Sem
open Idealize.ShloMosaic.Pointwise
open Cert.Reference6Ideal Cert.Reference6Ideal.Gen Cert.Reference6Ideal.Read Cert.Project

set_option maxHeartbeats 1600000

/-- One element of a merged row: the layer's input, and the two halves of the row of mixers' results through the weights. -/
def merged (x : EReal) (a s : Fin 512 → EReal) (w : Fin 1024 → EReal) : EReal :=
  x + (∑ k : Fin 512, a k * w ⟨k.val, by omega⟩) + ∑ k : Fin 512, s k * w ⟨512 + k.val, by omega⟩

section
variable (a s : Vec Ideal S4x4096x512 .f32) (x : Vec Ideal S4x4096x1024 .f32) (w : Vec Ideal S1024x1024 .f32) (g : Vec Ideal S1024 .f32)

/-- Element `j` of the merged row `r` of sequence `b`. -/
def entry (b : Fin 4) (r : Fin 4096) (j : Fin 1024) : EReal :=
  merged (x (ix3 b r j)) (fun k => a (ix3 b r k)) (fun k => s (ix3 b r k)) (fun k => w (ix2 k j))

theorem left_half (b : Fin 4) (r : Fin 4096) (k : Fin 512) :
    (val_main_v0 (F := Ideal) a s (ix3 b r ⟨k.val, by omega⟩) : EReal) = a (ix3 b r k) := by
  have hk := k.isLt
  unfold val_main_v0
  pointwise

theorem right_half (b : Fin 4) (r : Fin 4096) (k : Fin 512) :
    (val_main_v0 (F := Ideal) a s (ix3 b r ⟨512 + k.val, by omega⟩) : EReal) = s (ix3 b r k) := by
  have hk := k.isLt
  unfold val_main_v0
  pointwise

theorem product_apply (b : Fin 4) (r : Fin 4096) (j : Fin 1024) :
    (val_main_v1 (F := Ideal) a s w (ix3 b r j) : EReal) = ∑ k : Fin 1024, val_main_v0 (F := Ideal) a s (ix3 b r k) * w (ix2 k j) := by
  unfold val_main_v1
  generalize val_main_v0 (F := Ideal) a s = y
  pointwise

theorem sum_halves (f : Fin 1024 → EReal) :
    ∑ k : Fin 1024, f k = (∑ k : Fin 512, f ⟨k.val, by omega⟩) + ∑ k : Fin 512, f ⟨512 + k.val, by omega⟩ :=
  Fin.sum_univ_add (a := 512) (b := 512) f

theorem entry_apply (b : Fin 4) (r : Fin 4096) (j : Fin 1024) :
    (val_main_v2 (F := Ideal) a s x w (ix3 b r j) : EReal) = entry a s x w b r j := by
  have h := product_apply a s w b r j
  rw [sum_halves] at h
  simp only [left_half, right_half] at h
  unfold val_main_v2 entry merged
  generalize val_main_v1 (F := Ideal) a s w = y at h ⊢
  pointwise [h]
  exact (add_assoc _ _ _).symm

theorem normed_apply (b : Fin 4) (r : Fin 4096) (j : Fin 1024) :
    (val_main_v16 (F := Ideal) a s x w g (ix3 b r j) : EReal)
      = normed 0x44800000#32 (fun k : Fin 1024 => entry a s x w b r k) (fun k => g (ix1 k)) j := by
  have h := entry_apply a s x w
  unfold val_main_v16 val_main_v15 val_main_v14 val_main_v13 val_main_v12 val_main_v11 val_main_v10 val_main_v9 val_main_v8 val_main_v7
    val_main_v6 val_main_v5 val_main_v4 val_main_cst val_main_cst_0 val_main_cst_1 normed
  generalize val_main_v2 (F := Ideal) a s x w = y at h ⊢
  pointwise [h]

theorem flat_apply (v : Vec Ideal S4x4096x1024 .f32) (r : Fin 16384) (k : Fin 1024) :
    (shapeCast S16384x1024 v shapeCasts_S4x4096x1024_S16384x1024) (ix2 r k) = v (ix3 ⟨r.val / 4096, by omega⟩ ⟨r.val % 4096, by omega⟩ k) :=
  shapeCast_apply v shapeCasts_S4x4096x1024_S16384x1024 (ix2 r k) _ (by
    rewrite [Shape.rowMajor_val_three, Shape.rowMajor_val_two]
    show (r.val / 4096 * 4096 + r.val % 4096) * 1024 + k.val = r.val * 1024 + k.val
    omega)

theorem x_flat (r : Fin 16384) (j : Fin 1024) :
    (val_main_v3 (F := Ideal) a s x w (ix2 r j) : EReal) = entry a s x w ⟨r.val / 4096, by omega⟩ ⟨r.val % 4096, by omega⟩ j :=
  (flat_apply _ r j).trans (entry_apply a s x w _ _ j)

theorem h_flat (r : Fin 16384) (j : Fin 1024) :
    (val_main_v18 (F := Ideal) a s x w g (ix2 r j) : EReal)
      = normed 0x44800000#32 (fun k : Fin 1024 => entry a s x w ⟨r.val / 4096, by omega⟩ ⟨r.val % 4096, by omega⟩ k) (fun k => g (ix1 k)) j :=
  (flat_apply _ r j).trans (normed_apply a s x w g _ _ j)

end

end Cert.Reference6Ideal.Merge

end
-- ==== Proof.MergeValue.lean ====
/- The prompt's output projection leaves what its reference leaves: thirty-two blocks of 512 rows, each with its merged rows
and their norm. -/
module

public import proofs.«01_k».proof.Proof.Gen.Kernel6Ideal.Value
public import proofs.«01_k».proof.Proof.MergeRef
public import Idealize.ShloMosaic.Lib.Pipeline.ValueKit

@[expose] public section

set_option maxRecDepth 16384

noncomputable section

namespace Cert.Kernel6Ideal.Merge

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Idealize.ShloMosaic.Pointwise
open Cert.Kernel6Ideal Cert.Kernel6Ideal.Gen Cert.Project
open Cert.Reference6Ideal.Merge (merged)

/-! ## A block's results, from the blocks loaded -/

section
variable (x0 x1 : Vec Ideal S512x512 .bf16) (x2 : Vec Ideal S512x1024 .f32) (x3 : Vec Ideal S1024x1024 .bf16) (x4 : Vec Ideal S1x1024 .f32)
  (r : Fin 512) (j : Fin 1024)

/-- Element `j` of the merged row `r` of the block. -/
def cell : EReal :=
  merged (x2 (ix2 r j)) (fun k => (x0 (ix2 r k) : EReal)) (fun k => (x1 (ix2 r k) : EReal)) (fun k => (x3 (ix2 k j) : EReal))

theorem ld_rows : View.ld x2 r0_0 = x2 := View.ld_unit_zero (funext fun a => by match a with | ⟨0, _⟩ => rfl | ⟨1, _⟩ => rfl) _ _
theorem ld_half (y : Vec Ideal S512x512 .bf16) : View.ld y r0_1 = y := View.ld_unit_zero (funext fun a => by match a with | ⟨0, _⟩ => rfl | ⟨1, _⟩ => rfl) _ _
theorem ld_gain : View.ld x4 r0_4 = x4 := View.ld_unit_zero (funext fun a => by match a with | ⟨0, _⟩ => rfl | ⟨1, _⟩ => rfl) _ _
theorem ld_upper (k : Fin 512) : View.ld x3 r0_2 (ix2 k j) = x3 (ix2 ⟨k.val, by omega⟩ j) :=
  View.ld_unit_apply_of _ _ _ _ _ _ (fun a => by match a with | ⟨0, _⟩ => exact (Nat.zero_add _).symm | ⟨1, _⟩ => exact (Nat.zero_add _).symm)
theorem ld_lower (k : Fin 512) : View.ld x3 r0_3 (ix2 k j) = x3 (ix2 ⟨512 + k.val, by omega⟩ j) :=
  View.ld_unit_apply_of _ _ _ _ _ _ (fun a => by match a with | ⟨0, _⟩ => rfl | ⟨1, _⟩ => exact (Nat.zero_add _).symm)

theorem sum_apply (y : Vec Ideal S512x1024 .f32) (a s : Vec Ideal S512x512 .bf16) (u w : Vec Ideal S512x1024 .bf16) :
    ((k0_pay1 y a u s w) (ix2 r j) : EReal)
      = y (ix2 r j) + (∑ k : Fin 512, (a (ix2 r k) : EReal) * u (ix2 k j)) + ∑ k : Fin 512, (s (ix2 r k) : EReal) * w (ix2 k j) := by
  unfold k0_pay1; pointwise

theorem norm_apply (y : Vec Ideal S512x1024 .f32) (a s : Vec Ideal S512x512 .bf16) (u w : Vec Ideal S512x1024 .bf16) (g : Vec Ideal S1x1024 .f32) :
    ((k0_pay2 y a u s w g) (ix2 r j) : EReal)
      = normed 0x44800000#32 (fun k => ((k0_pay1 y a u s w) (ix2 r k) : EReal)) (fun k => g (ix2 0 k)) j := by
  unfold k0_pay2 normed
  generalize k0_pay1 y a u s w = z
  pointwise

theorem merged_cell :
    ((k0_pay1 (View.ld x2 r0_0) (View.ld x0 r0_1) (View.ld x3 r0_2) (View.ld x1 r0_1) (View.ld x3 r0_3)) (ix2 r j) : EReal) = cell x0 x1 x2 x3 r j := by
  rw [sum_apply, ld_rows, ld_half, ld_half]
  exact congr (congrArg (fun p q => x2 (ix2 r j) + p + q) (Finset.sum_congr rfl fun k _ => congrArg (fun t => (x0 (ix2 r k) : EReal) * t) (ld_upper x3 j k)))
    (Finset.sum_congr rfl fun k _ => congrArg (fun t => (x1 (ix2 r k) : EReal) * t) (ld_lower x3 j k))

theorem whole2 : (![0, 0] : Fin 2 → ℕ) = fun _ => 0 := funext fun a => by match a with | ⟨0, _⟩ => rfl | ⟨1, _⟩ => rfl

theorem out_x : (out0_5 x0 x1 x2 x3 x4 (ix2 r j) : EReal) = cell x0 x1 x2 x3 r j := by
  unfold out0_5
  rw [View.canon_cons_unit_zero whole2, merged_cell]

theorem out_h : (out0_6 x0 x1 x2 x3 x4 (ix2 r j) : EReal)
    = normed 0x44800000#32 (fun k => cell x0 x1 x2 x3 r k) (fun k => x4 (ix2 0 k)) j := by
  unfold out0_6
  rw [View.canon_cons_unit_zero whole2, norm_apply, ld_gain]
  exact congrArg (fun f => normed 0x44800000#32 f _ j) (funext fun k => merged_cell x0 x1 x2 x3 r k)

end

/-! ## The arrays the call finds, and its blocks -/

variable (m : (ℓ : Loc nD τ sig) → Buf (Elt Ideal) ℓ) (c : Dev nD)

theorem flat_apply (v : (⟨S4x4096x1024, .f32⟩ : BufTy).Contents (Elt Ideal)) (r : Fin 16384) (k : Fin 1024) :
    (shapeCast S16384x1024 v shapeCasts_S4x4096x1024_S16384x1024) (ix2 r k) = v (ix3 ⟨r.val / 4096, by omega⟩ ⟨r.val % 4096, by omega⟩ k) :=
  shapeCast_apply v shapeCasts_S4x4096x1024_S16384x1024 (ix2 r k) _ (by
    rewrite [Shape.rowMajor_val_three, Shape.rowMajor_val_two]
    show (r.val / 4096 * 4096 + r.val % 4096) * 1024 + k.val = r.val * 1024 + k.val
    omega)

theorem flat_half_apply (v : (⟨S4x4096x512, .f32⟩ : BufTy).Contents (Elt Ideal)) (r : Fin 16384) (k : Fin 512) :
    (shapeCast S16384x512 v shapeCasts_S4x4096x512_S16384x512) (ix2 r k) = v (ix3 ⟨r.val / 4096, by omega⟩ ⟨r.val % 4096, by omega⟩ k) :=
  shapeCast_apply v shapeCasts_S4x4096x512_S16384x512 (ix2 r k) _ (by
    rewrite [Shape.rowMajor_val_three, Shape.rowMajor_val_two]
    show (r.val / 4096 * 4096 + r.val % 4096) * 512 + k.val = r.val * 512 + k.val
    omega)

theorem gain_apply (v : (⟨S1024, .f32⟩ : BufTy).Contents (Elt Ideal)) (k : Fin 1024) :
    (shapeCast S1x1024 v shapeCasts_S1024_S1x1024) (ix2 0 k) = v (ix1 k) := by pointwise

theorem a_array (r : Fin 16384) (k : Fin 512) :
    (V m c main_v1 (ix2 r k) : EReal) = m ((c.tc : Thread nD τ).loc main_arg0) (ix3 ⟨r.val / 4096, by omega⟩ ⟨r.val % 4096, by omega⟩ k) :=
  flat_half_apply (m ((c.tc : Thread nD τ).loc main_arg0)) r k

theorem s_array (r : Fin 16384) (k : Fin 512) :
    (V m c main_v3 (ix2 r k) : EReal) = m ((c.tc : Thread nD τ).loc main_arg1) (ix3 ⟨r.val / 4096, by omega⟩ ⟨r.val % 4096, by omega⟩ k) :=
  flat_half_apply (m ((c.tc : Thread nD τ).loc main_arg1)) r k

theorem rows_array (r : Fin 16384) (k : Fin 1024) :
    (V m c main_v4 (ix2 r k) : EReal) = m ((c.tc : Thread nD τ).loc main_arg2) (ix3 ⟨r.val / 4096, by omega⟩ ⟨r.val % 4096, by omega⟩ k) :=
  flat_apply (m ((c.tc : Thread nD τ).loc main_arg2)) r k

theorem weight_array (k j : Fin 1024) : (V m c main_v5 (ix2 k j) : EReal) = m ((c.tc : Thread nD τ).loc main_arg3) (ix2 k j) := rfl

theorem gain_array (k : Fin 1024) : (V m c main_v6 (ix2 0 k) : EReal) = m ((c.tc : Thread nD τ).loc main_arg4) (ix1 k) :=
  gain_apply (m ((c.tc : Thread nD τ).loc main_arg4)) k

/-- A block's point of the grid. -/
def pt (T : Fin 32) : Fin cfg0.N := ⟨T.val, T.isLt⟩

theorem index_a (t : Fin grid0.N) : win0_0.index t = ![t.val, 0] :=
  (by decide +kernel : ∀ t : Fin grid0.N, cc0_transform_0 (grid0.coords t) = ![t.val, 0]) t
theorem index_s (t : Fin grid0.N) : win0_1.index t = ![t.val, 0] :=
  (by decide +kernel : ∀ t : Fin grid0.N, cc0_transform_1 (grid0.coords t) = ![t.val, 0]) t
theorem index_rows (t : Fin grid0.N) : win0_2.index t = ![t.val, 0] :=
  (by decide +kernel : ∀ t : Fin grid0.N, cc0_transform_2 (grid0.coords t) = ![t.val, 0]) t
theorem index_weight (t : Fin grid0.N) : win0_3.index t = ![0, 0] :=
  (by decide +kernel : ∀ t : Fin grid0.N, cc0_transform_3 (grid0.coords t) = ![0, 0]) t
theorem index_gain (t : Fin grid0.N) : win0_4.index t = ![0, 0] :=
  (by decide +kernel : ∀ t : Fin grid0.N, cc0_transform_4 (grid0.coords t) = ![0, 0]) t
theorem index5 (t : Fin grid0.N) : win0_5.index t = ![t.val, 0] :=
  (by decide +kernel : ∀ t : Fin grid0.N, cc0_transform_5 (grid0.coords t) = ![t.val, 0]) t
theorem index6 (t : Fin grid0.N) : win0_6.index t = ![t.val, 0] :=
  (by decide +kernel : ∀ t : Fin grid0.N, cc0_transform_6 (grid0.coords t) = ![t.val, 0]) t

theorem a_block (T : Fin 32) (r k : Fin 512) : iblk m c 0 (pt T) (ix2 r k) = V m c main_v1 (ix2 ⟨T.val * 512 + r.val, by omega⟩ k) := by
  blk_ext [iblk, index_a, pt]

theorem s_block (T : Fin 32) (r k : Fin 512) : iblk m c 1 (pt T) (ix2 r k) = V m c main_v3 (ix2 ⟨T.val * 512 + r.val, by omega⟩ k) := by
  blk_ext [iblk, index_s, pt]

theorem rows_block (T : Fin 32) (r : Fin 512) (k : Fin 1024) :
    iblk m c 2 (pt T) (ix2 r k) = V m c main_v4 (ix2 ⟨T.val * 512 + r.val, by omega⟩ k) := by
  blk_ext [iblk, index_rows, pt]

theorem weight_block (T : Fin 32) (k j : Fin 1024) : iblk m c 3 (pt T) (ix2 k j) = V m c main_v5 (ix2 k j) := by
  blk_ext [iblk, index_weight, pt]

theorem gain_block (T : Fin 32) (k : Fin 1024) : iblk m c 4 (pt T) (ix2 0 k) = V m c main_v6 (ix2 0 k) := by
  blk_ext [iblk, index_gain, pt]

/-! ## The results -/

/-- Element `j` of the merged row `r` of block `T`, from the call's arguments. -/
theorem cell_point (T : Fin 32) (r : Fin 512) (j : Fin 1024) :
    cell (iblk m c 0 (pt T)) (iblk m c 1 (pt T)) (iblk m c 2 (pt T)) (iblk m c 3 (pt T)) r j
      = Cert.Reference6Ideal.Merge.entry (m ((c.tc : Thread nD τ).loc main_arg0)) (m ((c.tc : Thread nD τ).loc main_arg1)) (m ((c.tc : Thread nD τ).loc main_arg2)) (m ((c.tc : Thread nD τ).loc main_arg3))
          ⟨(T.val * 512 + r.val) / 4096, by omega⟩ ⟨(T.val * 512 + r.val) % 4096, by omega⟩ j := by
  have ha : (fun k : Fin 512 => (iblk m c 0 (pt T) (ix2 r k) : EReal)) = fun k => m ((c.tc : Thread nD τ).loc main_arg0) (ix3 ⟨(T.val * 512 + r.val) / 4096, by omega⟩ ⟨(T.val * 512 + r.val) % 4096, by omega⟩ k) :=
    funext fun k => (a_block m c T r k).trans (a_array m c _ k)
  have hs : (fun k : Fin 512 => (iblk m c 1 (pt T) (ix2 r k) : EReal)) = fun k => m ((c.tc : Thread nD τ).loc main_arg1) (ix3 ⟨(T.val * 512 + r.val) / 4096, by omega⟩ ⟨(T.val * 512 + r.val) % 4096, by omega⟩ k) :=
    funext fun k => (s_block m c T r k).trans (s_array m c _ k)
  have hx : (iblk m c 2 (pt T) (ix2 r j) : EReal) = m ((c.tc : Thread nD τ).loc main_arg2) (ix3 ⟨(T.val * 512 + r.val) / 4096, by omega⟩ ⟨(T.val * 512 + r.val) % 4096, by omega⟩ j) :=
    (rows_block m c T r j).trans (rows_array m c _ j)
  have hw : (fun k : Fin 1024 => (iblk m c 3 (pt T) (ix2 k j) : EReal)) = fun k => m ((c.tc : Thread nD τ).loc main_arg3) (ix2 k j) :=
    funext fun k => (weight_block m c T k j).trans (weight_array m c k j)
  unfold cell Cert.Reference6Ideal.Merge.entry
  rw [← hx, ← ha, ← hs, ← hw]

/-- Element `j` of the norm of the merged row `r` of block `T`, from the call's arguments. -/
theorem norm_point (T : Fin 32) (r : Fin 512) (j : Fin 1024) :
    normed 0x44800000#32 (fun k => cell (iblk m c 0 (pt T)) (iblk m c 1 (pt T)) (iblk m c 2 (pt T)) (iblk m c 3 (pt T)) r k) (fun k => (iblk m c 4 (pt T) (ix2 0 k) : EReal)) j
      = normed 0x44800000#32 (fun k => Cert.Reference6Ideal.Merge.entry (m ((c.tc : Thread nD τ).loc main_arg0)) (m ((c.tc : Thread nD τ).loc main_arg1)) (m ((c.tc : Thread nD τ).loc main_arg2)) (m ((c.tc : Thread nD τ).loc main_arg3))
          ⟨(T.val * 512 + r.val) / 4096, by omega⟩ ⟨(T.val * 512 + r.val) % 4096, by omega⟩ k) (fun k => m ((c.tc : Thread nD τ).loc main_arg4) (ix1 k)) j :=
  congrArg₂ (fun f g => normed 0x44800000#32 f g j) (funext fun k => cell_point m c T r k)
    (funext fun k => (gain_block m c T k).trans (gain_array m c k))

/-- The merged rows that the reference leaves. -/
def wantedX : Buf (Elt Ideal) ((c.tc : Thread nD τ).loc main_v7_0) :=
  Cert.Reference6Ideal.Read.val_main_v3 (F := Ideal) (m ((c.tc : Thread nD τ).loc main_arg0)) (m ((c.tc : Thread nD τ).loc main_arg1)) (m ((c.tc : Thread nD τ).loc main_arg2)) (m ((c.tc : Thread nD τ).loc main_arg3))

/-- The normed rows that the reference leaves. -/
def wantedH : Buf (Elt Ideal) ((c.tc : Thread nD τ).loc main_v7_1) :=
  Cert.Reference6Ideal.Read.val_main_v18 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem x_array : (dats m 0 c).arrAt 5 cfg0.N = wantedX m c := by
  refine (dats m 0 c).arrAt_eq_of_covers 5 _ (by decide +kernel) fun t hf y => ?_
  obtain ⟨T, rfl⟩ : ∃ T : Fin 32, t = pt T := ⟨⟨t.val, t.isLt⟩, rfl⟩
  blk_simp
  rw [after0_5]
  obtain ⟨r, n, rfl⟩ : ∃ (r : Fin 512) (n : Fin 1024), y = ix2 r n :=
    ⟨y (0 : Fin 2), y (1 : Fin 2), funext fun a => match a with | ⟨0, _⟩ => rfl | ⟨1, _⟩ => rfl⟩
  refine (((out_x (iblk m c 0 (pt T)) (iblk m c 1 (pt T)) (iblk m c 2 (pt T)) (iblk m c 3 (pt T)) (iblk m c 4 (pt T)) r n).trans (cell_point m c T r n)).trans
    (Cert.Reference6Ideal.Merge.x_flat _ _ _ _ ⟨T.val * 512 + r.val, by omega⟩ n).symm).trans (congrArg (wantedX m c) ?_)
  funext a
  refine Fin.ext ?_
  match a with
  | ⟨0, _⟩ =>
    blk_simp [index5]
    rfl
  | ⟨1, _⟩ =>
    blk_simp [index5]

theorem h_array : (dats m 0 c).arrAt 6 cfg0.N = wantedH m c := by
  refine (dats m 0 c).arrAt_eq_of_covers 6 _ (by decide +kernel) fun t hf y => ?_
  obtain ⟨T, rfl⟩ : ∃ T : Fin 32, t = pt T := ⟨⟨t.val, t.isLt⟩, rfl⟩
  blk_simp
  rw [after0_6]
  obtain ⟨r, n, rfl⟩ : ∃ (r : Fin 512) (n : Fin 1024), y = ix2 r n :=
    ⟨y (0 : Fin 2), y (1 : Fin 2), funext fun a => match a with | ⟨0, _⟩ => rfl | ⟨1, _⟩ => rfl⟩
  refine (((out_h (iblk m c 0 (pt T)) (iblk m c 1 (pt T)) (iblk m c 2 (pt T)) (iblk m c 3 (pt T)) (iblk m c 4 (pt T)) r n).trans (norm_point m c T r n)).trans
    (Cert.Reference6Ideal.Merge.h_flat _ _ _ _ _ ⟨T.val * 512 + r.val, by omega⟩ n).symm).trans (congrArg (wantedH m c) ?_)
  funext a
  refine Fin.ext ?_
  match a with
  | ⟨0, _⟩ =>
    blk_simp [index6]
    rfl
  | ⟨1, _⟩ =>
    blk_simp [index6]

end Cert.Kernel6Ideal.Merge

end
-- ==== Proof.lean ====
/- The kernels and their references: what the programs keep, and that a kernel and its reference leave the same array. -/
module

public import proofs.«01_k».proof.Defs
public import proofs.«01_k».proof.Proof.Gen.Kernel.Frame
public import proofs.«01_k».proof.Proof.Gen.ReferenceIdeal.Run
public import proofs.«01_k».proof.Proof.RefValue
public import proofs.«01_k».proof.Proof.Finite
public import proofs.«01_k».proof.Proof.Point
public import proofs.«01_k».proof.Proof.Gen.Kernel2
public import proofs.«01_k».proof.Proof.Gen.Reference2Ideal.Run
public import proofs.«01_k».proof.Proof.Gen.Pre_in_range
public import proofs.«01_k».proof.Proof.RoutedValue
public import proofs.«01_k».proof.Proof.Gen.Kernel3
public import proofs.«01_k».proof.Proof.Gen.Reference3Ideal.Run
public import proofs.«01_k».proof.Proof.DenseValue
public import proofs.«01_k».proof.Proof.Gen.Kernel4.Frame
public import proofs.«01_k».proof.Proof.PromptValue
public import proofs.«01_k».proof.Proof.Gen.Reference4Ideal.Read
public import proofs.«01_k».proof.Proof.Gen.Kernel5.Frame
public import proofs.«01_k».proof.Proof.SampleValue
public import proofs.«01_k».proof.Proof.Gen.Reference5Ideal.Read
public import proofs.«01_k».proof.Proof.Gen.Kernel6.Frame
public import proofs.«01_k».proof.Proof.MergeValue
public import proofs.«01_k».proof.Proof.Gen.Reference6Ideal.Read
public import Idealize.ShloMosaic.Lib.Quiescent

@[expose] public section

noncomputable section

namespace Cert.Proof

open Idealize.ShloMosaic Idealize.SL.Sem

/-- The reference's run leaves its arguments as they were; it has no semaphore. -/
theorem reference_kept (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0) :=
  (θ_run _ _ _).mono (fun r h => ⟨fun c => (h c).2, sem_eq_zero_of_no_sems (by decide) _⟩) (Cert.ReferenceIdeal.Value.run m ρ)

/-- From the same real arguments the kernel and the reference leave the same array. -/
theorem same_result [Cert.Pre_finite.Facts] : Cert.algebraic_KernelIdeal_ReferenceIdeal_pre_finite := by
  intro m g m' g' hp ha
  refine ⟨Cert.KernelIdeal.Attn.wanted m, ?_, ?_⟩
  · refine (θ_run _ _ _).mono (fun r h c => ⟨(h c).1.trans ?_, (h c).2⟩) (Cert.KernelIdeal.Attn.run_array m g)
    obtain ⟨X, Y, Z, w, R⟩ := Cert.Attention.reals _ _ _ _ _ _ _ _ (hp c)
    exact Cert.KernelIdeal.Attn.array_eq m c R
  · refine (θ_run _ _ _).mono (fun r h c => ⟨(h c).1.trans ?_, (h c).2⟩) (Cert.ReferenceIdeal.Value.run m' g')
    obtain ⟨h0, h1, h2, h3, h4, h5, h6, h7⟩ := ha c
    rw [Cert.ReferenceIdeal.Read.val_main_v72_eq, h0, h1, h2, h3, h4, h5, h6, h7]
    rfl

/-- The routed reference's run leaves its arguments as they were; it has no semaphore. -/
theorem routed_reference_kept (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run _ _ _).mono (fun r h => ⟨fun c => (h c).2, sem_eq_zero_of_no_sems (by decide) _⟩) (Cert.Reference2Ideal.Value.run m ρ)

/-- The two texts of the routed call have the same body. -/
theorem same_body : @Cert.Kernel2.cc0_ffn_routed Bits _ Cert.Kernel2.Gen.facts = @Cert.Kernel2Ideal.cc0_ffn_routed Bits _ Cert.Kernel2Ideal.Gen.facts := by
  unfold Cert.Kernel2.cc0_ffn_routed Cert.Kernel2Ideal.cc0_ffn_routed
  rfl

theorem same_table : Cert.Kernel2.defs₀ (F := Bits) = Cert.Kernel2Ideal.defs₀ (F := Bits) := by
  unfold Cert.Kernel2.defs₀ Cert.Kernel2Ideal.defs₀
  rw [same_body]
  refine congrArg Defs.onTc (funext fun l => funext fun a => ?_)
  match l, a with
  | 0, (t, s) => rfl

theorem same_defs : Cert.Kernel2.defs (F := Bits) = Cert.Kernel2Ideal.defs (F := Bits) :=
  congrArg (Pipeline.defs (Cert.Kernel2Ideal.pcfgs (F := Bits))) same_table

/-- The routed call in machine floats leaves its arguments as they were. -/
theorem routed_kept : Cert.quiescent_Kernel2 := by
  intro m ρ hp
  rw [same_defs]
  exact Cert.Kernel2Ideal.Routed.frame_kept (F := Bits) m ρ
    (Cert.Kernel2Ideal.Routed.ok_of_range (Cert.Kernel2Ideal.Routed.inRange_of_condition (hp 0)))

/-- The routed call in exact arithmetic leaves its arguments as they were. -/
theorem routed_kept_ideal : Cert.quiescent_Kernel2Ideal := by
  intro m ρ hp
  exact Cert.Kernel2Ideal.Routed.frame_kept m ρ
    (Cert.Kernel2Ideal.Routed.ok_of_range (Cert.Kernel2Ideal.Routed.inRange_of_condition (hp 0)))

/-- With every expert and the count of tiles in range, the routed call and its reference leave the same array. -/
theorem routed_same_result : Cert.algebraic_Kernel2Ideal_Reference2Ideal := by
  intro m g m' g' hp ha
  have R : Cert.Kernel2Ideal.Routed.InRange m := Cert.Kernel2Ideal.Routed.inRange_of_condition (hp 0)
  have hO := Cert.Kernel2Ideal.Routed.ok_of_range R
  refine ⟨Cert.Kernel2Ideal.Routed.wanted m, ?_, ?_⟩
  · exact (θ_run _ _ _).mono (fun r h c => ⟨(h c).1.trans (Cert.Kernel2Ideal.Routed.array_eq hO c R), (h c).2⟩)
      (Cert.Kernel2Ideal.Routed.run_array m g hO)
  · refine (θ_run _ _ _).mono (fun r h c => ⟨(h c).1.trans ?_, (h c).2⟩) (Cert.Reference2Ideal.Value.run m' g')
    obtain ⟨h0, h1, h2, h3, h4, h5⟩ := ha c
    rw [Cert.Reference2Ideal.Read.val_main_v28_eq, h0, h1, h2, h3, h4, h5]
    rfl

/-- The dense reference's run leaves its arguments as they were; it has no semaphore. -/
theorem dense_reference_kept (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0) :=
  (θ_run _ _ _).mono (fun r h => ⟨fun c => (h c).2, sem_eq_zero_of_no_sems (by decide) _⟩) (Cert.Reference3Ideal.Value.run m ρ)

/-- The two texts of the dense call have the same body. -/
theorem dense_same_body : @Cert.Kernel3.cc0_ffn_residual Bits _ Cert.Kernel3.Gen.facts = @Cert.Kernel3Ideal.cc0_ffn_residual Bits _ Cert.Kernel3Ideal.Gen.facts := by
  unfold Cert.Kernel3.cc0_ffn_residual Cert.Kernel3Ideal.cc0_ffn_residual
  rfl

theorem dense_same_table : Cert.Kernel3.defs₀ (F := Bits) = Cert.Kernel3Ideal.defs₀ (F := Bits) := by
  unfold Cert.Kernel3.defs₀ Cert.Kernel3Ideal.defs₀
  rw [dense_same_body]
  refine congrArg Defs.onTc (funext fun l => funext fun a => ?_)
  match l, a with
  | 0, (t, s) => rfl

theorem dense_same_defs : Cert.Kernel3.defs (F := Bits) = Cert.Kernel3Ideal.defs (F := Bits) :=
  congrArg (Pipeline.defs (Cert.Kernel3Ideal.pcfgs (F := Bits))) dense_same_table

set_option maxHeartbeats 2000000 in
theorem dense_same_main : Cert.Kernel3.main (F := Bits) = Cert.Kernel3Ideal.main (F := Bits) := by
  funext c
  unfold Cert.Kernel3.main Cert.Kernel3Ideal.main
  rfl

set_option maxHeartbeats 2000000 in
/-- The dense call in machine floats leaves its arguments as they were. -/
theorem dense_kept : Cert.quiescent_Kernel3 := by
  intro m ρ _
  rw [dense_same_defs, dense_same_main]
  exact Cert.Kernel3Ideal.Dense.frame_kept (F := Bits) m ρ

/-- The dense call in exact arithmetic leaves its arguments as they were. -/
theorem dense_kept_ideal : Cert.quiescent_Kernel3Ideal := fun m ρ _ => Cert.Kernel3Ideal.Dense.frame_kept m ρ

/-- The dense call and its reference leave the same array. -/
theorem dense_same_result : Cert.algebraic_Kernel3Ideal_Reference3Ideal := by
  intro m g m' g' _ ha
  refine ⟨Cert.Kernel3Ideal.Dense.wanted m, ?_, ?_⟩
  · exact (θ_run _ _ _).mono (fun r h c => ⟨(h c).1.trans (Cert.Kernel3Ideal.Dense.array_eq m c), (h c).2⟩)
      (Cert.Kernel3Ideal.Dense.run_array m g)
  · refine (θ_run _ _ _).mono (fun r h c => ⟨(h c).1.trans ?_, (h c).2⟩) (Cert.Reference3Ideal.Value.run m' g')
    obtain ⟨h0, h1, h2, h3, h4⟩ := ha c
    rw [Cert.Reference3Ideal.Read.val_main_v6_eq, h0, h1, h2, h3, h4]
    rfl

/-- The run of the prompt projection's reference leaves its arguments as they were; it has no semaphore. -/
theorem prompt_reference_kept (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0) :=
  (θ_run _ _ _).mono (fun r h => ⟨fun c => (h c).2.2.2.2.2.2, sem_eq_zero_of_no_sems (by decide) _⟩) (Cert.Reference4Ideal.Value.run m ρ)

/-- The prompt's input projection and its reference leave the same arrays. -/
theorem prompt_same_result : Cert.algebraic_Kernel4Ideal_Reference4Ideal := by
  intro m g m' g' _ ha
  refine ⟨Cert.Kernel4Ideal.Prompt.wantedQ m, Cert.Kernel4Ideal.Prompt.wantedK m, Cert.Kernel4Ideal.Prompt.wantedKB m, Cert.Kernel4Ideal.Prompt.wantedV m, Cert.Kernel4Ideal.Prompt.wantedVT m, Cert.Kernel4Ideal.Prompt.wantedS m, ?_, ?_⟩
  · refine (θ_run _ _ _).mono (fun r h c => ?_) (Cert.Kernel4Ideal.Value.run_blocks m g)
    obtain ⟨r0, r1, r2, r3, r4, r5, kept⟩ := h c
    exact ⟨r0.trans (Cert.Kernel4Ideal.Prompt.q_array m c),
      r1.trans (Cert.Kernel4Ideal.Prompt.k_array m c),
      r2.trans (Cert.Kernel4Ideal.Prompt.k_cast_array m c),
      r3.trans (Cert.Kernel4Ideal.Prompt.v_array m c),
      r4.trans (Cert.Kernel4Ideal.Prompt.v_turned_array m c),
      r5.trans (Cert.Kernel4Ideal.Prompt.s_array m c), kept⟩
  · refine (θ_run _ _ _).mono (fun r h c => ?_) (Cert.Reference4Ideal.Value.run m' g')
    obtain ⟨h0, h1, h2, h3, h4, h5⟩ := ha c
    obtain ⟨r0, r1, r2, r3, r4, r5, kept⟩ := h c
    exact ⟨r0.trans ((Cert.Reference4Ideal.Read.val_main_v79_eq _ _ _).trans (by rw [h0, h1, h2]; rfl)),
      r1.trans ((Cert.Reference4Ideal.Read.val_main_v76_eq _ _ _).trans (by rw [h0, h1, h2]; rfl)),
      r2.trans ((Cert.Reference4Ideal.Read.val_main_v80_eq _ _ _).trans (by rw [h0, h1, h2]; rfl)),
      r3.trans ((Cert.Reference4Ideal.Read.val_main_v81_eq _ _ _).trans (by rw [h0, h1, h2]; rfl)),
      r4.trans ((Cert.Reference4Ideal.Read.val_main_v82_eq _ _ _).trans (by rw [h0, h1, h2]; rfl)),
      r5.trans ((Cert.Reference4Ideal.Read.val_main_v83_eq m' c).trans (by rw [h0, h1, h2, h3, h4, h5]; rfl)), kept⟩

/-- The run of the sample projection's reference leaves its arguments as they were; it has no semaphore. -/
theorem sample_reference_kept (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
        ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
        ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0) :=
  (θ_run _ _ _).mono (fun r h => ⟨fun c => (h c).2.2.2.2.2, sem_eq_zero_of_no_sems (by decide) _⟩) (Cert.Reference5Ideal.Value.run m ρ)

/-- The sample's input projection and its reference leave the same arrays. -/
theorem sample_same_result : Cert.algebraic_Kernel5Ideal_Reference5Ideal := by
  intro m g m' g' _ ha
  refine ⟨Cert.Kernel5Ideal.Sample.wantedQ m, Cert.Kernel5Ideal.Sample.wantedK m, Cert.Kernel5Ideal.Sample.wantedV m, Cert.Kernel5Ideal.Sample.wantedS m, Cert.Kernel5Ideal.Sample.wantedG m, ?_, ?_⟩
  · refine (θ_run _ _ _).mono (fun r h c => ?_) (Cert.Kernel5Ideal.Value.run_blocks m g)
    obtain ⟨r0, r1, r2, r3, r4, kept⟩ := h c
    exact ⟨r0.trans (Cert.Kernel5Ideal.Sample.q_array m c),
      r1.trans (Cert.Kernel5Ideal.Sample.k_array m c),
      r2.trans (Cert.Kernel5Ideal.Sample.v_array m c),
      r3.trans (Cert.Kernel5Ideal.Sample.s_array m c),
      r4.trans (Cert.Kernel5Ideal.Sample.gate_array m c), kept⟩
  · refine (θ_run _ _ _).mono (fun r h c => ?_) (Cert.Reference5Ideal.Value.run m' g')
    obtain ⟨h0, h1, h2, h3, h4, h5⟩ := ha c
    obtain ⟨r0, r1, r2, r3, r4, kept⟩ := h c
    exact ⟨r0.trans ((Cert.Reference5Ideal.Read.val_main_v75_eq _ _ _).trans (by rw [h0, h1, h2]; rfl)),
      r1.trans ((Cert.Reference5Ideal.Read.val_main_v76_eq _ _ _).trans (by rw [h0, h1, h2]; rfl)),
      r2.trans ((Cert.Reference5Ideal.Read.val_main_v77_eq _ _ _).trans (by rw [h0, h1, h2]; rfl)),
      r3.trans ((Cert.Reference5Ideal.Read.val_main_v78_eq m' c).trans (by rw [h0, h1, h2, h3, h4, h5]; rfl)),
      r4.trans ((Cert.Reference5Ideal.Read.val_main_v79_eq m' c).trans (by rw [h0, h1, h2, h3]; rfl)), kept⟩

/-- The run of the output projection's reference leaves its arguments as they were; it has no semaphore. -/
theorem merge_reference_kept (m : (ℓ : Loc Cert.Reference6Ideal.nD Cert.Reference6Ideal.τ Cert.Reference6Ideal.sig) → Buf (Elt Ideal) ℓ)
    (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩
      (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
        ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
        ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0) :=
  (θ_run _ _ _).mono (fun r h => ⟨fun c => (h c).2.2, sem_eq_zero_of_no_sems (by decide) _⟩) (Cert.Reference6Ideal.Value.run m ρ)

/-- The prompt's output projection and its reference leave the same arrays. -/
theorem merge_same_result : Cert.algebraic_Kernel6Ideal_Reference6Ideal := by
  intro m g m' g' _ ha
  refine ⟨Cert.Kernel6Ideal.Merge.wantedX m, Cert.Kernel6Ideal.Merge.wantedH m, ?_, ?_⟩
  · refine (θ_run _ _ _).mono (fun r h c => ?_) (Cert.Kernel6Ideal.Value.run_blocks m g)
    obtain ⟨r0, r1, kept⟩ := h c
    exact ⟨r0.trans (Cert.Kernel6Ideal.Merge.x_array m c), r1.trans (Cert.Kernel6Ideal.Merge.h_array m c), kept⟩
  · refine (θ_run _ _ _).mono (fun r h c => ?_) (Cert.Reference6Ideal.Value.run m' g')
    obtain ⟨h0, h1, h2, h3, h4⟩ := ha c
    obtain ⟨r0, r1, kept⟩ := h c
    exact ⟨r0.trans ((Cert.Reference6Ideal.Read.val_main_v3_eq _ _ _ _).trans (by rw [h0, h1, h2, h3]; rfl)),
      r1.trans ((Cert.Reference6Ideal.Read.val_main_v18_eq _ _ _ _ _).trans (by rw [h0, h1, h2, h3, h4]; rfl)), kept⟩

theorem claim : Cert.Claim :=
  letI : Cert.Pre_finite.Facts := ⟨by decide, by decide, by decide, by decide, by decide, by decide, by decide⟩
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    inferInstance, Cert.Pre_in_range.Gen.facts,
    fun m ρ _ => Cert.Kernel.Gen.frame m ρ,
    fun m ρ _ => Cert.KernelIdeal.Attn.frame_kept m ρ,
    fun m ρ _ => Cert.KernelIdeal.Attn.frame_kept m ρ,
    fun m ρ _ => reference_kept m ρ,
    fun m ρ _ => reference_kept m ρ,
    routed_kept, routed_kept_ideal,
    fun m ρ _ => routed_reference_kept m ρ,
    fun m ρ _ => routed_reference_kept m ρ,
    dense_kept, dense_kept_ideal,
    fun m ρ _ => dense_reference_kept m ρ,
    fun m ρ _ => Cert.Kernel4.Gen.frame m ρ,
    fun m ρ _ => Cert.Kernel4Ideal.Gen.frame m ρ,
    fun m ρ _ => prompt_reference_kept m ρ,
    fun m ρ _ => Cert.Kernel5.Gen.frame m ρ,
    fun m ρ _ => Cert.Kernel5Ideal.Gen.frame m ρ,
    fun m ρ _ => sample_reference_kept m ρ,
    fun m ρ _ => Cert.Kernel6.Gen.frame m ρ,
    fun m ρ _ => Cert.Kernel6Ideal.Gen.frame m ρ,
    fun m ρ _ => merge_reference_kept m ρ,
    IdealRules.named_const.statement Cert.KernelIdeal.κ "log2e" .f32 0x3FB8AA3B#32 _ rfl,
    same_result, trivial, routed_same_result, trivial, dense_same_result,
    trivial, prompt_same_result, trivial, sample_same_result, trivial, merge_same_result⟩

end Cert.Proof

end
